-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table_KernelIdeal [hPre_in_table_KernelIdeal : Cert.Pre_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_ReferenceIdeal [hPre_in_table_ReferenceIdeal : Cert.Pre_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_table_KernelIdeal [hKernelIdeal : Cert.KernelIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table_ReferenceIdeal [hReferenceIdeal : Cert.ReferenceIdeal.Facts] [hPre_in_table_ReferenceIdeal : Cert.Pre_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_table_KernelIdeal [hKernelIdeal : Cert.KernelIdeal.Facts] [hReferenceIdeal : Cert.ReferenceIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table_KernelIdeal : Cert.Pre_in_table_KernelIdeal.Facts) (hPre_in_table_ReferenceIdeal : Cert.Pre_in_table_ReferenceIdeal.Facts),
    quiescent_Kernel (hKernel := hKernel)
    ∧ quiescent_KernelIdeal (hKernelIdeal := hKernelIdeal)
    ∧ quiescent_KernelIdeal_pre_in_table_KernelIdeal (hKernelIdeal := hKernelIdeal) (hPre_in_table_KernelIdeal := hPre_in_table_KernelIdeal)
    ∧ quiescent_ReferenceIdeal (hReferenceIdeal := hReferenceIdeal)
    ∧ quiescent_ReferenceIdeal_pre_in_table_ReferenceIdeal (hReferenceIdeal := hReferenceIdeal) (hPre_in_table_ReferenceIdeal := hPre_in_table_ReferenceIdeal)
    ∧ preserves_Kernel_KernelIdeal
    ∧ algebraic_KernelIdeal_ReferenceIdeal_pre_in_table_KernelIdeal (hKernelIdeal := hKernelIdeal) (hReferenceIdeal := hReferenceIdeal) (hPre_in_table_KernelIdeal := hPre_in_table_KernelIdeal)
-- ==== Pre_in_table_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_in_table_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S16384x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S8192x2048 : Shape := ⟨2, ![8192, 2048]⟩
abbrev S_ : Shape := ⟨0, ![]⟩
abbrev S512 : Shape := ⟨1, ![512]⟩
abbrev S512x1 : Shape := ⟨2, ![512, 1]⟩
abbrev S4096x2048 : Shape := ⟨2, ![4096, 2048]⟩
abbrev S384x2048 : Shape := ⟨2, ![384, 2048]⟩
abbrev S512x2048 : Shape := ⟨2, ![512, 2048]⟩
abbrev S8 : Shape := ⟨1, ![8]⟩
abbrev S6 : Shape := ⟨1, ![6]⟩
abbrev S6x7 : Shape := ⟨2, ![6, 7]⟩
abbrev S2x7 : Shape := ⟨2, ![2, 7]⟩
abbrev S1 : Shape := ⟨1, ![1]⟩
abbrev S1x2048 : Shape := ⟨2, ![1, 2048]⟩
abbrev S64x2048 : Shape := ⟨2, ![64, 2048]⟩
abbrev S64x1 : Shape := ⟨2, ![64, 1]⟩
abbrev S1x1 : Shape := ⟨2, ![1, 1]⟩
abbrev S128x2048 : Shape := ⟨2, ![128, 2048]⟩
abbrev S192x2048 : Shape := ⟨2, ![192, 2048]⟩

abbrev nBuf : Space → Nat
  | .hbm => 55
  | .vmem => 6
  | .smem => 1
  | _ => 0

abbrev bufTy : (tb : Table) → Fin (tcTables nBuf tb) → BufTy
  | .hbm, ⟨0, _⟩ => ⟨S4096, .i32⟩
  | .hbm, ⟨1, _⟩ => ⟨S8192x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S512, .i32⟩
  | .hbm, ⟨33, _⟩ => ⟨S_, .i32⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S512, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .f32⟩
  | .hbm, ⟨53, _⟩ => ⟨S512x1, .f32⟩
  | .hbm, ⟨54, _⟩ => ⟨S4096x2048, .f32⟩
  | .local _ .vmem, ⟨0, _⟩ => ⟨S512x1, .f32⟩
  | .local _ .vmem, ⟨1, _⟩ => ⟨S4096x2048, .bf16⟩
  | .local _ .vmem, ⟨2, _⟩ => ⟨S4096x2048, .f32⟩
  | .local _ .vmem, ⟨3, _⟩ => ⟨S384x2048, .bf16⟩
  | .local _ .vmem, ⟨4, _⟩ => ⟨S512x2048, .f32⟩
  | .local _ .vmem, ⟨5, _⟩ => ⟨S512x2048, .bf16⟩
  | .local _ .smem, ⟨0, _⟩ => ⟨S512, .i32⟩
  | _, _ => ⟨S4096, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 147 → Bool
  | ⟨i, _⟩ => dmaSemScopedAt i

abbrev sig : RefSig :=
  (ofTc nBuf bufTy 1 147 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_5 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_c_7 : Ref sig .tc := ⟨.hbm, 25, rfl⟩
abbrev main_v16 : Ref sig .tc := ⟨.hbm, 26, rfl⟩
abbrev main_c_8 : Ref sig .tc := ⟨.hbm, 27, rfl⟩
abbrev main_v17 : Ref sig .tc := ⟨.hbm, 28, rfl⟩
abbrev main_c_9 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_10 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_11 : Ref sig .tc := ⟨.hbm, 37, rfl⟩
abbrev main_v24 : Ref sig .tc := ⟨.hbm, 38, rfl⟩
abbrev main_v25 : Ref sig .tc := ⟨.hbm, 39, rfl⟩
abbrev main_c_12 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_13 : Ref sig .tc := ⟨.hbm, 44, rfl⟩
abbrev main_c_14 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

@[reducible] def k0_t1_loop : Scf.Loop 32 :=
  let c0_i32_28 : BitVec 32 := 0#32
  let c64_i32_29 : BitVec 32 := 64#32
  let v47 : BitVec 32 := Scalar.addi c0_i32_28 c64_i32_29
  let c1_i32_30 : BitVec 32 := 1#32
  ⟨c0_i32_28, v47, c1_i32_30⟩
def k0_off1 (k0_t1 : Fin k0_t1_loop.trips) : Fin 1 → Nat :=
  let c128_i32_2644 : BitVec 32 := 128#32
  let c0_i32_28 : BitVec 32 := 0#32
  let c1_i32_30 : BitVec 32 := 1#32
  let arg19 : BitVec 32 := Scf.iv c0_i32_28 c1_i32_30 k0_t1
  let v3290 : BitVec 32 := Scalar.addi c128_i32_2644 arg19
  let v3291 : Index := Scalar.indexCast v3290
  ![v3291.toNat]
def k0_off2 (k0_t1 : Fin k0_t1_loop.trips) : Fin 2 → Nat :=
  let c128_i32_2644 : BitVec 32 := 128#32
  let c0_i32_28 : BitVec 32 := 0#32
  let c1_i32_30 : BitVec 32 := 1#32
  let arg19 : BitVec 32 := Scf.iv c0_i32_28 c1_i32_30 k0_t1
  let v3290 : BitVec 32 := Scalar.addi c128_i32_2644 arg19
  let c0_i32_2646 : BitVec 32 := 0#32
  ![v3290.toNat, 0]
def k0_off3 (v3292 : BitVec 32) : Fin 2 → Nat :=
  let c0_i32_2647 : BitVec 32 := 0#32
  ![v3292.toNat, 0]

def k0_chk1 (v3292 : BitVec 32) : Prop :=
  (∀ a, (k0_off3 v3292) a + S1x2048.size a ≤ S8192x2048.size a)
theorem k0_off3_inb : ∀ (v3292 : BitVec 32) (k0_hw1 : k0_chk1 v3292), ∀ a, (k0_off3 v3292) a + S1x2048.size a ≤ S8192x2048.size a := fun v3292 k0_hw1 => k0_hw1

@[reducible] def k0_t2_loop : Scf.Loop 32 :=
  let c0_i32_32 : BitVec 32 := 0#32
  let c64_i32_33 : BitVec 32 := 64#32
  let v48 : BitVec 32 := Scalar.addi c0_i32_32 c64_i32_33
  let c1_i32_34 : BitVec 32 := 1#32
  ⟨c0_i32_32, v48, c1_i32_34⟩
def k0_off4 (k0_t2 : Fin k0_t2_loop.trips) : Fin 1 → Nat :=
  let c320_i32_2644 : BitVec 32 := 320#32
  let c0_i32_32 : BitVec 32 := 0#32
  let c1_i32_34 : BitVec 32 := 1#32
  let arg19 : BitVec 32 := Scf.iv c0_i32_32 c1_i32_34 k0_t2
  let v3290 : BitVec 32 := Scalar.addi c320_i32_2644 arg19
  let v3291 : Index := Scalar.indexCast v3290
  ![v3291.toNat]
def k0_off5 (k0_t2 : Fin k0_t2_loop.trips) : Fin 2 → Nat :=
  let c320_i32_2644 : BitVec 32 := 320#32
  let c0_i32_32 : BitVec 32 := 0#32
  let c1_i32_34 : BitVec 32 := 1#32
  let arg19 : BitVec 32 := Scf.iv c0_i32_32 c1_i32_34 k0_t2
  let v3290 : BitVec 32 := Scalar.addi c320_i32_2644 arg19
  let c0_i32_2646 : BitVec 32 := 0#32
  ![v3290.toNat, 0]
def k0_off6 (v3292 : BitVec 32) : Fin 2 → Nat :=
  let c0_i32_2647 : BitVec 32 := 0#32
  ![v3292.toNat, 0]

def k0_chk2 (v3292 : BitVec 32) : Prop :=
  (∀ a, (k0_off6 v3292) a + S1x2048.size a ≤ S8192x2048.size a)
theorem k0_off6_inb : ∀ (v3292 : BitVec 32) (k0_hw2 : k0_chk2 v3292), ∀ a, (k0_off6 v3292) a + S1x2048.size a ≤ S8192x2048.size a := fun v3292 k0_hw2 => k0_hw2

@[reducible] def k0_t3_loop : Scf.Loop 32 :=
  let c0_i32_36 : BitVec 32 := 0#32
  let c64_i32_37 : BitVec 32 := 64#32
  let v49 : BitVec 32 := Scalar.addi c0_i32_36 c64_i32_37
  let c1_i32_38 : BitVec 32 := 1#32
  ⟨c0_i32_36, v49, c1_i32_38⟩
def k0_off7 (k0_t3 : Fin k0_t3_loop.trips) : Fin 1 → Nat :=
  let c0_i32_2644 : BitVec 32 := 0#32
  let c0_i32_36 : BitVec 32 := 0#32
  let c1_i32_38 : BitVec 32 := 1#32
  let arg19 : BitVec 32 := Scf.iv c0_i32_36 c1_i32_38 k0_t3
  let v3290 : BitVec 32 := Scalar.addi c0_i32_2644 arg19
  let v3291 : Index := Scalar.indexCast v3290
  ![v3291.toNat]
def k0_off8 (k0_t3 : Fin k0_t3_loop.trips) : Fin 2 → Nat :=
  let c0_i32_2644 : BitVec 32 := 0#32
  let c0_i32_36 : BitVec 32 := 0#32
  let c1_i32_38 : BitVec 32 := 1#32
  let arg19 : BitVec 32 := Scf.iv c0_i32_36 c1_i32_38 k0_t3
  let v3290 : BitVec 32 := Scalar.addi c0_i32_2644 arg19
  let c0_i32_2646 : BitVec 32 := 0#32
  ![v3290.toNat, 0]
def k0_off9 (v3292 : BitVec 32) : Fin 2 → Nat :=
  let c0_i32_2647 : BitVec 32 := 0#32
  ![v3292.toNat, 0]

def k0_chk3 (v3292 : BitVec 32) : Prop :=
  (∀ a, (k0_off9 v3292) a + S1x2048.size a ≤ S8192x2048.size a)
theorem k0_off9_inb : ∀ (v3292 : BitVec 32) (k0_hw3 : k0_chk3 v3292), ∀ a, (k0_off9 v3292) a + S1x2048.size a ≤ S8192x2048.size a := fun v3292 k0_hw3 => k0_hw3

@[reducible] def k0_t4_loop : Scf.Loop 32 :=
  let c0_i32_40 : BitVec 32 := 0#32
  let c64_i32_41 : BitVec 32 := 64#32
  let v50 : BitVec 32 := Scalar.addi c0_i32_40 c64_i32_41
  let c1_i32_42 : BitVec 32 := 1#32
  ⟨c0_i32_40, v50, c1_i32_42⟩
def k0_off10 (k0_t4 : Fin k0_t4_loop.trips) : Fin 1 → Nat :=
  let c192_i32_2644 : BitVec 32 := 192#32
  let c0_i32_40 : BitVec 32 := 0#32
  let c1_i32_42 : BitVec 32 := 1#32
  let arg19 : BitVec 32 := Scf.iv c0_i32_40 c1_i32_42 k0_t4
  let v3290 : BitVec 32 := Scalar.addi c192_i32_2644 arg19
  let v3291 : Index := Scalar.indexCast v3290
  ![v3291.toNat]
def k0_off11 (k0_t4 : Fin k0_t4_loop.trips) : Fin 2 → Nat :=
  let c192_i32_2644 : BitVec 32 := 192#32
  let c0_i32_40 : BitVec 32 := 0#32
  let c1_i32_42 : BitVec 32 := 1#32
  let arg19 : BitVec 32 := Scf.iv c0_i32_40 c1_i32_42 k0_t4
  let v3290 : BitVec 32 := Scalar.addi c192_i32_2644 arg19
  let c0_i32_2646 : BitVec 32 := 0#32
  ![v3290.toNat, 0]
def k0_off12 (v3292 : BitVec 32) : Fin 2 → Nat :=
  let c0_i32_2647 : BitVec 32 := 0#32
  ![v3292.toNat, 0]

def k0_chk4 (v3292 : BitVec 32) : Prop :=
  (∀ a, (k0_off12 v3292) a + S1x2048.size a ≤ S8192x2048.size a)
theorem k0_off12_inb : ∀ (v3292 : BitVec 32) (k0_hw4 : k0_chk4 v3292), ∀ a, (k0_off12 v3292) a + S1x2048.size a ≤ S8192x2048.size a := fun v3292 k0_hw4 => k0_hw4

@[reducible] def k0_t5_loop : Scf.Loop 32 :=
  let c0_i32_44 : BitVec 32 := 0#32
  let c64_i32_45 : BitVec 32 := 64#32
  let v51 : BitVec 32 := Scalar.addi c0_i32_44 c64_i32_45
  let c1_i32_46 : BitVec 32 := 1#32
  ⟨c0_i32_44, v51, c1_i32_46⟩
def k0_off13 (k0_t5 : Fin k0_t5_loop.trips) : Fin 1 → Nat :=
  let c256_i32_2644 : BitVec 32 := 256#32
  let c0_i32_44 : BitVec 32 := 0#32
  let c1_i32_46 : BitVec 32 := 1#32
  let arg19 : BitVec 32 := Scf.iv c0_i32_44 c1_i32_46 k0_t5
  let v3290 : BitVec 32 := Scalar.addi c256_i32_2644 arg19
  let v3291 : Index := Scalar.indexCast v3290
  ![v3291.toNat]
def k0_off14 (k0_t5 : Fin k0_t5_loop.trips) : Fin 2 → Nat :=
  let c256_i32_2644 : BitVec 32 := 256#32
  let c0_i32_44 : BitVec 32 := 0#32
  let c1_i32_46 : BitVec 32 := 1#32
  let arg19 : BitVec 32 := Scf.iv c0_i32_44 c1_i32_46 k0_t5
  let v3290 : BitVec 32 := Scalar.addi c256_i32_2644 arg19
  let c0_i32_2646 : BitVec 32 := 0#32
  ![v3290.toNat, 0]
def k0_off15 (v3292 : BitVec 32) : Fin 2 → Nat :=
  let c0_i32_2647 : BitVec 32 := 0#32
  ![v3292.toNat, 0]

def k0_chk5 (v3292 : BitVec 32) : Prop :=
  (∀ a, (k0_off15 v3292) a + S1x2048.size a ≤ S8192x2048.size a)
theorem k0_off15_inb : ∀ (v3292 : BitVec 32) (k0_hw5 : k0_chk5 v3292), ∀ a, (k0_off15 v3292) a + S1x2048.size a ≤ S8192x2048.size a := fun v3292 k0_hw5 => k0_hw5

@[reducible] def k0_t6_loop : Scf.Loop 32 :=
  let c0_i32_48 : BitVec 32 := 0#32
  let c64_i32_49 : BitVec 32 := 64#32
  let v52 : BitVec 32 := Scalar.addi c0_i32_48 c64_i32_49
  let c1_i32_50 : BitVec 32 := 1#32
  ⟨c0_i32_48, v52, c1_i32_50⟩
def k0_off16 (k0_t6 : Fin k0_t6_loop.trips) : Fin 1 → Nat :=
  let c448_i32 : BitVec 32 := 448#32
  let c0_i32_48 : BitVec 32 := 0#32
  let c1_i32_50 : BitVec 32 := 1#32
  let arg19 : BitVec 32 := Scf.iv c0_i32_48 c1_i32_50 k0_t6
  let v3290 : BitVec 32 := Scalar.addi c448_i32 arg19
  let v3291 : Index := Scalar.indexCast v3290
  ![v3291.toNat]
def k0_off17 (k0_t6 : Fin k0_t6_loop.trips) : Fin 2 → Nat :=
  let c448_i32 : BitVec 32 := 448#32
  let c0_i32_48 : BitVec 32 := 0#32
  let c1_i32_50 : BitVec 32 := 1#32
  let arg19 : BitVec 32 := Scf.iv c0_i32_48 c1_i32_50 k0_t6
  let v3290 : BitVec 32 := Scalar.addi c448_i32 arg19
  let c0_i32_2645 : BitVec 32 := 0#32
  ![v3290.toNat, 0]
def k0_off18 (v3292 : BitVec 32) : Fin 2 → Nat :=
  let c0_i32_2646 : BitVec 32 := 0#32
  ![v3292.toNat, 0]

def k0_chk6 (v3292 : BitVec 32) : Prop :=
  (∀ a, (k0_off18 v3292) a + S1x2048.size a ≤ S8192x2048.size a)
theorem k0_off18_inb : ∀ (v3292 : BitVec 32) (k0_hw6 : k0_chk6 v3292), ∀ a, (k0_off18 v3292) a + S1x2048.size a ≤ S8192x2048.size a := fun v3292 k0_hw6 => k0_hw6

@[reducible] def k0_t7_loop : Scf.Loop 32 :=
  let c0_i32_52 : BitVec 32 := 0#32
  let c64_i32_53 : BitVec 32 := 64#32
  let v53 : BitVec 32 := Scalar.addi c0_i32_52 c64_i32_53
  let c1_i32_54 : BitVec 32 := 1#32
  ⟨c0_i32_52, v53, c1_i32_54⟩
def k0_off19 (k0_t7 : Fin k0_t7_loop.trips) : Fin 1 → Nat :=
  let c64_i32_2644 : BitVec 32 := 64#32
  let c0_i32_52 : BitVec 32 := 0#32
  let c1_i32_54 : BitVec 32 := 1#32
  let arg19 : BitVec 32 := Scf.iv c0_i32_52 c1_i32_54 k0_t7
  let v3290 : BitVec 32 := Scalar.addi c64_i32_2644 arg19
  let v3291 : Index := Scalar.indexCast v3290
  ![v3291.toNat]
def k0_off20 (k0_t7 : Fin k0_t7_loop.trips) : Fin 2 → Nat :=
  let c64_i32_2644 : BitVec 32 := 64#32
  let c0_i32_52 : BitVec 32 := 0#32
  let c1_i32_54 : BitVec 32 := 1#32
  let arg19 : BitVec 32 := Scf.iv c0_i32_52 c1_i32_54 k0_t7
  let v3290 : BitVec 32 := Scalar.addi c64_i32_2644 arg19
  let c0_i32_2646 : BitVec 32 := 0#32
  ![v3290.toNat, 0]
def k0_off21 (v3292 : BitVec 32) : Fin 2 → Nat :=
  let c0_i32_2647 : BitVec 32 := 0#32
  ![v3292.toNat, 0]

def k0_chk7 (v3292 : BitVec 32) : Prop :=
  (∀ a, (k0_off21 v3292) a + S1x2048.size a ≤ S8192x2048.size a)
theorem k0_off21_inb : ∀ (v3292 : BitVec 32) (k0_hw7 : k0_chk7 v3292), ∀ a, (k0_off21 v3292) a + S1x2048.size a ≤ S8192x2048.size a := fun v3292 k0_hw7 => k0_hw7

@[reducible] def k0_t8_loop : Scf.Loop 32 :=
  let c0_i32_56 : BitVec 32 := 0#32
  let c64_i32_57 : BitVec 32 := 64#32
  let v54 : BitVec 32 := Scalar.addi c0_i32_56 c64_i32_57
  let c1_i32_58 : BitVec 32 := 1#32
  ⟨c0_i32_56, v54, c1_i32_58⟩
def k0_off22 (k0_t8 : Fin k0_t8_loop.trips) : Fin 1 → Nat :=
  let c384_i32 : BitVec 32 := 384#32
  let c0_i32_56 : BitVec 32 := 0#32
  let c1_i32_58 : BitVec 32 := 1#32
  let arg19 : BitVec 32 := Scf.iv c0_i32_56 c1_i32_58 k0_t8
  let v3290 : BitVec 32 := Scalar.addi c384_i32 arg19
  let v3291 : Index := Scalar.indexCast v3290
  ![v3291.toNat]
def k0_off23 (k0_t8 : Fin k0_t8_loop.trips) : Fin 2 → Nat :=
  let c384_i32 : BitVec 32 := 384#32
  let c0_i32_56 : BitVec 32 := 0#32
  let c1_i32_58 : BitVec 32 := 1#32
  let arg19 : BitVec 32 := Scf.iv c0_i32_56 c1_i32_58 k0_t8
  let v3290 : BitVec 32 := Scalar.addi c384_i32 arg19
  let c0_i32_2645 : BitVec 32 := 0#32
  ![v3290.toNat, 0]
def k0_off24 (v3292 : BitVec 32) : Fin 2 → Nat :=
  let c0_i32_2646 : BitVec 32 := 0#32
  ![v3292.toNat, 0]

def k0_chk8 (v3292 : BitVec 32) : Prop :=
  (∀ a, (k0_off24 v3292) a + S1x2048.size a ≤ S8192x2048.size a)
theorem k0_off24_inb : ∀ (v3292 : BitVec 32) (k0_hw8 : k0_chk8 v3292), ∀ a, (k0_off24 v3292) a + S1x2048.size a ≤ S8192x2048.size a := fun v3292 k0_hw8 => k0_hw8

def k0_dev1 (d0 : Dev nD) : Nat :=
  let c0_i32_62 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_61 : BitVec 32 := 8#32
  let v56 : BitVec 32 := Scalar.muli v46 c8_i32_61
  let v57 : BitVec 32 := Scalar.addi c0_i32_62 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v58 : BitVec 32 := Scalar.muli v5 c4_i32_63
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v60 : BitVec 32 := Scalar.muli v8 c1_i32_64
  let v61 : BitVec 32 := Scalar.addi v59 v60
  v61.toNat
def k0_dev2 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v62 : BitVec 32 := Scalar.muli v2 c8_i32_66
  let v63 : BitVec 32 := Scalar.addi c0_i32_67 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_68 : BitVec 32 := 4#32
  let v64 : BitVec 32 := Scalar.muli v26 c4_i32_68
  let v65 : BitVec 32 := Scalar.addi v63 v64
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_69 : BitVec 32 := 1#32
  let v66 : BitVec 32 := Scalar.muli v29 c1_i32_69
  let v67 : BitVec 32 := Scalar.addi v65 v66
  v67.toNat
def k0_dev3 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v68 : BitVec 32 := Scalar.muli v2 c8_i32_71
  let v69 : BitVec 32 := Scalar.addi c0_i32_72 v68
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_73 : BitVec 32 := 4#32
  let v70 : BitVec 32 := Scalar.muli v42 c4_i32_73
  let v71 : BitVec 32 := Scalar.addi v69 v70
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_74 : BitVec 32 := 1#32
  let v72 : BitVec 32 := Scalar.muli v45 c1_i32_74
  let v73 : BitVec 32 := Scalar.addi v71 v72
  v73.toNat
@[reducible] def k0_t9_loop : Scf.Loop 32 :=
  let c0_i32_76 : BitVec 32 := 0#32
  let c64_i32_77 : BitVec 32 := 64#32
  let v74 : BitVec 32 := Scalar.addi c0_i32_76 c64_i32_77
  let c1_i32_78 : BitVec 32 := 1#32
  ⟨c0_i32_76, v74, c1_i32_78⟩
def k0_cond1 (d0 : Dev nD) : BitVec 1 :=
  let c2_i32_85 : BitVec 32 := 2#32
  let c1_i32_83 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v84 : BitVec 32 := Scalar.subi c1_i32_83 v2
  let c2_i32_84 : BitVec 32 := 2#32
  let v85 : BitVec 32 := Scalar.muli v84 c2_i32_84
  let v86 : BitVec 32 := Scalar.subi c2_i32_85 v85
  let c0_i32_86 : BitVec 32 := 0#32
  let v87 : BitVec 1 := Scalar.cmpi .sge v86 c0_i32_86
  let c5_i32 : BitVec 32 := 5#32
  let v88 : BitVec 1 := Scalar.cmpi .sle v86 c5_i32
  let v89 : BitVec 1 := Scalar.andi v87 v88
  let v90 : BitVec 32 := Scalar.extui v89
  let c0_i32_87 : BitVec 32 := 0#32
  let v91 : BitVec 1 := Scalar.cmpi .ne v90 c0_i32_87
  v91

def k0_off25 (d0 : Dev nD) : Fin 1 → Nat :=
  let c2_i32_2646 : BitVec 32 := 2#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c2_i32_2646 v3291
  ![v3292.toNat]
def k0_off26 (d0 : Dev nD) : Fin 2 → Nat :=
  let c2_i32_2646 : BitVec 32 := 2#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c2_i32_2646 v3291
  let c64_i32_2647 : BitVec 32 := 64#32
  let v3293 : BitVec 32 := Scalar.muli v3292 c64_i32_2647
  let c0_i32_2653 : BitVec 32 := 0#32
  ![v3293.toNat, 0]
def k0_dev4 (d0 : Dev nD) : Nat :=
  let c0_i32_2650 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_2649 : BitVec 32 := 8#32
  let v3294 : BitVec 32 := Scalar.muli v46 c8_i32_2649
  let v3295 : BitVec 32 := Scalar.addi c0_i32_2650 v3294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2651 : BitVec 32 := 4#32
  let v3296 : BitVec 32 := Scalar.muli v5 c4_i32_2651
  let v3297 : BitVec 32 := Scalar.addi v3295 v3296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2652 : BitVec 32 := 1#32
  let v3298 : BitVec 32 := Scalar.muli v8 c1_i32_2652
  let v3299 : BitVec 32 := Scalar.addi v3297 v3298
  v3299.toNat
@[reducible] def k0_t10_loop : Scf.Loop 32 :=
  let c0_i32_89 : BitVec 32 := 0#32
  let c64_i32_90 : BitVec 32 := 64#32
  let v92 : BitVec 32 := Scalar.addi c0_i32_89 c64_i32_90
  let c1_i32_91 : BitVec 32 := 1#32
  ⟨c0_i32_89, v92, c1_i32_91⟩
def k0_cond2 (d0 : Dev nD) : BitVec 1 :=
  let c5_i32_99 : BitVec 32 := 5#32
  let c1_i32_97 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v102 : BitVec 32 := Scalar.subi c1_i32_97 v2
  let c2_i32_98 : BitVec 32 := 2#32
  let v103 : BitVec 32 := Scalar.muli v102 c2_i32_98
  let v104 : BitVec 32 := Scalar.subi c5_i32_99 v103
  let c0_i32_100 : BitVec 32 := 0#32
  let v105 : BitVec 1 := Scalar.cmpi .sge v104 c0_i32_100
  let c5_i32_101 : BitVec 32 := 5#32
  let v106 : BitVec 1 := Scalar.cmpi .sle v104 c5_i32_101
  let v107 : BitVec 1 := Scalar.andi v105 v106
  let v108 : BitVec 32 := Scalar.extui v107
  let c0_i32_102 : BitVec 32 := 0#32
  let v109 : BitVec 1 := Scalar.cmpi .ne v108 c0_i32_102
  v109

def k0_off27 (d0 : Dev nD) : Fin 1 → Nat :=
  let c5_i32_2646 : BitVec 32 := 5#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c5_i32_2646 v3291
  ![v3292.toNat]
def k0_off28 (d0 : Dev nD) : Fin 2 → Nat :=
  let c5_i32_2646 : BitVec 32 := 5#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c5_i32_2646 v3291
  let c64_i32_2647 : BitVec 32 := 64#32
  let v3293 : BitVec 32 := Scalar.muli v3292 c64_i32_2647
  let c0_i32_2653 : BitVec 32 := 0#32
  ![v3293.toNat, 0]
def k0_dev5 (d0 : Dev nD) : Nat :=
  let c0_i32_2650 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_2649 : BitVec 32 := 8#32
  let v3294 : BitVec 32 := Scalar.muli v46 c8_i32_2649
  let v3295 : BitVec 32 := Scalar.addi c0_i32_2650 v3294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2651 : BitVec 32 := 4#32
  let v3296 : BitVec 32 := Scalar.muli v5 c4_i32_2651
  let v3297 : BitVec 32 := Scalar.addi v3295 v3296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2652 : BitVec 32 := 1#32
  let v3298 : BitVec 32 := Scalar.muli v8 c1_i32_2652
  let v3299 : BitVec 32 := Scalar.addi v3297 v3298
  v3299.toNat
@[reducible] def k0_t11_loop : Scf.Loop 32 :=
  let c0_i32_104 : BitVec 32 := 0#32
  let c64_i32_105 : BitVec 32 := 64#32
  let v110 : BitVec 32 := Scalar.addi c0_i32_104 c64_i32_105
  let c1_i32_106 : BitVec 32 := 1#32
  ⟨c0_i32_104, v110, c1_i32_106⟩
def k0_cond3 (d0 : Dev nD) : BitVec 1 :=
  let c0_i32_115 : BitVec 32 := 0#32
  let c1_i32_113 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v120 : BitVec 32 := Scalar.subi c1_i32_113 v2
  let c2_i32_114 : BitVec 32 := 2#32
  let v121 : BitVec 32 := Scalar.muli v120 c2_i32_114
  let v122 : BitVec 32 := Scalar.subi c0_i32_115 v121
  let c0_i32_116 : BitVec 32 := 0#32
  let v123 : BitVec 1 := Scalar.cmpi .sge v122 c0_i32_116
  let c5_i32_117 : BitVec 32 := 5#32
  let v124 : BitVec 1 := Scalar.cmpi .sle v122 c5_i32_117
  let v125 : BitVec 1 := Scalar.andi v123 v124
  let v126 : BitVec 32 := Scalar.extui v125
  let c0_i32_118 : BitVec 32 := 0#32
  let v127 : BitVec 1 := Scalar.cmpi .ne v126 c0_i32_118
  v127

def k0_off29 (d0 : Dev nD) : Fin 1 → Nat :=
  let c0_i32_2646 : BitVec 32 := 0#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c0_i32_2646 v3291
  ![v3292.toNat]
def k0_off30 (d0 : Dev nD) : Fin 2 → Nat :=
  let c0_i32_2646 : BitVec 32 := 0#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c0_i32_2646 v3291
  let c64_i32_2647 : BitVec 32 := 64#32
  let v3293 : BitVec 32 := Scalar.muli v3292 c64_i32_2647
  let c0_i32_2653 : BitVec 32 := 0#32
  ![v3293.toNat, 0]
def k0_dev6 (d0 : Dev nD) : Nat :=
  let c0_i32_2650 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_2649 : BitVec 32 := 8#32
  let v3294 : BitVec 32 := Scalar.muli v46 c8_i32_2649
  let v3295 : BitVec 32 := Scalar.addi c0_i32_2650 v3294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2651 : BitVec 32 := 4#32
  let v3296 : BitVec 32 := Scalar.muli v5 c4_i32_2651
  let v3297 : BitVec 32 := Scalar.addi v3295 v3296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2652 : BitVec 32 := 1#32
  let v3298 : BitVec 32 := Scalar.muli v8 c1_i32_2652
  let v3299 : BitVec 32 := Scalar.addi v3297 v3298
  v3299.toNat
@[reducible] def k0_t12_loop : Scf.Loop 32 :=
  let c0_i32_120 : BitVec 32 := 0#32
  let c64_i32_121 : BitVec 32 := 64#32
  let v128 : BitVec 32 := Scalar.addi c0_i32_120 c64_i32_121
  let c1_i32_122 : BitVec 32 := 1#32
  ⟨c0_i32_120, v128, c1_i32_122⟩
def k0_cond4 (d0 : Dev nD) : BitVec 1 :=
  let c3_i32_130 : BitVec 32 := 3#32
  let c1_i32_128 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v138 : BitVec 32 := Scalar.subi c1_i32_128 v2
  let c2_i32_129 : BitVec 32 := 2#32
  let v139 : BitVec 32 := Scalar.muli v138 c2_i32_129
  let v140 : BitVec 32 := Scalar.subi c3_i32_130 v139
  let c0_i32_131 : BitVec 32 := 0#32
  let v141 : BitVec 1 := Scalar.cmpi .sge v140 c0_i32_131
  let c5_i32_132 : BitVec 32 := 5#32
  let v142 : BitVec 1 := Scalar.cmpi .sle v140 c5_i32_132
  let v143 : BitVec 1 := Scalar.andi v141 v142
  let v144 : BitVec 32 := Scalar.extui v143
  let c0_i32_133 : BitVec 32 := 0#32
  let v145 : BitVec 1 := Scalar.cmpi .ne v144 c0_i32_133
  v145

def k0_off31 (d0 : Dev nD) : Fin 1 → Nat :=
  let c3_i32_2646 : BitVec 32 := 3#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c3_i32_2646 v3291
  ![v3292.toNat]
def k0_off32 (d0 : Dev nD) : Fin 2 → Nat :=
  let c3_i32_2646 : BitVec 32 := 3#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c3_i32_2646 v3291
  let c64_i32_2647 : BitVec 32 := 64#32
  let v3293 : BitVec 32 := Scalar.muli v3292 c64_i32_2647
  let c0_i32_2653 : BitVec 32 := 0#32
  ![v3293.toNat, 0]
def k0_dev7 (d0 : Dev nD) : Nat :=
  let c0_i32_2650 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_2649 : BitVec 32 := 8#32
  let v3294 : BitVec 32 := Scalar.muli v46 c8_i32_2649
  let v3295 : BitVec 32 := Scalar.addi c0_i32_2650 v3294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2651 : BitVec 32 := 4#32
  let v3296 : BitVec 32 := Scalar.muli v5 c4_i32_2651
  let v3297 : BitVec 32 := Scalar.addi v3295 v3296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2652 : BitVec 32 := 1#32
  let v3298 : BitVec 32 := Scalar.muli v8 c1_i32_2652
  let v3299 : BitVec 32 := Scalar.addi v3297 v3298
  v3299.toNat
@[reducible] def k0_t13_loop : Scf.Loop 32 :=
  let c0_i32_135 : BitVec 32 := 0#32
  let c64_i32_136 : BitVec 32 := 64#32
  let v146 : BitVec 32 := Scalar.addi c0_i32_135 c64_i32_136
  let c1_i32_137 : BitVec 32 := 1#32
  ⟨c0_i32_135, v146, c1_i32_137⟩
def k0_cond5 (d0 : Dev nD) : BitVec 1 :=
  let c4_i32_145 : BitVec 32 := 4#32
  let c1_i32_143 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v156 : BitVec 32 := Scalar.subi c1_i32_143 v2
  let c2_i32_144 : BitVec 32 := 2#32
  let v157 : BitVec 32 := Scalar.muli v156 c2_i32_144
  let v158 : BitVec 32 := Scalar.subi c4_i32_145 v157
  let c0_i32_146 : BitVec 32 := 0#32
  let v159 : BitVec 1 := Scalar.cmpi .sge v158 c0_i32_146
  let c5_i32_147 : BitVec 32 := 5#32
  let v160 : BitVec 1 := Scalar.cmpi .sle v158 c5_i32_147
  let v161 : BitVec 1 := Scalar.andi v159 v160
  let v162 : BitVec 32 := Scalar.extui v161
  let c0_i32_148 : BitVec 32 := 0#32
  let v163 : BitVec 1 := Scalar.cmpi .ne v162 c0_i32_148
  v163

def k0_off33 (d0 : Dev nD) : Fin 1 → Nat :=
  let c4_i32_2646 : BitVec 32 := 4#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c4_i32_2646 v3291
  ![v3292.toNat]
def k0_off34 (d0 : Dev nD) : Fin 2 → Nat :=
  let c4_i32_2646 : BitVec 32 := 4#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c4_i32_2646 v3291
  let c64_i32_2647 : BitVec 32 := 64#32
  let v3293 : BitVec 32 := Scalar.muli v3292 c64_i32_2647
  let c0_i32_2653 : BitVec 32 := 0#32
  ![v3293.toNat, 0]
def k0_dev8 (d0 : Dev nD) : Nat :=
  let c0_i32_2650 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_2649 : BitVec 32 := 8#32
  let v3294 : BitVec 32 := Scalar.muli v46 c8_i32_2649
  let v3295 : BitVec 32 := Scalar.addi c0_i32_2650 v3294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2651 : BitVec 32 := 4#32
  let v3296 : BitVec 32 := Scalar.muli v5 c4_i32_2651
  let v3297 : BitVec 32 := Scalar.addi v3295 v3296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2652 : BitVec 32 := 1#32
  let v3298 : BitVec 32 := Scalar.muli v8 c1_i32_2652
  let v3299 : BitVec 32 := Scalar.addi v3297 v3298
  v3299.toNat
@[reducible] def k0_t14_loop : Scf.Loop 32 :=
  let c0_i32_150 : BitVec 32 := 0#32
  let c64_i32_151 : BitVec 32 := 64#32
  let v164 : BitVec 32 := Scalar.addi c0_i32_150 c64_i32_151
  let c1_i32_152 : BitVec 32 := 1#32
  ⟨c0_i32_150, v164, c1_i32_152⟩
def k0_cond6 (d0 : Dev nD) : BitVec 1 :=
  let c7_i32_160 : BitVec 32 := 7#32
  let c1_i32_158 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v174 : BitVec 32 := Scalar.subi c1_i32_158 v2
  let c2_i32_159 : BitVec 32 := 2#32
  let v175 : BitVec 32 := Scalar.muli v174 c2_i32_159
  let v176 : BitVec 32 := Scalar.subi c7_i32_160 v175
  let c0_i32_161 : BitVec 32 := 0#32
  let v177 : BitVec 1 := Scalar.cmpi .sge v176 c0_i32_161
  let c5_i32_162 : BitVec 32 := 5#32
  let v178 : BitVec 1 := Scalar.cmpi .sle v176 c5_i32_162
  let v179 : BitVec 1 := Scalar.andi v177 v178
  let v180 : BitVec 32 := Scalar.extui v179
  let c0_i32_163 : BitVec 32 := 0#32
  let v181 : BitVec 1 := Scalar.cmpi .ne v180 c0_i32_163
  v181

def k0_off35 (d0 : Dev nD) : Fin 1 → Nat :=
  let c7_i32_2646 : BitVec 32 := 7#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c7_i32_2646 v3291
  ![v3292.toNat]
def k0_off36 (d0 : Dev nD) : Fin 2 → Nat :=
  let c7_i32_2646 : BitVec 32 := 7#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c7_i32_2646 v3291
  let c64_i32_2647 : BitVec 32 := 64#32
  let v3293 : BitVec 32 := Scalar.muli v3292 c64_i32_2647
  let c0_i32_2653 : BitVec 32 := 0#32
  ![v3293.toNat, 0]
def k0_dev9 (d0 : Dev nD) : Nat :=
  let c0_i32_2650 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_2649 : BitVec 32 := 8#32
  let v3294 : BitVec 32 := Scalar.muli v46 c8_i32_2649
  let v3295 : BitVec 32 := Scalar.addi c0_i32_2650 v3294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2651 : BitVec 32 := 4#32
  let v3296 : BitVec 32 := Scalar.muli v5 c4_i32_2651
  let v3297 : BitVec 32 := Scalar.addi v3295 v3296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2652 : BitVec 32 := 1#32
  let v3298 : BitVec 32 := Scalar.muli v8 c1_i32_2652
  let v3299 : BitVec 32 := Scalar.addi v3297 v3298
  v3299.toNat
@[reducible] def k0_t15_loop : Scf.Loop 32 :=
  let c0_i32_165 : BitVec 32 := 0#32
  let c64_i32_166 : BitVec 32 := 64#32
  let v182 : BitVec 32 := Scalar.addi c0_i32_165 c64_i32_166
  let c1_i32_167 : BitVec 32 := 1#32
  ⟨c0_i32_165, v182, c1_i32_167⟩
def k0_cond7 (d0 : Dev nD) : BitVec 1 :=
  let c1_i32_175 : BitVec 32 := 1#32
  let c1_i32_173 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v192 : BitVec 32 := Scalar.subi c1_i32_173 v2
  let c2_i32_174 : BitVec 32 := 2#32
  let v193 : BitVec 32 := Scalar.muli v192 c2_i32_174
  let v194 : BitVec 32 := Scalar.subi c1_i32_175 v193
  let c0_i32_176 : BitVec 32 := 0#32
  let v195 : BitVec 1 := Scalar.cmpi .sge v194 c0_i32_176
  let c5_i32_177 : BitVec 32 := 5#32
  let v196 : BitVec 1 := Scalar.cmpi .sle v194 c5_i32_177
  let v197 : BitVec 1 := Scalar.andi v195 v196
  let v198 : BitVec 32 := Scalar.extui v197
  let c0_i32_178 : BitVec 32 := 0#32
  let v199 : BitVec 1 := Scalar.cmpi .ne v198 c0_i32_178
  v199

def k0_off37 (d0 : Dev nD) : Fin 1 → Nat :=
  let c1_i32_2646 : BitVec 32 := 1#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c1_i32_2646 v3291
  ![v3292.toNat]
def k0_off38 (d0 : Dev nD) : Fin 2 → Nat :=
  let c1_i32_2646 : BitVec 32 := 1#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c1_i32_2646 v3291
  let c64_i32_2647 : BitVec 32 := 64#32
  let v3293 : BitVec 32 := Scalar.muli v3292 c64_i32_2647
  let c0_i32_2653 : BitVec 32 := 0#32
  ![v3293.toNat, 0]
def k0_dev10 (d0 : Dev nD) : Nat :=
  let c0_i32_2650 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_2649 : BitVec 32 := 8#32
  let v3294 : BitVec 32 := Scalar.muli v46 c8_i32_2649
  let v3295 : BitVec 32 := Scalar.addi c0_i32_2650 v3294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2651 : BitVec 32 := 4#32
  let v3296 : BitVec 32 := Scalar.muli v5 c4_i32_2651
  let v3297 : BitVec 32 := Scalar.addi v3295 v3296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2652 : BitVec 32 := 1#32
  let v3298 : BitVec 32 := Scalar.muli v8 c1_i32_2652
  let v3299 : BitVec 32 := Scalar.addi v3297 v3298
  v3299.toNat
@[reducible] def k0_t16_loop : Scf.Loop 32 :=
  let c0_i32_179 : BitVec 32 := 0#32
  let c64_i32_180 : BitVec 32 := 64#32
  let v200 : BitVec 32 := Scalar.addi c0_i32_179 c64_i32_180
  let c1_i32_181 : BitVec 32 := 1#32
  ⟨c0_i32_179, v200, c1_i32_181⟩
def k0_cond8 (d0 : Dev nD) : BitVec 1 :=
  let c6_i32_189 : BitVec 32 := 6#32
  let c1_i32_187 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v210 : BitVec 32 := Scalar.subi c1_i32_187 v2
  let c2_i32_188 : BitVec 32 := 2#32
  let v211 : BitVec 32 := Scalar.muli v210 c2_i32_188
  let v212 : BitVec 32 := Scalar.subi c6_i32_189 v211
  let c0_i32_190 : BitVec 32 := 0#32
  let v213 : BitVec 1 := Scalar.cmpi .sge v212 c0_i32_190
  let c5_i32_191 : BitVec 32 := 5#32
  let v214 : BitVec 1 := Scalar.cmpi .sle v212 c5_i32_191
  let v215 : BitVec 1 := Scalar.andi v213 v214
  let v216 : BitVec 32 := Scalar.extui v215
  let c0_i32_192 : BitVec 32 := 0#32
  let v217 : BitVec 1 := Scalar.cmpi .ne v216 c0_i32_192
  v217

def k0_off39 (d0 : Dev nD) : Fin 1 → Nat :=
  let c6_i32_2646 : BitVec 32 := 6#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c6_i32_2646 v3291
  ![v3292.toNat]
def k0_off40 (d0 : Dev nD) : Fin 2 → Nat :=
  let c6_i32_2646 : BitVec 32 := 6#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c6_i32_2646 v3291
  let c64_i32_2647 : BitVec 32 := 64#32
  let v3293 : BitVec 32 := Scalar.muli v3292 c64_i32_2647
  let c0_i32_2653 : BitVec 32 := 0#32
  ![v3293.toNat, 0]
def k0_dev11 (d0 : Dev nD) : Nat :=
  let c0_i32_2650 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_2649 : BitVec 32 := 8#32
  let v3294 : BitVec 32 := Scalar.muli v46 c8_i32_2649
  let v3295 : BitVec 32 := Scalar.addi c0_i32_2650 v3294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2651 : BitVec 32 := 4#32
  let v3296 : BitVec 32 := Scalar.muli v5 c4_i32_2651
  let v3297 : BitVec 32 := Scalar.addi v3295 v3296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2652 : BitVec 32 := 1#32
  let v3298 : BitVec 32 := Scalar.muli v8 c1_i32_2652
  let v3299 : BitVec 32 := Scalar.addi v3297 v3298
  v3299.toNat
def k0_off41 (d0 : Dev nD) (c0_i32_204 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v12 : BitVec 32 := Scalar.muli v2 c2_i32_2
  let c64_i32 : BitVec 32 := 64#32
  let v13 : BitVec 32 := Scalar.muli v12 c64_i32
  let v231 : BitVec 32 := Scalar.addi v13 c0_i32_204
  let v232 : Index := Scalar.indexCast v231
  let c0_205 : Index := 0#32
  ![v232.toNat, 0]
def k0_off42 (d0 : Dev nD) (c0_i32_203 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c512_i32 : BitVec 32 := 512#32
  let v228 : BitVec 32 := Scalar.muli v11 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v12 : BitVec 32 := Scalar.muli v2 c2_i32_2
  let c64_i32 : BitVec 32 := 64#32
  let v13 : BitVec 32 := Scalar.muli v12 c64_i32
  let v229 : BitVec 32 := Scalar.addi v228 v13
  let v230 : BitVec 32 := Scalar.addi v229 c0_i32_203
  let v236 : Index := Scalar.indexCast v230
  let c0_208 : Index := 0#32
  ![v236.toNat, 0]
def k0_off43 (d0 : Dev nD) (c0_i32_209 : BitVec 32) (c0_i32_217 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v240 : BitVec 32 := Scalar.subi v11 c0_i32_209
  let c8_i32_210 : BitVec 32 := 8#32
  let c0_i32_211 : BitVec 32 := 0#32
  let v241 : BitVec 1 := Scalar.cmpi .eq c8_i32_210 c0_i32_211
  let c1_i32_212 : BitVec 32 := 1#32
  let v242 : BitVec 32 := Scalar.select v241 c1_i32_212 c8_i32_210
  let v243 : BitVec 32 := Scalar.remsi v240 v242
  let c0_i32_214 : BitVec 32 := 0#32
  let v245 : BitVec 1 := Scalar.cmpi .slt v243 c0_i32_214
  let c0_i32_215 : BitVec 32 := 0#32
  let v246 : BitVec 1 := Scalar.cmpi .slt v242 c0_i32_215
  let v247 : BitVec 1 := Scalar.xori v245 v246
  let c0_i32_213 : BitVec 32 := 0#32
  let v244 : BitVec 1 := Scalar.cmpi .ne v243 c0_i32_213
  let v248 : BitVec 1 := Scalar.andi v247 v244
  let v249 : BitVec 32 := Scalar.addi v243 v242
  let v250 : BitVec 32 := Scalar.select v248 v249 v243
  let c512_i32_216 : BitVec 32 := 512#32
  let v251 : BitVec 32 := Scalar.muli v250 c512_i32_216
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v12 : BitVec 32 := Scalar.muli v2 c2_i32_2
  let c64_i32 : BitVec 32 := 64#32
  let v13 : BitVec 32 := Scalar.muli v12 c64_i32
  let v252 : BitVec 32 := Scalar.addi v251 v13
  let v253 : BitVec 32 := Scalar.addi v252 c0_i32_217
  let c0_i32_226 : BitVec 32 := 0#32
  ![v253.toNat, 0]
def k0_dev12 (d0 : Dev nD) : Nat :=
  let c0_i32_223 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_222 : BitVec 32 := 8#32
  let v254 : BitVec 32 := Scalar.muli v2 c8_i32_222
  let v255 : BitVec 32 := Scalar.addi c0_i32_223 v254
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_224 : BitVec 32 := 4#32
  let v256 : BitVec 32 := Scalar.muli v26 c4_i32_224
  let v257 : BitVec 32 := Scalar.addi v255 v256
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_225 : BitVec 32 := 1#32
  let v258 : BitVec 32 := Scalar.muli v29 c1_i32_225
  let v259 : BitVec 32 := Scalar.addi v257 v258
  v259.toNat
def k0_off44 (d0 : Dev nD) (c0_i32_244 : BitVec 32) (c192_i32_252 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v288 : BitVec 32 := Scalar.addi v11 c0_i32_244
  let c8_i32_245 : BitVec 32 := 8#32
  let c0_i32_246 : BitVec 32 := 0#32
  let v289 : BitVec 1 := Scalar.cmpi .eq c8_i32_245 c0_i32_246
  let c1_i32_247 : BitVec 32 := 1#32
  let v290 : BitVec 32 := Scalar.select v289 c1_i32_247 c8_i32_245
  let v291 : BitVec 32 := Scalar.remsi v288 v290
  let c0_i32_249 : BitVec 32 := 0#32
  let v293 : BitVec 1 := Scalar.cmpi .slt v291 c0_i32_249
  let c0_i32_250 : BitVec 32 := 0#32
  let v294 : BitVec 1 := Scalar.cmpi .slt v290 c0_i32_250
  let v295 : BitVec 1 := Scalar.xori v293 v294
  let c0_i32_248 : BitVec 32 := 0#32
  let v292 : BitVec 1 := Scalar.cmpi .ne v291 c0_i32_248
  let v296 : BitVec 1 := Scalar.andi v295 v292
  let v297 : BitVec 32 := Scalar.addi v291 v290
  let v298 : BitVec 32 := Scalar.select v296 v297 v291
  let c512_i32_251 : BitVec 32 := 512#32
  let v299 : BitVec 32 := Scalar.muli v298 c512_i32_251
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v12 : BitVec 32 := Scalar.muli v2 c2_i32_2
  let c64_i32 : BitVec 32 := 64#32
  let v13 : BitVec 32 := Scalar.muli v12 c64_i32
  let v300 : BitVec 32 := Scalar.addi v299 v13
  let v301 : BitVec 32 := Scalar.addi v300 c192_i32_252
  let c0_i32_261 : BitVec 32 := 0#32
  ![v301.toNat, 0]
def k0_dev13 (d0 : Dev nD) : Nat :=
  let c0_i32_258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_257 : BitVec 32 := 8#32
  let v302 : BitVec 32 := Scalar.muli v2 c8_i32_257
  let v303 : BitVec 32 := Scalar.addi c0_i32_258 v302
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_259 : BitVec 32 := 4#32
  let v304 : BitVec 32 := Scalar.muli v42 c4_i32_259
  let v305 : BitVec 32 := Scalar.addi v303 v304
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_260 : BitVec 32 := 1#32
  let v306 : BitVec 32 := Scalar.muli v45 c1_i32_260
  let v307 : BitVec 32 := Scalar.addi v305 v306
  v307.toNat
def k0_dev14 (d0 : Dev nD) : Nat :=
  let c0_i32_294 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_293 : BitVec 32 := 8#32
  let v350 : BitVec 32 := Scalar.muli v2 c8_i32_293
  let v351 : BitVec 32 := Scalar.addi c0_i32_294 v350
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_295 : BitVec 32 := 4#32
  let v352 : BitVec 32 := Scalar.muli v26 c4_i32_295
  let v353 : BitVec 32 := Scalar.addi v351 v352
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_296 : BitVec 32 := 1#32
  let v354 : BitVec 32 := Scalar.muli v29 c1_i32_296
  let v355 : BitVec 32 := Scalar.addi v353 v354
  v355.toNat
def k0_dev15 (d0 : Dev nD) : Nat :=
  let c0_i32_329 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_328 : BitVec 32 := 8#32
  let v398 : BitVec 32 := Scalar.muli v2 c8_i32_328
  let v399 : BitVec 32 := Scalar.addi c0_i32_329 v398
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_330 : BitVec 32 := 4#32
  let v400 : BitVec 32 := Scalar.muli v42 c4_i32_330
  let v401 : BitVec 32 := Scalar.addi v399 v400
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_331 : BitVec 32 := 1#32
  let v402 : BitVec 32 := Scalar.muli v45 c1_i32_331
  let v403 : BitVec 32 := Scalar.addi v401 v402
  v403.toNat
def k0_dev16 (d0 : Dev nD) : Nat :=
  let c0_i32_364 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_363 : BitVec 32 := 8#32
  let v446 : BitVec 32 := Scalar.muli v2 c8_i32_363
  let v447 : BitVec 32 := Scalar.addi c0_i32_364 v446
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_365 : BitVec 32 := 4#32
  let v448 : BitVec 32 := Scalar.muli v26 c4_i32_365
  let v449 : BitVec 32 := Scalar.addi v447 v448
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_366 : BitVec 32 := 1#32
  let v450 : BitVec 32 := Scalar.muli v29 c1_i32_366
  let v451 : BitVec 32 := Scalar.addi v449 v450
  v451.toNat
def k0_dev17 (d0 : Dev nD) : Nat :=
  let c0_i32_399 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_398 : BitVec 32 := 8#32
  let v494 : BitVec 32 := Scalar.muli v2 c8_i32_398
  let v495 : BitVec 32 := Scalar.addi c0_i32_399 v494
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_400 : BitVec 32 := 4#32
  let v496 : BitVec 32 := Scalar.muli v42 c4_i32_400
  let v497 : BitVec 32 := Scalar.addi v495 v496
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_401 : BitVec 32 := 1#32
  let v498 : BitVec 32 := Scalar.muli v45 c1_i32_401
  let v499 : BitVec 32 := Scalar.addi v497 v498
  v499.toNat
def k0_off45 (d0 : Dev nD) (c0_i32_405 : BitVec 32) (c0_i32_412 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_404 : BitVec 32 := 0#32
  let v506 : BitVec 1 := Scalar.cmpi .eq v2 c0_i32_404
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v507 : BitVec 32 := Scalar.subi v11 c0_i32_405
  let c8_i32_406 : BitVec 32 := 8#32
  let c0_i32_407 : BitVec 32 := 0#32
  let v508 : BitVec 1 := Scalar.cmpi .eq c8_i32_406 c0_i32_407
  let c1_i32_408 : BitVec 32 := 1#32
  let v509 : BitVec 32 := Scalar.select v508 c1_i32_408 c8_i32_406
  let v510 : BitVec 32 := Scalar.remsi v507 v509
  let c0_i32_410 : BitVec 32 := 0#32
  let v512 : BitVec 1 := Scalar.cmpi .slt v510 c0_i32_410
  let c0_i32_411 : BitVec 32 := 0#32
  let v513 : BitVec 1 := Scalar.cmpi .slt v509 c0_i32_411
  let v514 : BitVec 1 := Scalar.xori v512 v513
  let c0_i32_409 : BitVec 32 := 0#32
  let v511 : BitVec 1 := Scalar.cmpi .ne v510 c0_i32_409
  let v515 : BitVec 1 := Scalar.andi v514 v511
  let v516 : BitVec 32 := Scalar.addi v510 v509
  let v517 : BitVec 32 := Scalar.select v515 v516 v510
  let v518 : BitVec 32 := Scalar.addi v11 c0_i32_412
  let c8_i32_413 : BitVec 32 := 8#32
  let c0_i32_414 : BitVec 32 := 0#32
  let v519 : BitVec 1 := Scalar.cmpi .eq c8_i32_413 c0_i32_414
  let c1_i32_415 : BitVec 32 := 1#32
  let v520 : BitVec 32 := Scalar.select v519 c1_i32_415 c8_i32_413
  let v521 : BitVec 32 := Scalar.remsi v518 v520
  let c0_i32_417 : BitVec 32 := 0#32
  let v523 : BitVec 1 := Scalar.cmpi .slt v521 c0_i32_417
  let c0_i32_418 : BitVec 32 := 0#32
  let v524 : BitVec 1 := Scalar.cmpi .slt v520 c0_i32_418
  let v525 : BitVec 1 := Scalar.xori v523 v524
  let c0_i32_416 : BitVec 32 := 0#32
  let v522 : BitVec 1 := Scalar.cmpi .ne v521 c0_i32_416
  let v526 : BitVec 1 := Scalar.andi v525 v522
  let v527 : BitVec 32 := Scalar.addi v521 v520
  let v528 : BitVec 32 := Scalar.select v526 v527 v521
  let v529 : BitVec 32 := Scalar.select v506 v517 v528
  let c512_i32_419 : BitVec 32 := 512#32
  let v530 : BitVec 32 := Scalar.muli v529 c512_i32_419
  let c6_i32_420 : BitVec 32 := 6#32
  let v531 : BitVec 32 := Scalar.muli v2 c6_i32_420
  let c64_i32_421 : BitVec 32 := 64#32
  let v532 : BitVec 32 := Scalar.muli v531 c64_i32_421
  let v533 : BitVec 32 := Scalar.addi v530 v532
  let c0_i32_428 : BitVec 32 := 0#32
  ![v533.toNat, 0]
def k0_off45_at (r : Fin 8) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        (7#32, 7#32)
def k0_dev18 (d0 : Dev nD) : Nat :=
  let c0_i32_425 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_424 : BitVec 32 := 8#32
  let v534 : BitVec 32 := Scalar.muli v46 c8_i32_424
  let v535 : BitVec 32 := Scalar.addi c0_i32_425 v534
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_426 : BitVec 32 := 4#32
  let v536 : BitVec 32 := Scalar.muli v5 c4_i32_426
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v538 : BitVec 32 := Scalar.muli v8 c1_i32_427
  let v539 : BitVec 32 := Scalar.addi v537 v538
  v539.toNat
def k0_off46 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c512_i32_430 : BitVec 32 := 512#32
  let v546 : BitVec 32 := Scalar.muli v11 c512_i32_430
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v12 : BitVec 32 := Scalar.muli v2 c2_i32_2
  let c64_i32 : BitVec 32 := 64#32
  let v13 : BitVec 32 := Scalar.muli v12 c64_i32
  let v547 : BitVec 32 := Scalar.addi v546 v13
  let v548 : Index := Scalar.indexCast v547
  let c0_431 : Index := 0#32
  ![v548.toNat, 0]
def k0_off47 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c512_i32_430 : BitVec 32 := 512#32
  let v546 : BitVec 32 := Scalar.muli v11 c512_i32_430
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v12 : BitVec 32 := Scalar.muli v2 c2_i32_2
  let c64_i32 : BitVec 32 := 64#32
  let v13 : BitVec 32 := Scalar.muli v12 c64_i32
  let v547 : BitVec 32 := Scalar.addi v546 v13
  let c0_i32_433 : BitVec 32 := 0#32
  ![v547.toNat, 0]
def k0_dev19 (d0 : Dev nD) : Nat :=
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_458 : BitVec 32 := 8#32
  let v581 : BitVec 32 := Scalar.muli v2 c8_i32_458
  let v582 : BitVec 32 := Scalar.addi c0_i32_459 v581
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_460 : BitVec 32 := 4#32
  let v583 : BitVec 32 := Scalar.muli v26 c4_i32_460
  let v584 : BitVec 32 := Scalar.addi v582 v583
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_461 : BitVec 32 := 1#32
  let v585 : BitVec 32 := Scalar.muli v29 c1_i32_461
  let v586 : BitVec 32 := Scalar.addi v584 v585
  v586.toNat
def k0_dev20 (d0 : Dev nD) : Nat :=
  let c0_i32_488 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_487 : BitVec 32 := 8#32
  let v617 : BitVec 32 := Scalar.muli v2 c8_i32_487
  let v618 : BitVec 32 := Scalar.addi c0_i32_488 v617
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_489 : BitVec 32 := 4#32
  let v619 : BitVec 32 := Scalar.muli v42 c4_i32_489
  let v620 : BitVec 32 := Scalar.addi v618 v619
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_490 : BitVec 32 := 1#32
  let v621 : BitVec 32 := Scalar.muli v45 c1_i32_490
  let v622 : BitVec 32 := Scalar.addi v620 v621
  v622.toNat
def k0_dev21 (d0 : Dev nD) : Nat :=
  let c0_i32_517 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_516 : BitVec 32 := 8#32
  let v653 : BitVec 32 := Scalar.muli v2 c8_i32_516
  let v654 : BitVec 32 := Scalar.addi c0_i32_517 v653
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_518 : BitVec 32 := 4#32
  let v655 : BitVec 32 := Scalar.muli v26 c4_i32_518
  let v656 : BitVec 32 := Scalar.addi v654 v655
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_519 : BitVec 32 := 1#32
  let v657 : BitVec 32 := Scalar.muli v29 c1_i32_519
  let v658 : BitVec 32 := Scalar.addi v656 v657
  v658.toNat
def k0_dev22 (d0 : Dev nD) : Nat :=
  let c0_i32_546 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_545 : BitVec 32 := 8#32
  let v689 : BitVec 32 := Scalar.muli v2 c8_i32_545
  let v690 : BitVec 32 := Scalar.addi c0_i32_546 v689
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_547 : BitVec 32 := 4#32
  let v691 : BitVec 32 := Scalar.muli v42 c4_i32_547
  let v692 : BitVec 32 := Scalar.addi v690 v691
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_548 : BitVec 32 := 1#32
  let v693 : BitVec 32 := Scalar.muli v45 c1_i32_548
  let v694 : BitVec 32 := Scalar.addi v692 v693
  v694.toNat
def k0_dev23 (d0 : Dev nD) : Nat :=
  let c0_i32_575 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_574 : BitVec 32 := 8#32
  let v725 : BitVec 32 := Scalar.muli v2 c8_i32_574
  let v726 : BitVec 32 := Scalar.addi c0_i32_575 v725
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_576 : BitVec 32 := 4#32
  let v727 : BitVec 32 := Scalar.muli v26 c4_i32_576
  let v728 : BitVec 32 := Scalar.addi v726 v727
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_577 : BitVec 32 := 1#32
  let v729 : BitVec 32 := Scalar.muli v29 c1_i32_577
  let v730 : BitVec 32 := Scalar.addi v728 v729
  v730.toNat
def k0_dev24 (d0 : Dev nD) : Nat :=
  let c0_i32_604 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_603 : BitVec 32 := 8#32
  let v761 : BitVec 32 := Scalar.muli v2 c8_i32_603
  let v762 : BitVec 32 := Scalar.addi c0_i32_604 v761
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_605 : BitVec 32 := 4#32
  let v763 : BitVec 32 := Scalar.muli v42 c4_i32_605
  let v764 : BitVec 32 := Scalar.addi v762 v763
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_606 : BitVec 32 := 1#32
  let v765 : BitVec 32 := Scalar.muli v45 c1_i32_606
  let v766 : BitVec 32 := Scalar.addi v764 v765
  v766.toNat
def k0_dev25 (d0 : Dev nD) : Nat :=
  let c0_i32_630 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_629 : BitVec 32 := 8#32
  let v801 : BitVec 32 := Scalar.muli v46 c8_i32_629
  let v802 : BitVec 32 := Scalar.addi c0_i32_630 v801
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_631 : BitVec 32 := 4#32
  let v803 : BitVec 32 := Scalar.muli v5 c4_i32_631
  let v804 : BitVec 32 := Scalar.addi v802 v803
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_632 : BitVec 32 := 1#32
  let v805 : BitVec 32 := Scalar.muli v8 c1_i32_632
  let v806 : BitVec 32 := Scalar.addi v804 v805
  v806.toNat
def k0_off48 (d0 : Dev nD) (c1_i32_635 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v813 : BitVec 32 := Scalar.subi v11 c1_i32_635
  let c8_i32_636 : BitVec 32 := 8#32
  let c0_i32_637 : BitVec 32 := 0#32
  let v814 : BitVec 1 := Scalar.cmpi .eq c8_i32_636 c0_i32_637
  let c1_i32_638 : BitVec 32 := 1#32
  let v815 : BitVec 32 := Scalar.select v814 c1_i32_638 c8_i32_636
  let v816 : BitVec 32 := Scalar.remsi v813 v815
  let c0_i32_640 : BitVec 32 := 0#32
  let v818 : BitVec 1 := Scalar.cmpi .slt v816 c0_i32_640
  let c0_i32_641 : BitVec 32 := 0#32
  let v819 : BitVec 1 := Scalar.cmpi .slt v815 c0_i32_641
  let v820 : BitVec 1 := Scalar.xori v818 v819
  let c0_i32_639 : BitVec 32 := 0#32
  let v817 : BitVec 1 := Scalar.cmpi .ne v816 c0_i32_639
  let v821 : BitVec 1 := Scalar.andi v820 v817
  let v822 : BitVec 32 := Scalar.addi v816 v815
  let v823 : BitVec 32 := Scalar.select v821 v822 v816
  let c512_i32_642 : BitVec 32 := 512#32
  let v824 : BitVec 32 := Scalar.muli v823 c512_i32_642
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v12 : BitVec 32 := Scalar.muli v2 c2_i32_2
  let c64_i32 : BitVec 32 := 64#32
  let v13 : BitVec 32 := Scalar.muli v12 c64_i32
  let v825 : BitVec 32 := Scalar.addi v824 v13
  let v826 : Index := Scalar.indexCast v825
  let c0_643 : Index := 0#32
  ![v826.toNat, 0]
def k0_off49 (d0 : Dev nD) (c1_i32_635 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v813 : BitVec 32 := Scalar.subi v11 c1_i32_635
  let c8_i32_636 : BitVec 32 := 8#32
  let c0_i32_637 : BitVec 32 := 0#32
  let v814 : BitVec 1 := Scalar.cmpi .eq c8_i32_636 c0_i32_637
  let c1_i32_638 : BitVec 32 := 1#32
  let v815 : BitVec 32 := Scalar.select v814 c1_i32_638 c8_i32_636
  let v816 : BitVec 32 := Scalar.remsi v813 v815
  let c0_i32_640 : BitVec 32 := 0#32
  let v818 : BitVec 1 := Scalar.cmpi .slt v816 c0_i32_640
  let c0_i32_641 : BitVec 32 := 0#32
  let v819 : BitVec 1 := Scalar.cmpi .slt v815 c0_i32_641
  let v820 : BitVec 1 := Scalar.xori v818 v819
  let c0_i32_639 : BitVec 32 := 0#32
  let v817 : BitVec 1 := Scalar.cmpi .ne v816 c0_i32_639
  let v821 : BitVec 1 := Scalar.andi v820 v817
  let v822 : BitVec 32 := Scalar.addi v816 v815
  let v823 : BitVec 32 := Scalar.select v821 v822 v816
  let c512_i32_642 : BitVec 32 := 512#32
  let v824 : BitVec 32 := Scalar.muli v823 c512_i32_642
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v12 : BitVec 32 := Scalar.muli v2 c2_i32_2
  let c64_i32 : BitVec 32 := 64#32
  let v13 : BitVec 32 := Scalar.muli v12 c64_i32
  let v825 : BitVec 32 := Scalar.addi v824 v13
  let c0_i32_647 : BitVec 32 := 0#32
  ![v825.toNat, 0]
def k0_off50 (d0 : Dev nD) (c1_i32_649 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v837 : BitVec 32 := Scalar.addi v11 c1_i32_649
  let c8_i32_650 : BitVec 32 := 8#32
  let c0_i32_651 : BitVec 32 := 0#32
  let v838 : BitVec 1 := Scalar.cmpi .eq c8_i32_650 c0_i32_651
  let c1_i32_652 : BitVec 32 := 1#32
  let v839 : BitVec 32 := Scalar.select v838 c1_i32_652 c8_i32_650
  let v840 : BitVec 32 := Scalar.remsi v837 v839
  let c0_i32_654 : BitVec 32 := 0#32
  let v842 : BitVec 1 := Scalar.cmpi .slt v840 c0_i32_654
  let c0_i32_655 : BitVec 32 := 0#32
  let v843 : BitVec 1 := Scalar.cmpi .slt v839 c0_i32_655
  let v844 : BitVec 1 := Scalar.xori v842 v843
  let c0_i32_653 : BitVec 32 := 0#32
  let v841 : BitVec 1 := Scalar.cmpi .ne v840 c0_i32_653
  let v845 : BitVec 1 := Scalar.andi v844 v841
  let v846 : BitVec 32 := Scalar.addi v840 v839
  let v847 : BitVec 32 := Scalar.select v845 v846 v840
  let c512_i32_656 : BitVec 32 := 512#32
  let v848 : BitVec 32 := Scalar.muli v847 c512_i32_656
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v12 : BitVec 32 := Scalar.muli v2 c2_i32_2
  let c64_i32 : BitVec 32 := 64#32
  let v13 : BitVec 32 := Scalar.muli v12 c64_i32
  let v849 : BitVec 32 := Scalar.addi v848 v13
  let c192_i32_657 : BitVec 32 := 192#32
  let v850 : BitVec 32 := Scalar.addi v849 c192_i32_657
  let v851 : Index := Scalar.indexCast v850
  let c0_658 : Index := 0#32
  ![v851.toNat, 0]
def k0_off51 (d0 : Dev nD) (c1_i32_649 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v837 : BitVec 32 := Scalar.addi v11 c1_i32_649
  let c8_i32_650 : BitVec 32 := 8#32
  let c0_i32_651 : BitVec 32 := 0#32
  let v838 : BitVec 1 := Scalar.cmpi .eq c8_i32_650 c0_i32_651
  let c1_i32_652 : BitVec 32 := 1#32
  let v839 : BitVec 32 := Scalar.select v838 c1_i32_652 c8_i32_650
  let v840 : BitVec 32 := Scalar.remsi v837 v839
  let c0_i32_654 : BitVec 32 := 0#32
  let v842 : BitVec 1 := Scalar.cmpi .slt v840 c0_i32_654
  let c0_i32_655 : BitVec 32 := 0#32
  let v843 : BitVec 1 := Scalar.cmpi .slt v839 c0_i32_655
  let v844 : BitVec 1 := Scalar.xori v842 v843
  let c0_i32_653 : BitVec 32 := 0#32
  let v841 : BitVec 1 := Scalar.cmpi .ne v840 c0_i32_653
  let v845 : BitVec 1 := Scalar.andi v844 v841
  let v846 : BitVec 32 := Scalar.addi v840 v839
  let v847 : BitVec 32 := Scalar.select v845 v846 v840
  let c512_i32_656 : BitVec 32 := 512#32
  let v848 : BitVec 32 := Scalar.muli v847 c512_i32_656
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v12 : BitVec 32 := Scalar.muli v2 c2_i32_2
  let c64_i32 : BitVec 32 := 64#32
  let v13 : BitVec 32 := Scalar.muli v12 c64_i32
  let v849 : BitVec 32 := Scalar.addi v848 v13
  let c192_i32_657 : BitVec 32 := 192#32
  let v850 : BitVec 32 := Scalar.addi v849 c192_i32_657
  let c0_i32_662 : BitVec 32 := 0#32
  ![v850.toNat, 0]
def k0_off52 (d0 : Dev nD) (c0_i32_665 : BitVec 32) (c0_i32_672 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_664 : BitVec 32 := 0#32
  let v862 : BitVec 1 := Scalar.cmpi .eq v2 c0_i32_664
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v863 : BitVec 32 := Scalar.addi v11 c0_i32_665
  let c8_i32_666 : BitVec 32 := 8#32
  let c0_i32_667 : BitVec 32 := 0#32
  let v864 : BitVec 1 := Scalar.cmpi .eq c8_i32_666 c0_i32_667
  let c1_i32_668 : BitVec 32 := 1#32
  let v865 : BitVec 32 := Scalar.select v864 c1_i32_668 c8_i32_666
  let v866 : BitVec 32 := Scalar.remsi v863 v865
  let c0_i32_670 : BitVec 32 := 0#32
  let v868 : BitVec 1 := Scalar.cmpi .slt v866 c0_i32_670
  let c0_i32_671 : BitVec 32 := 0#32
  let v869 : BitVec 1 := Scalar.cmpi .slt v865 c0_i32_671
  let v870 : BitVec 1 := Scalar.xori v868 v869
  let c0_i32_669 : BitVec 32 := 0#32
  let v867 : BitVec 1 := Scalar.cmpi .ne v866 c0_i32_669
  let v871 : BitVec 1 := Scalar.andi v870 v867
  let v872 : BitVec 32 := Scalar.addi v866 v865
  let v873 : BitVec 32 := Scalar.select v871 v872 v866
  let v874 : BitVec 32 := Scalar.subi v11 c0_i32_672
  let c8_i32_673 : BitVec 32 := 8#32
  let c0_i32_674 : BitVec 32 := 0#32
  let v875 : BitVec 1 := Scalar.cmpi .eq c8_i32_673 c0_i32_674
  let c1_i32_675 : BitVec 32 := 1#32
  let v876 : BitVec 32 := Scalar.select v875 c1_i32_675 c8_i32_673
  let v877 : BitVec 32 := Scalar.remsi v874 v876
  let c0_i32_677 : BitVec 32 := 0#32
  let v879 : BitVec 1 := Scalar.cmpi .slt v877 c0_i32_677
  let c0_i32_678 : BitVec 32 := 0#32
  let v880 : BitVec 1 := Scalar.cmpi .slt v876 c0_i32_678
  let v881 : BitVec 1 := Scalar.xori v879 v880
  let c0_i32_676 : BitVec 32 := 0#32
  let v878 : BitVec 1 := Scalar.cmpi .ne v877 c0_i32_676
  let v882 : BitVec 1 := Scalar.andi v881 v878
  let v883 : BitVec 32 := Scalar.addi v877 v876
  let v884 : BitVec 32 := Scalar.select v882 v883 v877
  let v885 : BitVec 32 := Scalar.select v862 v873 v884
  let c512_i32_679 : BitVec 32 := 512#32
  let v886 : BitVec 32 := Scalar.muli v885 c512_i32_679
  let c1_i32_680 : BitVec 32 := 1#32
  let v887 : BitVec 32 := Scalar.subi c1_i32_680 v2
  let c6_i32_681 : BitVec 32 := 6#32
  let v888 : BitVec 32 := Scalar.muli v887 c6_i32_681
  let c64_i32_682 : BitVec 32 := 64#32
  let v889 : BitVec 32 := Scalar.muli v888 c64_i32_682
  let v890 : BitVec 32 := Scalar.addi v886 v889
  let c0_i32_689 : BitVec 32 := 0#32
  ![v890.toNat, 0]
def k0_off52_at (r : Fin 8) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        (7#32, 7#32)
def k0_off53 (d0 : Dev nD) (c0_i32_665 : BitVec 32) (c0_i32_672 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_664 : BitVec 32 := 0#32
  let v862 : BitVec 1 := Scalar.cmpi .eq v2 c0_i32_664
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v863 : BitVec 32 := Scalar.addi v11 c0_i32_665
  let c8_i32_666 : BitVec 32 := 8#32
  let c0_i32_667 : BitVec 32 := 0#32
  let v864 : BitVec 1 := Scalar.cmpi .eq c8_i32_666 c0_i32_667
  let c1_i32_668 : BitVec 32 := 1#32
  let v865 : BitVec 32 := Scalar.select v864 c1_i32_668 c8_i32_666
  let v866 : BitVec 32 := Scalar.remsi v863 v865
  let c0_i32_670 : BitVec 32 := 0#32
  let v868 : BitVec 1 := Scalar.cmpi .slt v866 c0_i32_670
  let c0_i32_671 : BitVec 32 := 0#32
  let v869 : BitVec 1 := Scalar.cmpi .slt v865 c0_i32_671
  let v870 : BitVec 1 := Scalar.xori v868 v869
  let c0_i32_669 : BitVec 32 := 0#32
  let v867 : BitVec 1 := Scalar.cmpi .ne v866 c0_i32_669
  let v871 : BitVec 1 := Scalar.andi v870 v867
  let v872 : BitVec 32 := Scalar.addi v866 v865
  let v873 : BitVec 32 := Scalar.select v871 v872 v866
  let v874 : BitVec 32 := Scalar.subi v11 c0_i32_672
  let c8_i32_673 : BitVec 32 := 8#32
  let c0_i32_674 : BitVec 32 := 0#32
  let v875 : BitVec 1 := Scalar.cmpi .eq c8_i32_673 c0_i32_674
  let c1_i32_675 : BitVec 32 := 1#32
  let v876 : BitVec 32 := Scalar.select v875 c1_i32_675 c8_i32_673
  let v877 : BitVec 32 := Scalar.remsi v874 v876
  let c0_i32_677 : BitVec 32 := 0#32
  let v879 : BitVec 1 := Scalar.cmpi .slt v877 c0_i32_677
  let c0_i32_678 : BitVec 32 := 0#32
  let v880 : BitVec 1 := Scalar.cmpi .slt v876 c0_i32_678
  let v881 : BitVec 1 := Scalar.xori v879 v880
  let c0_i32_676 : BitVec 32 := 0#32
  let v878 : BitVec 1 := Scalar.cmpi .ne v877 c0_i32_676
  let v882 : BitVec 1 := Scalar.andi v881 v878
  let v883 : BitVec 32 := Scalar.addi v877 v876
  let v884 : BitVec 32 := Scalar.select v882 v883 v877
  let v885 : BitVec 32 := Scalar.select v862 v873 v884
  let c512_i32_679 : BitVec 32 := 512#32
  let v886 : BitVec 32 := Scalar.muli v885 c512_i32_679
  let c1_i32_680 : BitVec 32 := 1#32
  let v887 : BitVec 32 := Scalar.subi c1_i32_680 v2
  let c6_i32_681 : BitVec 32 := 6#32
  let v888 : BitVec 32 := Scalar.muli v887 c6_i32_681
  let c64_i32_682 : BitVec 32 := 64#32
  let v889 : BitVec 32 := Scalar.muli v888 c64_i32_682
  let v890 : BitVec 32 := Scalar.addi v886 v889
  let v901 : Index := Scalar.indexCast v890
  let c0_691 : Index := 0#32
  ![v901.toNat, 0]
def k0_off53_at (r : Fin 8) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        (7#32, 7#32)
def k0_dev26 (d0 : Dev nD) : Nat :=
  let c0_i32_720 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_719 : BitVec 32 := 8#32
  let v936 : BitVec 32 := Scalar.muli v2 c8_i32_719
  let v937 : BitVec 32 := Scalar.addi c0_i32_720 v936
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_721 : BitVec 32 := 4#32
  let v938 : BitVec 32 := Scalar.muli v26 c4_i32_721
  let v939 : BitVec 32 := Scalar.addi v937 v938
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_722 : BitVec 32 := 1#32
  let v940 : BitVec 32 := Scalar.muli v29 c1_i32_722
  let v941 : BitVec 32 := Scalar.addi v939 v940
  v941.toNat
def k0_dev27 (d0 : Dev nD) : Nat :=
  let c0_i32_749 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_748 : BitVec 32 := 8#32
  let v972 : BitVec 32 := Scalar.muli v2 c8_i32_748
  let v973 : BitVec 32 := Scalar.addi c0_i32_749 v972
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_750 : BitVec 32 := 4#32
  let v974 : BitVec 32 := Scalar.muli v42 c4_i32_750
  let v975 : BitVec 32 := Scalar.addi v973 v974
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_751 : BitVec 32 := 1#32
  let v976 : BitVec 32 := Scalar.muli v45 c1_i32_751
  let v977 : BitVec 32 := Scalar.addi v975 v976
  v977.toNat
def k0_dev28 (d0 : Dev nD) : Nat :=
  let c0_i32_778 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_777 : BitVec 32 := 8#32
  let v1008 : BitVec 32 := Scalar.muli v2 c8_i32_777
  let v1009 : BitVec 32 := Scalar.addi c0_i32_778 v1008
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_779 : BitVec 32 := 4#32
  let v1010 : BitVec 32 := Scalar.muli v26 c4_i32_779
  let v1011 : BitVec 32 := Scalar.addi v1009 v1010
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_780 : BitVec 32 := 1#32
  let v1012 : BitVec 32 := Scalar.muli v29 c1_i32_780
  let v1013 : BitVec 32 := Scalar.addi v1011 v1012
  v1013.toNat
def k0_dev29 (d0 : Dev nD) : Nat :=
  let c0_i32_807 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_806 : BitVec 32 := 8#32
  let v1044 : BitVec 32 := Scalar.muli v2 c8_i32_806
  let v1045 : BitVec 32 := Scalar.addi c0_i32_807 v1044
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_808 : BitVec 32 := 4#32
  let v1046 : BitVec 32 := Scalar.muli v42 c4_i32_808
  let v1047 : BitVec 32 := Scalar.addi v1045 v1046
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_809 : BitVec 32 := 1#32
  let v1048 : BitVec 32 := Scalar.muli v45 c1_i32_809
  let v1049 : BitVec 32 := Scalar.addi v1047 v1048
  v1049.toNat
def k0_dev30 (d0 : Dev nD) : Nat :=
  let c0_i32_836 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_835 : BitVec 32 := 8#32
  let v1080 : BitVec 32 := Scalar.muli v2 c8_i32_835
  let v1081 : BitVec 32 := Scalar.addi c0_i32_836 v1080
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_837 : BitVec 32 := 4#32
  let v1082 : BitVec 32 := Scalar.muli v26 c4_i32_837
  let v1083 : BitVec 32 := Scalar.addi v1081 v1082
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_838 : BitVec 32 := 1#32
  let v1084 : BitVec 32 := Scalar.muli v29 c1_i32_838
  let v1085 : BitVec 32 := Scalar.addi v1083 v1084
  v1085.toNat
def k0_dev31 (d0 : Dev nD) : Nat :=
  let c0_i32_865 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_864 : BitVec 32 := 8#32
  let v1116 : BitVec 32 := Scalar.muli v2 c8_i32_864
  let v1117 : BitVec 32 := Scalar.addi c0_i32_865 v1116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_866 : BitVec 32 := 4#32
  let v1118 : BitVec 32 := Scalar.muli v42 c4_i32_866
  let v1119 : BitVec 32 := Scalar.addi v1117 v1118
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_867 : BitVec 32 := 1#32
  let v1120 : BitVec 32 := Scalar.muli v45 c1_i32_867
  let v1121 : BitVec 32 := Scalar.addi v1119 v1120
  v1121.toNat
def k0_dev32 (d0 : Dev nD) : Nat :=
  let c0_i32_891 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_890 : BitVec 32 := 8#32
  let v1156 : BitVec 32 := Scalar.muli v46 c8_i32_890
  let v1157 : BitVec 32 := Scalar.addi c0_i32_891 v1156
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_892 : BitVec 32 := 4#32
  let v1158 : BitVec 32 := Scalar.muli v5 c4_i32_892
  let v1159 : BitVec 32 := Scalar.addi v1157 v1158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_893 : BitVec 32 := 1#32
  let v1160 : BitVec 32 := Scalar.muli v8 c1_i32_893
  let v1161 : BitVec 32 := Scalar.addi v1159 v1160
  v1161.toNat
def k0_dev33 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1291 : BitVec 32 := Scalar.muli v2 c8_i32_980
  let v1292 : BitVec 32 := Scalar.addi c0_i32_981 v1291
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_982 : BitVec 32 := 4#32
  let v1293 : BitVec 32 := Scalar.muli v26 c4_i32_982
  let v1294 : BitVec 32 := Scalar.addi v1292 v1293
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_983 : BitVec 32 := 1#32
  let v1295 : BitVec 32 := Scalar.muli v29 c1_i32_983
  let v1296 : BitVec 32 := Scalar.addi v1294 v1295
  v1296.toNat
def k0_dev34 (d0 : Dev nD) : Nat :=
  let c0_i32_1010 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1009 : BitVec 32 := 8#32
  let v1327 : BitVec 32 := Scalar.muli v2 c8_i32_1009
  let v1328 : BitVec 32 := Scalar.addi c0_i32_1010 v1327
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1011 : BitVec 32 := 4#32
  let v1329 : BitVec 32 := Scalar.muli v42 c4_i32_1011
  let v1330 : BitVec 32 := Scalar.addi v1328 v1329
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1012 : BitVec 32 := 1#32
  let v1331 : BitVec 32 := Scalar.muli v45 c1_i32_1012
  let v1332 : BitVec 32 := Scalar.addi v1330 v1331
  v1332.toNat
def k0_dev35 (d0 : Dev nD) : Nat :=
  let c0_i32_1039 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1038 : BitVec 32 := 8#32
  let v1363 : BitVec 32 := Scalar.muli v2 c8_i32_1038
  let v1364 : BitVec 32 := Scalar.addi c0_i32_1039 v1363
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1040 : BitVec 32 := 4#32
  let v1365 : BitVec 32 := Scalar.muli v26 c4_i32_1040
  let v1366 : BitVec 32 := Scalar.addi v1364 v1365
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1041 : BitVec 32 := 1#32
  let v1367 : BitVec 32 := Scalar.muli v29 c1_i32_1041
  let v1368 : BitVec 32 := Scalar.addi v1366 v1367
  v1368.toNat
def k0_dev36 (d0 : Dev nD) : Nat :=
  let c0_i32_1068 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1067 : BitVec 32 := 8#32
  let v1399 : BitVec 32 := Scalar.muli v2 c8_i32_1067
  let v1400 : BitVec 32 := Scalar.addi c0_i32_1068 v1399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1069 : BitVec 32 := 4#32
  let v1401 : BitVec 32 := Scalar.muli v42 c4_i32_1069
  let v1402 : BitVec 32 := Scalar.addi v1400 v1401
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1070 : BitVec 32 := 1#32
  let v1403 : BitVec 32 := Scalar.muli v45 c1_i32_1070
  let v1404 : BitVec 32 := Scalar.addi v1402 v1403
  v1404.toNat
def k0_dev37 (d0 : Dev nD) : Nat :=
  let c0_i32_1097 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1096 : BitVec 32 := 8#32
  let v1435 : BitVec 32 := Scalar.muli v2 c8_i32_1096
  let v1436 : BitVec 32 := Scalar.addi c0_i32_1097 v1435
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1098 : BitVec 32 := 4#32
  let v1437 : BitVec 32 := Scalar.muli v26 c4_i32_1098
  let v1438 : BitVec 32 := Scalar.addi v1436 v1437
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1099 : BitVec 32 := 1#32
  let v1439 : BitVec 32 := Scalar.muli v29 c1_i32_1099
  let v1440 : BitVec 32 := Scalar.addi v1438 v1439
  v1440.toNat
def k0_dev38 (d0 : Dev nD) : Nat :=
  let c0_i32_1126 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1125 : BitVec 32 := 8#32
  let v1471 : BitVec 32 := Scalar.muli v2 c8_i32_1125
  let v1472 : BitVec 32 := Scalar.addi c0_i32_1126 v1471
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1127 : BitVec 32 := 4#32
  let v1473 : BitVec 32 := Scalar.muli v42 c4_i32_1127
  let v1474 : BitVec 32 := Scalar.addi v1472 v1473
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1128 : BitVec 32 := 1#32
  let v1475 : BitVec 32 := Scalar.muli v45 c1_i32_1128
  let v1476 : BitVec 32 := Scalar.addi v1474 v1475
  v1476.toNat
def k0_dev39 (d0 : Dev nD) : Nat :=
  let c0_i32_1152 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_1151 : BitVec 32 := 8#32
  let v1511 : BitVec 32 := Scalar.muli v46 c8_i32_1151
  let v1512 : BitVec 32 := Scalar.addi c0_i32_1152 v1511
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1153 : BitVec 32 := 4#32
  let v1513 : BitVec 32 := Scalar.muli v5 c4_i32_1153
  let v1514 : BitVec 32 := Scalar.addi v1512 v1513
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1154 : BitVec 32 := 1#32
  let v1515 : BitVec 32 := Scalar.muli v8 c1_i32_1154
  let v1516 : BitVec 32 := Scalar.addi v1514 v1515
  v1516.toNat
def k0_dev40 (d0 : Dev nD) : Nat :=
  let c0_i32_1242 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1241 : BitVec 32 := 8#32
  let v1646 : BitVec 32 := Scalar.muli v2 c8_i32_1241
  let v1647 : BitVec 32 := Scalar.addi c0_i32_1242 v1646
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1243 : BitVec 32 := 4#32
  let v1648 : BitVec 32 := Scalar.muli v26 c4_i32_1243
  let v1649 : BitVec 32 := Scalar.addi v1647 v1648
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1244 : BitVec 32 := 1#32
  let v1650 : BitVec 32 := Scalar.muli v29 c1_i32_1244
  let v1651 : BitVec 32 := Scalar.addi v1649 v1650
  v1651.toNat
def k0_dev41 (d0 : Dev nD) : Nat :=
  let c0_i32_1271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1270 : BitVec 32 := 8#32
  let v1682 : BitVec 32 := Scalar.muli v2 c8_i32_1270
  let v1683 : BitVec 32 := Scalar.addi c0_i32_1271 v1682
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1272 : BitVec 32 := 4#32
  let v1684 : BitVec 32 := Scalar.muli v42 c4_i32_1272
  let v1685 : BitVec 32 := Scalar.addi v1683 v1684
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1273 : BitVec 32 := 1#32
  let v1686 : BitVec 32 := Scalar.muli v45 c1_i32_1273
  let v1687 : BitVec 32 := Scalar.addi v1685 v1686
  v1687.toNat
def k0_dev42 (d0 : Dev nD) : Nat :=
  let c0_i32_1300 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1299 : BitVec 32 := 8#32
  let v1718 : BitVec 32 := Scalar.muli v2 c8_i32_1299
  let v1719 : BitVec 32 := Scalar.addi c0_i32_1300 v1718
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1301 : BitVec 32 := 4#32
  let v1720 : BitVec 32 := Scalar.muli v26 c4_i32_1301
  let v1721 : BitVec 32 := Scalar.addi v1719 v1720
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1302 : BitVec 32 := 1#32
  let v1722 : BitVec 32 := Scalar.muli v29 c1_i32_1302
  let v1723 : BitVec 32 := Scalar.addi v1721 v1722
  v1723.toNat
def k0_dev43 (d0 : Dev nD) : Nat :=
  let c0_i32_1329 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1328 : BitVec 32 := 8#32
  let v1754 : BitVec 32 := Scalar.muli v2 c8_i32_1328
  let v1755 : BitVec 32 := Scalar.addi c0_i32_1329 v1754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1330 : BitVec 32 := 4#32
  let v1756 : BitVec 32 := Scalar.muli v42 c4_i32_1330
  let v1757 : BitVec 32 := Scalar.addi v1755 v1756
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1331 : BitVec 32 := 1#32
  let v1758 : BitVec 32 := Scalar.muli v45 c1_i32_1331
  let v1759 : BitVec 32 := Scalar.addi v1757 v1758
  v1759.toNat
def k0_dev44 (d0 : Dev nD) : Nat :=
  let c0_i32_1358 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1357 : BitVec 32 := 8#32
  let v1790 : BitVec 32 := Scalar.muli v2 c8_i32_1357
  let v1791 : BitVec 32 := Scalar.addi c0_i32_1358 v1790
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1359 : BitVec 32 := 4#32
  let v1792 : BitVec 32 := Scalar.muli v26 c4_i32_1359
  let v1793 : BitVec 32 := Scalar.addi v1791 v1792
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1360 : BitVec 32 := 1#32
  let v1794 : BitVec 32 := Scalar.muli v29 c1_i32_1360
  let v1795 : BitVec 32 := Scalar.addi v1793 v1794
  v1795.toNat
def k0_dev45 (d0 : Dev nD) : Nat :=
  let c0_i32_1387 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1386 : BitVec 32 := 8#32
  let v1826 : BitVec 32 := Scalar.muli v2 c8_i32_1386
  let v1827 : BitVec 32 := Scalar.addi c0_i32_1387 v1826
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1388 : BitVec 32 := 4#32
  let v1828 : BitVec 32 := Scalar.muli v42 c4_i32_1388
  let v1829 : BitVec 32 := Scalar.addi v1827 v1828
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1389 : BitVec 32 := 1#32
  let v1830 : BitVec 32 := Scalar.muli v45 c1_i32_1389
  let v1831 : BitVec 32 := Scalar.addi v1829 v1830
  v1831.toNat
def k0_dev46 (d0 : Dev nD) : Nat :=
  let c0_i32_1413 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_1412 : BitVec 32 := 8#32
  let v1866 : BitVec 32 := Scalar.muli v46 c8_i32_1412
  let v1867 : BitVec 32 := Scalar.addi c0_i32_1413 v1866
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1414 : BitVec 32 := 4#32
  let v1868 : BitVec 32 := Scalar.muli v5 c4_i32_1414
  let v1869 : BitVec 32 := Scalar.addi v1867 v1868
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1415 : BitVec 32 := 1#32
  let v1870 : BitVec 32 := Scalar.muli v8 c1_i32_1415
  let v1871 : BitVec 32 := Scalar.addi v1869 v1870
  v1871.toNat
def k0_dev47 (d0 : Dev nD) : Nat :=
  let c0_i32_1503 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1502 : BitVec 32 := 8#32
  let v2001 : BitVec 32 := Scalar.muli v2 c8_i32_1502
  let v2002 : BitVec 32 := Scalar.addi c0_i32_1503 v2001
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1504 : BitVec 32 := 4#32
  let v2003 : BitVec 32 := Scalar.muli v26 c4_i32_1504
  let v2004 : BitVec 32 := Scalar.addi v2002 v2003
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1505 : BitVec 32 := 1#32
  let v2005 : BitVec 32 := Scalar.muli v29 c1_i32_1505
  let v2006 : BitVec 32 := Scalar.addi v2004 v2005
  v2006.toNat
def k0_dev48 (d0 : Dev nD) : Nat :=
  let c0_i32_1532 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1531 : BitVec 32 := 8#32
  let v2037 : BitVec 32 := Scalar.muli v2 c8_i32_1531
  let v2038 : BitVec 32 := Scalar.addi c0_i32_1532 v2037
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1533 : BitVec 32 := 4#32
  let v2039 : BitVec 32 := Scalar.muli v42 c4_i32_1533
  let v2040 : BitVec 32 := Scalar.addi v2038 v2039
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1534 : BitVec 32 := 1#32
  let v2041 : BitVec 32 := Scalar.muli v45 c1_i32_1534
  let v2042 : BitVec 32 := Scalar.addi v2040 v2041
  v2042.toNat
def k0_dev49 (d0 : Dev nD) : Nat :=
  let c0_i32_1561 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1560 : BitVec 32 := 8#32
  let v2073 : BitVec 32 := Scalar.muli v2 c8_i32_1560
  let v2074 : BitVec 32 := Scalar.addi c0_i32_1561 v2073
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1562 : BitVec 32 := 4#32
  let v2075 : BitVec 32 := Scalar.muli v26 c4_i32_1562
  let v2076 : BitVec 32 := Scalar.addi v2074 v2075
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1563 : BitVec 32 := 1#32
  let v2077 : BitVec 32 := Scalar.muli v29 c1_i32_1563
  let v2078 : BitVec 32 := Scalar.addi v2076 v2077
  v2078.toNat
def k0_dev50 (d0 : Dev nD) : Nat :=
  let c0_i32_1590 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1589 : BitVec 32 := 8#32
  let v2109 : BitVec 32 := Scalar.muli v2 c8_i32_1589
  let v2110 : BitVec 32 := Scalar.addi c0_i32_1590 v2109
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1591 : BitVec 32 := 4#32
  let v2111 : BitVec 32 := Scalar.muli v42 c4_i32_1591
  let v2112 : BitVec 32 := Scalar.addi v2110 v2111
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1592 : BitVec 32 := 1#32
  let v2113 : BitVec 32 := Scalar.muli v45 c1_i32_1592
  let v2114 : BitVec 32 := Scalar.addi v2112 v2113
  v2114.toNat
def k0_dev51 (d0 : Dev nD) : Nat :=
  let c0_i32_1619 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1618 : BitVec 32 := 8#32
  let v2145 : BitVec 32 := Scalar.muli v2 c8_i32_1618
  let v2146 : BitVec 32 := Scalar.addi c0_i32_1619 v2145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1620 : BitVec 32 := 4#32
  let v2147 : BitVec 32 := Scalar.muli v26 c4_i32_1620
  let v2148 : BitVec 32 := Scalar.addi v2146 v2147
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1621 : BitVec 32 := 1#32
  let v2149 : BitVec 32 := Scalar.muli v29 c1_i32_1621
  let v2150 : BitVec 32 := Scalar.addi v2148 v2149
  v2150.toNat
def k0_dev52 (d0 : Dev nD) : Nat :=
  let c0_i32_1648 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1647 : BitVec 32 := 8#32
  let v2181 : BitVec 32 := Scalar.muli v2 c8_i32_1647
  let v2182 : BitVec 32 := Scalar.addi c0_i32_1648 v2181
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1649 : BitVec 32 := 4#32
  let v2183 : BitVec 32 := Scalar.muli v42 c4_i32_1649
  let v2184 : BitVec 32 := Scalar.addi v2182 v2183
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1650 : BitVec 32 := 1#32
  let v2185 : BitVec 32 := Scalar.muli v45 c1_i32_1650
  let v2186 : BitVec 32 := Scalar.addi v2184 v2185
  v2186.toNat
def k0_dev53 (d0 : Dev nD) : Nat :=
  let c0_i32_1674 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_1673 : BitVec 32 := 8#32
  let v2221 : BitVec 32 := Scalar.muli v46 c8_i32_1673
  let v2222 : BitVec 32 := Scalar.addi c0_i32_1674 v2221
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1675 : BitVec 32 := 4#32
  let v2223 : BitVec 32 := Scalar.muli v5 c4_i32_1675
  let v2224 : BitVec 32 := Scalar.addi v2222 v2223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1676 : BitVec 32 := 1#32
  let v2225 : BitVec 32 := Scalar.muli v8 c1_i32_1676
  let v2226 : BitVec 32 := Scalar.addi v2224 v2225
  v2226.toNat
def k0_dev54 (d0 : Dev nD) : Nat :=
  let c0_i32_1764 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1763 : BitVec 32 := 8#32
  let v2356 : BitVec 32 := Scalar.muli v2 c8_i32_1763
  let v2357 : BitVec 32 := Scalar.addi c0_i32_1764 v2356
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1765 : BitVec 32 := 4#32
  let v2358 : BitVec 32 := Scalar.muli v26 c4_i32_1765
  let v2359 : BitVec 32 := Scalar.addi v2357 v2358
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1766 : BitVec 32 := 1#32
  let v2360 : BitVec 32 := Scalar.muli v29 c1_i32_1766
  let v2361 : BitVec 32 := Scalar.addi v2359 v2360
  v2361.toNat
def k0_dev55 (d0 : Dev nD) : Nat :=
  let c0_i32_1793 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1792 : BitVec 32 := 8#32
  let v2392 : BitVec 32 := Scalar.muli v2 c8_i32_1792
  let v2393 : BitVec 32 := Scalar.addi c0_i32_1793 v2392
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1794 : BitVec 32 := 4#32
  let v2394 : BitVec 32 := Scalar.muli v42 c4_i32_1794
  let v2395 : BitVec 32 := Scalar.addi v2393 v2394
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1795 : BitVec 32 := 1#32
  let v2396 : BitVec 32 := Scalar.muli v45 c1_i32_1795
  let v2397 : BitVec 32 := Scalar.addi v2395 v2396
  v2397.toNat
def k0_dev56 (d0 : Dev nD) : Nat :=
  let c0_i32_1822 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1821 : BitVec 32 := 8#32
  let v2428 : BitVec 32 := Scalar.muli v2 c8_i32_1821
  let v2429 : BitVec 32 := Scalar.addi c0_i32_1822 v2428
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1823 : BitVec 32 := 4#32
  let v2430 : BitVec 32 := Scalar.muli v26 c4_i32_1823
  let v2431 : BitVec 32 := Scalar.addi v2429 v2430
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1824 : BitVec 32 := 1#32
  let v2432 : BitVec 32 := Scalar.muli v29 c1_i32_1824
  let v2433 : BitVec 32 := Scalar.addi v2431 v2432
  v2433.toNat
def k0_dev57 (d0 : Dev nD) : Nat :=
  let c0_i32_1851 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1850 : BitVec 32 := 8#32
  let v2464 : BitVec 32 := Scalar.muli v2 c8_i32_1850
  let v2465 : BitVec 32 := Scalar.addi c0_i32_1851 v2464
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1852 : BitVec 32 := 4#32
  let v2466 : BitVec 32 := Scalar.muli v42 c4_i32_1852
  let v2467 : BitVec 32 := Scalar.addi v2465 v2466
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1853 : BitVec 32 := 1#32
  let v2468 : BitVec 32 := Scalar.muli v45 c1_i32_1853
  let v2469 : BitVec 32 := Scalar.addi v2467 v2468
  v2469.toNat
def k0_dev58 (d0 : Dev nD) : Nat :=
  let c0_i32_1880 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1879 : BitVec 32 := 8#32
  let v2500 : BitVec 32 := Scalar.muli v2 c8_i32_1879
  let v2501 : BitVec 32 := Scalar.addi c0_i32_1880 v2500
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_3 : BitVec 32 := 1#32
  let v14 : BitVec 32 := Scalar.addi v11 c1_i32_3
  let c8_i32_4 : BitVec 32 := 8#32
  let c0_i32_5 : BitVec 32 := 0#32
  let v15 : BitVec 1 := Scalar.cmpi .eq c8_i32_4 c0_i32_5
  let c1_i32_6 : BitVec 32 := 1#32
  let v16 : BitVec 32 := Scalar.select v15 c1_i32_6 c8_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c4_i32_10 : BitVec 32 := 4#32
  let v25 : BitVec 1 := Scalar.cmpi .slt v24 c4_i32_10
  let c0_i32_11 : BitVec 32 := 0#32
  let c1_i32_12 : BitVec 32 := 1#32
  let v26 : BitVec 32 := Scalar.select v25 c0_i32_11 c1_i32_12
  let c4_i32_1881 : BitVec 32 := 4#32
  let v2502 : BitVec 32 := Scalar.muli v26 c4_i32_1881
  let v2503 : BitVec 32 := Scalar.addi v2501 v2502
  let c4_i32_13 : BitVec 32 := 4#32
  let v27 : BitVec 1 := Scalar.cmpi .slt v24 c4_i32_13
  let c7_i32_14 : BitVec 32 := 7#32
  let v28 : BitVec 32 := Scalar.subi c7_i32_14 v24
  let v29 : BitVec 32 := Scalar.select v27 v24 v28
  let c1_i32_1882 : BitVec 32 := 1#32
  let v2504 : BitVec 32 := Scalar.muli v29 c1_i32_1882
  let v2505 : BitVec 32 := Scalar.addi v2503 v2504
  v2505.toNat
def k0_dev59 (d0 : Dev nD) : Nat :=
  let c0_i32_1909 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1908 : BitVec 32 := 8#32
  let v2536 : BitVec 32 := Scalar.muli v2 c8_i32_1908
  let v2537 : BitVec 32 := Scalar.addi c0_i32_1909 v2536
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_15 : BitVec 32 := 1#32
  let v30 : BitVec 32 := Scalar.subi v11 c1_i32_15
  let c8_i32_16 : BitVec 32 := 8#32
  let c0_i32_17 : BitVec 32 := 0#32
  let v31 : BitVec 1 := Scalar.cmpi .eq c8_i32_16 c0_i32_17
  let c1_i32_18 : BitVec 32 := 1#32
  let v32 : BitVec 32 := Scalar.select v31 c1_i32_18 c8_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c4_i32_22 : BitVec 32 := 4#32
  let v41 : BitVec 1 := Scalar.cmpi .slt v40 c4_i32_22
  let c0_i32_23 : BitVec 32 := 0#32
  let c1_i32_24 : BitVec 32 := 1#32
  let v42 : BitVec 32 := Scalar.select v41 c0_i32_23 c1_i32_24
  let c4_i32_1910 : BitVec 32 := 4#32
  let v2538 : BitVec 32 := Scalar.muli v42 c4_i32_1910
  let v2539 : BitVec 32 := Scalar.addi v2537 v2538
  let c4_i32_25 : BitVec 32 := 4#32
  let v43 : BitVec 1 := Scalar.cmpi .slt v40 c4_i32_25
  let c7_i32_26 : BitVec 32 := 7#32
  let v44 : BitVec 32 := Scalar.subi c7_i32_26 v40
  let v45 : BitVec 32 := Scalar.select v43 v40 v44
  let c1_i32_1911 : BitVec 32 := 1#32
  let v2540 : BitVec 32 := Scalar.muli v45 c1_i32_1911
  let v2541 : BitVec 32 := Scalar.addi v2539 v2540
  v2541.toNat
def k0_dev60 (d0 : Dev nD) : Nat :=
  let c0_i32_1935 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_1934 : BitVec 32 := 8#32
  let v2576 : BitVec 32 := Scalar.muli v46 c8_i32_1934
  let v2577 : BitVec 32 := Scalar.addi c0_i32_1935 v2576
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1936 : BitVec 32 := 4#32
  let v2578 : BitVec 32 := Scalar.muli v5 c4_i32_1936
  let v2579 : BitVec 32 := Scalar.addi v2577 v2578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1937 : BitVec 32 := 1#32
  let v2580 : BitVec 32 := Scalar.muli v8 c1_i32_1937
  let v2581 : BitVec 32 := Scalar.addi v2579 v2580
  v2581.toNat
def k0_dev61 (d0 : Dev nD) : Nat :=
  let c0_i32_2082 : BitVec 32 := 0#32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c8_i32_2081 : BitVec 32 := 8#32
  let v2775 : BitVec 32 := Scalar.muli v46 c8_i32_2081
  let v2776 : BitVec 32 := Scalar.addi c0_i32_2082 v2775
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2083 : BitVec 32 := 4#32
  let v2777 : BitVec 32 := Scalar.muli v5 c4_i32_2083
  let v2778 : BitVec 32 := Scalar.addi v2776 v2777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2084 : BitVec 32 := 1#32
  let v2779 : BitVec 32 := Scalar.muli v8 c1_i32_2084
  let v2780 : BitVec 32 := Scalar.addi v2778 v2779
  v2780.toNat
def k0_cond9 (d0 : Dev nD) : BitVec 1 :=
  let c2_i32_2182 : BitVec 32 := 2#32
  let c1_i32_2180 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2936 : BitVec 32 := Scalar.subi c1_i32_2180 v2
  let c2_i32_2181 : BitVec 32 := 2#32
  let v2937 : BitVec 32 := Scalar.muli v2936 c2_i32_2181
  let v2938 : BitVec 32 := Scalar.subi c2_i32_2182 v2937
  let c0_i32_2183 : BitVec 32 := 0#32
  let v2939 : BitVec 1 := Scalar.cmpi .sge v2938 c0_i32_2183
  let c5_i32_2184 : BitVec 32 := 5#32
  let v2940 : BitVec 1 := Scalar.cmpi .sle v2938 c5_i32_2184
  let v2941 : BitVec 1 := Scalar.andi v2939 v2940
  let v2942 : BitVec 32 := Scalar.extui v2941
  let c0_i32_2185 : BitVec 32 := 0#32
  let v2943 : BitVec 1 := Scalar.cmpi .ne v2942 c0_i32_2185
  v2943

def k0_off54 (d0 : Dev nD) : Fin 2 → Nat :=
  let c2_i32_2646 : BitVec 32 := 2#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c2_i32_2646 v3291
  let c64_i32_2647 : BitVec 32 := 64#32
  let v3293 : BitVec 32 := Scalar.muli v3292 c64_i32_2647
  let c0_i32_2652 : BitVec 32 := 0#32
  ![v3293.toNat, 0]
def k0_cond10 (d0 : Dev nD) : BitVec 1 :=
  let c5_i32_2188 : BitVec 32 := 5#32
  let c1_i32_2186 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2944 : BitVec 32 := Scalar.subi c1_i32_2186 v2
  let c2_i32_2187 : BitVec 32 := 2#32
  let v2945 : BitVec 32 := Scalar.muli v2944 c2_i32_2187
  let v2946 : BitVec 32 := Scalar.subi c5_i32_2188 v2945
  let c0_i32_2189 : BitVec 32 := 0#32
  let v2947 : BitVec 1 := Scalar.cmpi .sge v2946 c0_i32_2189
  let c5_i32_2190 : BitVec 32 := 5#32
  let v2948 : BitVec 1 := Scalar.cmpi .sle v2946 c5_i32_2190
  let v2949 : BitVec 1 := Scalar.andi v2947 v2948
  let v2950 : BitVec 32 := Scalar.extui v2949
  let c0_i32_2191 : BitVec 32 := 0#32
  let v2951 : BitVec 1 := Scalar.cmpi .ne v2950 c0_i32_2191
  v2951

def k0_off55 (d0 : Dev nD) : Fin 2 → Nat :=
  let c5_i32_2646 : BitVec 32 := 5#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c5_i32_2646 v3291
  let c64_i32_2647 : BitVec 32 := 64#32
  let v3293 : BitVec 32 := Scalar.muli v3292 c64_i32_2647
  let c0_i32_2652 : BitVec 32 := 0#32
  ![v3293.toNat, 0]
def k0_cond11 (d0 : Dev nD) : BitVec 1 :=
  let c0_i32_2194 : BitVec 32 := 0#32
  let c1_i32_2192 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2952 : BitVec 32 := Scalar.subi c1_i32_2192 v2
  let c2_i32_2193 : BitVec 32 := 2#32
  let v2953 : BitVec 32 := Scalar.muli v2952 c2_i32_2193
  let v2954 : BitVec 32 := Scalar.subi c0_i32_2194 v2953
  let c0_i32_2195 : BitVec 32 := 0#32
  let v2955 : BitVec 1 := Scalar.cmpi .sge v2954 c0_i32_2195
  let c5_i32_2196 : BitVec 32 := 5#32
  let v2956 : BitVec 1 := Scalar.cmpi .sle v2954 c5_i32_2196
  let v2957 : BitVec 1 := Scalar.andi v2955 v2956
  let v2958 : BitVec 32 := Scalar.extui v2957
  let c0_i32_2197 : BitVec 32 := 0#32
  let v2959 : BitVec 1 := Scalar.cmpi .ne v2958 c0_i32_2197
  v2959

def k0_off56 (d0 : Dev nD) : Fin 2 → Nat :=
  let c0_i32_2646 : BitVec 32 := 0#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c0_i32_2646 v3291
  let c64_i32_2647 : BitVec 32 := 64#32
  let v3293 : BitVec 32 := Scalar.muli v3292 c64_i32_2647
  let c0_i32_2652 : BitVec 32 := 0#32
  ![v3293.toNat, 0]
def k0_cond12 (d0 : Dev nD) : BitVec 1 :=
  let c3_i32_2200 : BitVec 32 := 3#32
  let c1_i32_2198 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2960 : BitVec 32 := Scalar.subi c1_i32_2198 v2
  let c2_i32_2199 : BitVec 32 := 2#32
  let v2961 : BitVec 32 := Scalar.muli v2960 c2_i32_2199
  let v2962 : BitVec 32 := Scalar.subi c3_i32_2200 v2961
  let c0_i32_2201 : BitVec 32 := 0#32
  let v2963 : BitVec 1 := Scalar.cmpi .sge v2962 c0_i32_2201
  let c5_i32_2202 : BitVec 32 := 5#32
  let v2964 : BitVec 1 := Scalar.cmpi .sle v2962 c5_i32_2202
  let v2965 : BitVec 1 := Scalar.andi v2963 v2964
  let v2966 : BitVec 32 := Scalar.extui v2965
  let c0_i32_2203 : BitVec 32 := 0#32
  let v2967 : BitVec 1 := Scalar.cmpi .ne v2966 c0_i32_2203
  v2967

def k0_off57 (d0 : Dev nD) : Fin 2 → Nat :=
  let c3_i32_2646 : BitVec 32 := 3#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c3_i32_2646 v3291
  let c64_i32_2647 : BitVec 32 := 64#32
  let v3293 : BitVec 32 := Scalar.muli v3292 c64_i32_2647
  let c0_i32_2652 : BitVec 32 := 0#32
  ![v3293.toNat, 0]
def k0_cond13 (d0 : Dev nD) : BitVec 1 :=
  let c4_i32_2206 : BitVec 32 := 4#32
  let c1_i32_2204 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2968 : BitVec 32 := Scalar.subi c1_i32_2204 v2
  let c2_i32_2205 : BitVec 32 := 2#32
  let v2969 : BitVec 32 := Scalar.muli v2968 c2_i32_2205
  let v2970 : BitVec 32 := Scalar.subi c4_i32_2206 v2969
  let c0_i32_2207 : BitVec 32 := 0#32
  let v2971 : BitVec 1 := Scalar.cmpi .sge v2970 c0_i32_2207
  let c5_i32_2208 : BitVec 32 := 5#32
  let v2972 : BitVec 1 := Scalar.cmpi .sle v2970 c5_i32_2208
  let v2973 : BitVec 1 := Scalar.andi v2971 v2972
  let v2974 : BitVec 32 := Scalar.extui v2973
  let c0_i32_2209 : BitVec 32 := 0#32
  let v2975 : BitVec 1 := Scalar.cmpi .ne v2974 c0_i32_2209
  v2975

def k0_off58 (d0 : Dev nD) : Fin 2 → Nat :=
  let c4_i32_2646 : BitVec 32 := 4#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c4_i32_2646 v3291
  let c64_i32_2647 : BitVec 32 := 64#32
  let v3293 : BitVec 32 := Scalar.muli v3292 c64_i32_2647
  let c0_i32_2652 : BitVec 32 := 0#32
  ![v3293.toNat, 0]
def k0_cond14 (d0 : Dev nD) : BitVec 1 :=
  let c7_i32_2212 : BitVec 32 := 7#32
  let c1_i32_2210 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2976 : BitVec 32 := Scalar.subi c1_i32_2210 v2
  let c2_i32_2211 : BitVec 32 := 2#32
  let v2977 : BitVec 32 := Scalar.muli v2976 c2_i32_2211
  let v2978 : BitVec 32 := Scalar.subi c7_i32_2212 v2977
  let c0_i32_2213 : BitVec 32 := 0#32
  let v2979 : BitVec 1 := Scalar.cmpi .sge v2978 c0_i32_2213
  let c5_i32_2214 : BitVec 32 := 5#32
  let v2980 : BitVec 1 := Scalar.cmpi .sle v2978 c5_i32_2214
  let v2981 : BitVec 1 := Scalar.andi v2979 v2980
  let v2982 : BitVec 32 := Scalar.extui v2981
  let c0_i32_2215 : BitVec 32 := 0#32
  let v2983 : BitVec 1 := Scalar.cmpi .ne v2982 c0_i32_2215
  v2983

def k0_off59 (d0 : Dev nD) : Fin 2 → Nat :=
  let c7_i32_2646 : BitVec 32 := 7#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c7_i32_2646 v3291
  let c64_i32_2647 : BitVec 32 := 64#32
  let v3293 : BitVec 32 := Scalar.muli v3292 c64_i32_2647
  let c0_i32_2651 : BitVec 32 := 0#32
  ![v3293.toNat, 0]
def k0_cond15 (d0 : Dev nD) : BitVec 1 :=
  let c1_i32_2218 : BitVec 32 := 1#32
  let c1_i32_2216 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2984 : BitVec 32 := Scalar.subi c1_i32_2216 v2
  let c2_i32_2217 : BitVec 32 := 2#32
  let v2985 : BitVec 32 := Scalar.muli v2984 c2_i32_2217
  let v2986 : BitVec 32 := Scalar.subi c1_i32_2218 v2985
  let c0_i32_2219 : BitVec 32 := 0#32
  let v2987 : BitVec 1 := Scalar.cmpi .sge v2986 c0_i32_2219
  let c5_i32_2220 : BitVec 32 := 5#32
  let v2988 : BitVec 1 := Scalar.cmpi .sle v2986 c5_i32_2220
  let v2989 : BitVec 1 := Scalar.andi v2987 v2988
  let v2990 : BitVec 32 := Scalar.extui v2989
  let c0_i32_2221 : BitVec 32 := 0#32
  let v2991 : BitVec 1 := Scalar.cmpi .ne v2990 c0_i32_2221
  v2991

def k0_off60 (d0 : Dev nD) : Fin 2 → Nat :=
  let c1_i32_2646 : BitVec 32 := 1#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c1_i32_2646 v3291
  let c64_i32_2647 : BitVec 32 := 64#32
  let v3293 : BitVec 32 := Scalar.muli v3292 c64_i32_2647
  let c0_i32_2652 : BitVec 32 := 0#32
  ![v3293.toNat, 0]
def k0_cond16 (d0 : Dev nD) : BitVec 1 :=
  let c6_i32_2224 : BitVec 32 := 6#32
  let c1_i32_2222 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2992 : BitVec 32 := Scalar.subi c1_i32_2222 v2
  let c2_i32_2223 : BitVec 32 := 2#32
  let v2993 : BitVec 32 := Scalar.muli v2992 c2_i32_2223
  let v2994 : BitVec 32 := Scalar.subi c6_i32_2224 v2993
  let c0_i32_2225 : BitVec 32 := 0#32
  let v2995 : BitVec 1 := Scalar.cmpi .sge v2994 c0_i32_2225
  let c5_i32_2226 : BitVec 32 := 5#32
  let v2996 : BitVec 1 := Scalar.cmpi .sle v2994 c5_i32_2226
  let v2997 : BitVec 1 := Scalar.andi v2995 v2996
  let v2998 : BitVec 32 := Scalar.extui v2997
  let c0_i32_2227 : BitVec 32 := 0#32
  let v2999 : BitVec 1 := Scalar.cmpi .ne v2998 c0_i32_2227
  v2999

def k0_off61 (d0 : Dev nD) : Fin 2 → Nat :=
  let c6_i32_2646 : BitVec 32 := 6#32
  let c1_i32_2644 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3290 : BitVec 32 := Scalar.subi c1_i32_2644 v2
  let c2_i32_2645 : BitVec 32 := 2#32
  let v3291 : BitVec 32 := Scalar.muli v3290 c2_i32_2645
  let v3292 : BitVec 32 := Scalar.subi c6_i32_2646 v3291
  let c64_i32_2647 : BitVec 32 := 64#32
  let v3293 : BitVec 32 := Scalar.muli v3292 c64_i32_2647
  let c0_i32_2651 : BitVec 32 := 0#32
  ![v3293.toNat, 0]
abbrev stage0_0 : Fin 1 → Memref sig .tc .smem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096 : Shape := ⟨1, ![4096]⟩
abbrev S16384x2048 : Shape := ⟨2, ![16384, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096, .i32⟩
  | .hbm, ⟨1, _⟩ => ⟨S16384x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Geo.lean ====
module

public import proofs.«01_k».proof.Proof.Gen.KernelIdeal.Points
public import Idealize.ShloMosaic.Lib.Pipeline.RegionTalk
public import Idealize.ShloMosaic.Lib.ShareLeaves

/-! Bands of rows in a two-axis buffer: the elements a band holds, what a view of a band reads, and
what writing through it leaves. -/

@[expose] public section

noncomputable section

namespace Cert.KernelIdeal.Talk

open Idealize.ShloMosaic Idealize.ShloMosaic.TcCoe
open Idealize.SL Idealize.SL.Sem

/-- The elements of rows `a`, …, `a + n - 1`. -/
def rows (R W a n : ℕ) : Finset (Shape.Idx ⟨2, ![R, W]⟩) :=
  Finset.univ.filter fun i => a ≤ (i 0).val ∧ (i 0).val < a + n

/-- An element is in a band just when its row is. -/
theorem mem_rows {R W a n : ℕ} {i : Shape.Idx ⟨2, ![R, W]⟩} :
    i ∈ rows R W a n ↔ a ≤ (i 0).val ∧ (i 0).val < a + n := by
  simp only [rows, Finset.mem_filter, Finset.mem_univ, true_and]

/-- A unit-stride rectangle of whole rows is the band of its rows. -/
theorem rect_rows {R W a n : ℕ} {off sz : Fin 2 → ℕ} {inb} (hoff : off = ![a, 0]) (hsz : sz = ![n, W]) :
    (Rect.unit (s := ⟨2, ![R, W]⟩) off sz inb).set = rows R W a n := by
  subst hoff hsz
  ext i
  rw [Rect.mem_set_unit, mem_rows]
  constructor
  · intro h; exact h 0
  · intro h
    refine Fin.forall_fin_two.mpr ⟨h, Nat.zero_le _, ?_⟩
    have := (i 1).isLt
    simpa using this

/-- Two bands with no row in common. -/
theorem rows_disjoint {R W a n b k : ℕ} (h : a + n ≤ b ∨ b + k ≤ a) : Disjoint (rows R W a n) (rows R W b k) := by
  rw [Finset.disjoint_left]
  intro i hi hj
  rw [mem_rows] at hi hj
  omega

/-- A band cut in two. -/
theorem rows_append (R W a n k : ℕ) : rows R W a (n + k) = rows R W a n ∪ rows R W (a + n) k := by
  ext i
  simp only [Finset.mem_union, mem_rows]
  omega

/-- The band of all rows is the whole buffer. -/
theorem rows_all (R W : ℕ) : rows R W 0 R = Finset.univ := by
  ext i
  simp only [mem_rows, Finset.mem_univ, iff_true]
  have := (i 0).isLt
  exact ⟨Nat.zero_le _, by simpa using this⟩

/-- A band within the rows of another is part of it. -/
theorem rows_subset {R W a n b k : ℕ} (h : b ≤ a) (h' : a + n ≤ b + k) : rows R W a n ⊆ rows R W b k := by
  intro i hi
  rw [mem_rows] at hi ⊢
  omega

/-- Contents given by row and column numbers. -/
def grid {α : Type} {R W : ℕ} (f : ℕ → ℕ → α) : Shape.Idx ⟨2, ![R, W]⟩ → α := fun i => f (i 0).val (i 1).val

/-- Any contents are given by row and column numbers. -/
def ungrid {α : Type} [Inhabited α] {R W : ℕ} (f : Shape.Idx ⟨2, ![R, W]⟩ → α) : ℕ → ℕ → α := fun r k =>
  if h : r < R ∧ k < W then f (Fin.cons ⟨r, h.1⟩ (Fin.cons ⟨k, h.2⟩ finZeroElim)) else default

/-- Contents, read by row and column and put back, are the same contents. -/
theorem grid_ungrid {α : Type} [Inhabited α] {R W : ℕ} (f : Shape.Idx ⟨2, ![R, W]⟩ → α) : grid (ungrid f) = f := by
  funext i
  unfold grid ungrid
  have h0 : (i 0).val < R := by have := (i 0).isLt; simpa using this
  have h1 : (i 1).val < W := by have := (i 1).isLt; simpa using this
  rw [dif_pos ⟨h0, h1⟩]
  congr 1
  funext a
  revert a
  exact Fin.forall_fin_two.mpr ⟨rfl, rfl⟩

/-- An index of a band, placed in the buffer: its row is moved by the first row of the band, its column stays. -/
theorem grid_emb {α : Type} {R W a n : ℕ} (f : ℕ → ℕ → α) {off sz : Fin 2 → ℕ} {inb} (hoff : off = ![a, 0]) (hsz : sz = ![n, W])
    (x : (Rect.unit (s := ⟨2, ![R, W]⟩) off sz inb).shape.Idx) :
    grid f ((Rect.unit (s := ⟨2, ![R, W]⟩) off sz inb).emb x) = f (a + (x 0).val) (x 1).val := by
  subst hoff hsz
  unfold grid
  rw [Rect.emb_apply, Rect.emb_apply]
  show f (a + 1 * (x 0).val) (0 + 1 * (x 1).val) = _
  rw [Nat.one_mul, Nat.one_mul, Nat.zero_add]

section Whole

variable {F : FTy → Type} {sig : RefSig} {κ : Kind}

/-- What a rectangle of a whole buffer reads. -/
theorem read_slice_whole (b : Ref sig κ) (r : Rect b.ty.shape) (f : b.ty.Contents (Elt F)) :
    ((View.whole b).slice r).read (Elt F) f = fun x => f (r.emb x) := rfl

/-- What writing all of a rectangle of a whole buffer leaves under it. -/
theorem write_slice_whole (b : Ref sig κ) (r : Rect b.ty.shape) (f g : b.ty.Contents (Elt F)) (w : r.shape.Idx → Elt F b.ty.elt)
    (h : ∀ x, w x = g (r.emb x)) : ∀ i ∈ r.set, ((View.whole b).slice r).write (Elt F) f w Finset.univ i = g i := by
  intro i hi
  rw [← View.set_slice_whole b r] at hi
  obtain ⟨x, -, rfl⟩ := Finset.mem_map.mp hi
  rw [View.write_emb_of_mem _ _ (Finset.mem_univ x), h]
  rfl

end Whole

end Cert.KernelIdeal.Talk
-- ==== Proof.Proto.lean ====
module

public import proofs.«01_k».proof.Proof.Geo

/-! The protocol of the kernel: which device talks to which, which semaphore stands for which transfer, in which
order a device does what it does, and what each transfer carries. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

/-! ## Devices -/

/-- The half of the table a device holds. -/
def px (c : Dev nD) : ℕ := c.val / 8

/-- The place of a device on its ring of eight. -/
def pz (c : Dev nD) : ℕ := if (c.val / 4) % 2 = 0 then c.val % 4 else 7 - c.val % 4

/-- The device at place `s` of the ring of half `p`. -/
def dv (p s : ℕ) : Dev nD := ⟨8 * (p % 2) + (if s % 8 < 4 then s % 8 else 4 + (7 - s % 8)), by
  show _ < 16
  split <;> omega⟩

/-- A device's neighbours: at 0 the one at the same place on the other ring, at 1 the next on its ring, else the one before. -/
def nb (k : ℕ) (c : Dev nD) : Dev nD :=
  if k = 0 then dv (1 - px c) (pz c) else if k = 1 then dv (px c) (pz c + 1) else dv (px c) (pz c + 7)

/-- The way back to a neighbour's neighbour. -/
def opp (k : ℕ) : ℕ := if k = 0 then 0 else 3 - k

/-- There are two halves. -/
theorem px_lt (c : Dev nD) : px c < 2 := by revert c; decide
/-- There are eight places on a ring. -/
theorem pz_lt (c : Dev nD) : pz c < 8 := by revert c; decide
/-- The half of the device at a place of a ring. -/
theorem px_dv (p s : ℕ) : px (dv p s) = p % 2 := by
  unfold px dv; dsimp only; split <;> omega
/-- The place of the device at a place of a ring. -/
theorem pz_dv (p s : ℕ) : pz (dv p s) = s % 8 := by
  unfold pz dv; dsimp only; split <;> split <;> omega
/-- A device is the one at its half and its place. -/
theorem dv_self (c : Dev nD) : dv (px c) (pz c) = c := by revert c; decide
/-- The way to a neighbour and back ends where it began. -/
theorem nb_opp (k : Fin 3) (c : Dev nD) : nb (opp k) (nb k c) = c := by revert k c; decide
/-- The way back and then to the neighbour ends where it began. -/
theorem nb_opp' (k : Fin 3) (c : Dev nD) : nb k (nb (opp k) c) = c := by revert k c; decide

/-! ## Transfers -/

/-- A band of the result, shipped in one piece. -/
inductive Reg | own | a (h : Fin 7) | b (h : Fin 7) | m (s : Fin 8)
  deriving DecidableEq

/-- A transfer a device receives: an eighth of the other ring's part of its stripe, a hop of a chunk around the ring,
or a strip from the other ring. -/
inductive RC | p1 (L : Fin 6) | ring (L : Fin 6) (h : Fin 7) | mir (s : Fin 8)
  deriving DecidableEq

/-- A transfer a device sends, or ships to its result. -/
inductive SC | p1 (e : Fin 8) | ring (L : Fin 6) (h : Fin 7) | mir (s : Fin 8) | out (r : Reg)
  deriving DecidableEq

/-- A semaphore of the kernel: of the row copies of an eighth, of a sent or shipped transfer, of a received one. -/
inductive Cell | g (e : Fin 8) | s (x : SC) | r (x : RC)
  deriving DecidableEq

instance : Fintype Reg := Fintype.ofEquiv (Unit ⊕ Fin 7 ⊕ Fin 7 ⊕ Fin 8)
  { toFun := fun | .inl _ => .own | .inr (.inl h) => .a h | .inr (.inr (.inl h)) => .b h | .inr (.inr (.inr s)) => .m s
    invFun := fun | .own => .inl () | .a h => .inr (.inl h) | .b h => .inr (.inr (.inl h)) | .m s => .inr (.inr (.inr s))
    left_inv := by rintro (_ | _ | _ | _) <;> rfl
    right_inv := by rintro (_ | _ | _ | _) <;> rfl }

instance : Fintype RC := Fintype.ofEquiv (Fin 6 ⊕ (Fin 6 × Fin 7) ⊕ Fin 8)
  { toFun := fun | .inl L => .p1 L | .inr (.inl (L, h)) => .ring L h | .inr (.inr s) => .mir s
    invFun := fun | .p1 L => .inl L | .ring L h => .inr (.inl (L, h)) | .mir s => .inr (.inr s)
    left_inv := by rintro (_ | _ | _) <;> rfl
    right_inv := by rintro (_ | _ | _) <;> rfl }

instance : Fintype SC := Fintype.ofEquiv (Fin 8 ⊕ (Fin 6 × Fin 7) ⊕ Fin 8 ⊕ Reg)
  { toFun := fun | .inl e => .p1 e | .inr (.inl (L, h)) => .ring L h | .inr (.inr (.inl s)) => .mir s | .inr (.inr (.inr r)) => .out r
    invFun := fun | .p1 e => .inl e | .ring L h => .inr (.inl (L, h)) | .mir s => .inr (.inr (.inl s)) | .out r => .inr (.inr (.inr r))
    left_inv := by rintro (_ | _ | _ | _) <;> rfl
    right_inv := by rintro (_ | _ | _ | _) <;> rfl }

instance : Fintype Cell := Fintype.ofEquiv (Fin 8 ⊕ SC ⊕ RC)
  { toFun := fun | .inl e => .g e | .inr (.inl x) => .s x | .inr (.inr x) => .r x
    invFun := fun | .g e => .inl e | .s x => .inr (.inl x) | .r x => .inr (.inr x)
    left_inv := by rintro (_ | _ | _) <;> rfl
    right_inv := by rintro (_ | _ | _) <;> rfl }

/-- The number of a semaphore among the kernel's. -/
def semNum : Cell → ℕ
  | .g e => 2 + e.val
  | .s (.p1 e) => 10 + e.val
  | .r (.p1 L) => 18 + L.val
  | .s (.ring L h) => 24 + 7 * L.val + h.val
  | .r (.ring L h) => 66 + 7 * L.val + h.val
  | .s (.mir s) => 108 + s.val
  | .r (.mir s) => 116 + s.val
  | .s (.out (.a h)) => 124 + h.val
  | .s (.out (.b h)) => 131 + h.val
  | .s (.out (.m s)) => 138 + s.val
  | .s (.out .own) => 146

/-- The kernel's semaphores have numbers below 147. -/
theorem semNum_lt (x : Cell) : semNum x < 147 := by
  rcases x with e | (e | ⟨L, h⟩ | s | (_ | h | h | s)) | (L | ⟨L, h⟩ | s) <;> simp only [semNum] <;> omega

/-- The kernel's own semaphores come after the two of the staging. -/
theorem two_le_semNum (x : Cell) : 2 ≤ semNum x := by
  rcases x with e | (e | ⟨L, h⟩ | s | (_ | h | h | s)) | (L | ⟨L, h⟩ | s) <;> simp only [semNum] <;> omega

/-- The semaphore of a transfer. -/
def semOf (x : Cell) : DmaSem sig := ⟨semNum x, semNum_lt x⟩

/-- The transfer of a semaphore's number. -/
def cellAt (n : ℕ) : Option Cell :=
  if n < 2 then none
  else if n < 10 then some (.g (Fin.ofNat 8 (n - 2)))
  else if n < 18 then some (.s (.p1 (Fin.ofNat 8 (n - 10))))
  else if n < 24 then some (.r (.p1 (Fin.ofNat 6 (n - 18))))
  else if n < 66 then some (.s (.ring (Fin.ofNat 6 ((n - 24) / 7)) (Fin.ofNat 7 ((n - 24) % 7))))
  else if n < 108 then some (.r (.ring (Fin.ofNat 6 ((n - 66) / 7)) (Fin.ofNat 7 ((n - 66) % 7))))
  else if n < 116 then some (.s (.mir (Fin.ofNat 8 (n - 108))))
  else if n < 124 then some (.r (.mir (Fin.ofNat 8 (n - 116))))
  else if n < 131 then some (.s (.out (.a (Fin.ofNat 7 (n - 124)))))
  else if n < 138 then some (.s (.out (.b (Fin.ofNat 7 (n - 131)))))
  else if n < 146 then some (.s (.out (.m (Fin.ofNat 8 (n - 138)))))
  else some (.s (.out .own))

/-- A semaphore is found by its number. -/
theorem cellAt_semNum (x : Cell) : cellAt (semNum x) = some x := by
  rcases x with e | (e | ⟨L, h⟩ | s | (_ | h | h | s)) | (L | ⟨L, h⟩ | s)
  · revert e; decide
  · revert e; decide
  · revert L h; decide
  · revert s; decide
  · decide
  · revert h; decide
  · revert h; decide
  · revert s; decide
  · revert L; decide
  · revert L h; decide
  · revert s; decide

/-- Different transfers have different semaphores. -/
theorem semOf_inj : Function.Injective semOf := fun x y h => by
  have := congrArg (fun i : DmaSem sig => cellAt i.val) h
  simpa [semOf, cellAt_semNum] using this

/-- Every number from 2 to 146 is that of one of the kernel's semaphores. -/
theorem semNum_cellAt (n : ℕ) (h2 : 2 ≤ n) (h : n < 147) : ∃ x, cellAt n = some x ∧ semNum x = n := by
  have H : ∀ k : Fin 147, 2 ≤ k.val → (cellAt k.val).map semNum = some k.val := by decide
  have := H ⟨n, h⟩ h2
  rcases hx : cellAt n with _ | x
  · rw [show cellAt ((⟨n, h⟩ : Fin 147) : ℕ) = none from hx] at this; cases this
  · rw [show cellAt ((⟨n, h⟩ : Fin 147) : ℕ) = some x from hx] at this
    exact ⟨x, rfl, Option.some.inj this⟩

/-- Which neighbour a received transfer comes from. -/
def hand : RC → Fin 3
  | .p1 _ => 0
  | .ring L _ => if L.val < 3 then 2 else 1
  | .mir _ => 0

/-- The device a device sends a transfer to. -/
def tgt (x : RC) (c : Dev nD) : Dev nD := nb (opp (hand x)) c
/-- The device a device receives a transfer from. -/
def src (x : RC) (c : Dev nD) : Dev nD := nb (hand x) c
/-- The device a transfer is sent to receives it from the sender. -/
theorem src_tgt (x : RC) (c : Dev nD) : src x (tgt x c) = c := nb_opp' _ _
/-- The device a transfer comes from sends it to the receiver. -/
theorem tgt_src (x : RC) (c : Dev nD) : tgt x (src x c) = c := nb_opp _ _

/-- Whether a device sends a transfer at all: of the eight eighths of its stripe it sends six to the other ring. -/
def active (c : Dev nD) : SC → Bool
  | .p1 e => if px c = 0 then decide (2 ≤ e.val) else decide (e.val < 6)
  | _ => true

/-! ## What a device does, in order -/

/-- What a device does. -/
inductive Act
  | gI (e : Fin 8) | sig (j : Fin 3) | bar | gW (e : Fin 8) | xs (e : Fin 8) | p1 (e : Fin 8)
  | cs (L : Fin 6) | hop (L : Fin 6) (h : Fin 7) | ms (s : Fin 8) | os (r : Reg) | oe (r : Reg)
  | wr (x : RC) | fin (x : SC) | none
  deriving DecidableEq

/-- The place of an eighth in the order the eighths are taken in. -/
def ordE : Fin 8 → ℕ := ![2, 6, 0, 3, 4, 1, 7, 5]
/-- The place of a chunk in the order the chunks are taken in. -/
def ordL : Fin 6 → ℕ := ![0, 2, 4, 1, 3, 5]

/-- When a device does what it does. -/
def code : Act → ℕ
  | .gI e => ordE e
  | .sig j => 8 + j.val
  | .bar => 11
  | .gW e => 12 + 3 * ordE e
  | .xs e => 13 + 3 * ordE e
  | .p1 e => 14 + 3 * ordE e
  | .wr (.p1 L) => 36 + 3 * ordL L
  | .cs L => 37 + 3 * ordL L
  | .hop L h => if h.val = 0 then 38 + 3 * ordL L else 38 + 20 * h.val + 2 * ordL L
  | .ms s => if s.val = 0 then 54 else if s.val = 7 then 183 else 49 + 20 * s.val
  | .os .own => 55
  | .oe .own => 56
  | .wr (.ring L h) => if h.val = 6 then 177 + ordL L else 57 + 20 * h.val + 2 * ordL L
  | .os (.a h) => if h.val = 6 then 184 else 70 + 20 * h.val
  | .oe (.a h) => if h.val = 6 then 185 else 71 + 20 * h.val
  | .os (.b h) => if h.val = 6 then 186 else 72 + 20 * h.val
  | .oe (.b h) => if h.val = 6 then 187 else 73 + 20 * h.val
  | .wr (.mir s) => if s.val = 7 then 191 else if s.val = 6 then 188 else 74 + 20 * s.val
  | .os (.m s) => if s.val = 7 then 192 else if s.val = 6 then 189 else 75 + 20 * s.val
  | .oe (.m s) => if s.val = 7 then 193 else if s.val = 6 then 190 else 76 + 20 * s.val
  | .fin (.p1 e) => 194 + ordE e
  | .fin (.ring L h) => 202 + 6 * h.val + ordL L
  | .fin (.mir s) => 244 + s.val
  | .fin (.out .own) => 252
  | .fin (.out (.a h)) => 253 + 3 * h.val
  | .fin (.out (.b h)) => 254 + 3 * h.val
  | .fin (.out (.m s)) => if s.val = 7 then 274 else 255 + 3 * s.val
  | .none => 1000

/-- The eighth at a place of the order. -/
def eAt : ℕ → Fin 8 := fun n => ![2, 5, 0, 3, 4, 7, 1, 6] (Fin.ofNat 8 n)
/-- The chunk at a place of the order. -/
def lAt : ℕ → Fin 6 := fun n => ![0, 3, 1, 4, 2, 5] (Fin.ofNat 6 n)

/-- What a device does at a time. -/
def actAt (t : ℕ) : Act :=
  if t < 8 then .gI (eAt t)
  else if t < 11 then .sig (Fin.ofNat 3 (t - 8))
  else if t < 12 then .bar
  else if t < 36 then
    (if t % 3 = 0 then .gW (eAt ((t - 12) / 3)) else if t % 3 = 1 then .xs (eAt ((t - 12) / 3)) else .p1 (eAt ((t - 12) / 3)))
  else if t < 54 then
    (if t % 3 = 0 then .wr (.p1 (lAt ((t - 36) / 3))) else if t % 3 = 1 then .cs (lAt ((t - 36) / 3)) else .hop (lAt ((t - 36) / 3)) 0)
  else if t = 54 then .ms 0 else if t = 55 then .os .own else if t = 56 then .oe .own
  else if t < 177 then
    let h := (t - 57) / 20
    let k := (t - 57) % 20
    if k < 12 then (if k % 2 = 0 then .wr (.ring (lAt (k / 2)) (Fin.ofNat 7 h)) else .hop (lAt (k / 2)) (Fin.ofNat 7 (h + 1)))
    else if k = 12 then .ms (Fin.ofNat 8 (h + 1))
    else if k = 13 then .os (.a (Fin.ofNat 7 h)) else if k = 14 then .oe (.a (Fin.ofNat 7 h))
    else if k = 15 then .os (.b (Fin.ofNat 7 h)) else if k = 16 then .oe (.b (Fin.ofNat 7 h))
    else if k = 17 then .wr (.mir (Fin.ofNat 8 h)) else if k = 18 then .os (.m (Fin.ofNat 8 h)) else .oe (.m (Fin.ofNat 8 h))
  else if t < 183 then .wr (.ring (lAt (t - 177)) 6)
  else if t = 183 then .ms 7 else if t = 184 then .os (.a 6) else if t = 185 then .oe (.a 6)
  else if t = 186 then .os (.b 6) else if t = 187 then .oe (.b 6)
  else if t = 188 then .wr (.mir 6) else if t = 189 then .os (.m 6) else if t = 190 then .oe (.m 6)
  else if t = 191 then .wr (.mir 7) else if t = 192 then .os (.m 7) else if t = 193 then .oe (.m 7)
  else if t < 202 then .fin (.p1 (eAt (t - 194)))
  else if t < 244 then .fin (.ring (lAt ((t - 202) % 6)) (Fin.ofNat 7 ((t - 202) / 6)))
  else if t < 252 then .fin (.mir (Fin.ofNat 8 (t - 244)))
  else if t = 252 then .fin (.out .own)
  else if t < 274 then
    (if t % 3 = 1 then .fin (.out (.a (Fin.ofNat 7 ((t - 253) / 3))))
     else if t % 3 = 2 then .fin (.out (.b (Fin.ofNat 7 ((t - 253) / 3)))) else .fin (.out (.m (Fin.ofNat 8 ((t - 253) / 3)))))
  else if t = 274 then .fin (.out (.m 7))
  else .none

/-- A device does each thing at its time. -/
theorem actAt_code (a : Act) : actAt (code a) = a := by
  rcases a with e | j | _ | e | e | e | L | ⟨L, h⟩ | s | (_ | h | h | s) | (_ | h | h | s) | (L | ⟨L, h⟩ | s)
    | (e | ⟨L, h⟩ | s | (_ | h | h | s)) | _
  all_goals first | decide | (revert e; decide) | (revert j; decide) | (revert L h; decide) | (revert L; decide) | (revert s; decide) | (revert h; decide)

/-- Different things are done at different times. -/
theorem code_inj {a b : Act} (h : code a = code b) : a = b := by
  rw [← actAt_code a, h, actAt_code]

/-- What a device does at a time has that time. -/
theorem code_actAt (t : ℕ) (h : t < 275) : code (actAt t) = t := by
  have H : ∀ t : Fin 275, code (actAt t.val) = t.val := by decide +kernel
  exact H ⟨t, h⟩

/-- The eighth that carries a chunk to the other ring. -/
def eOf (c : Dev nD) (L : Fin 6) : Fin 8 := ⟨L.val + 2 * (1 - px c), by omega⟩

/-- What a device does to send a transfer that another receives. -/
def sendAct (c : Dev nD) : RC → Act
  | .p1 L => .p1 (eOf c L)
  | .ring L h => .hop L h
  | .mir s => .ms s

/-- What a device does to start a transfer of its own. -/
def startAct : SC → Act
  | .p1 e => .p1 e
  | .ring L h => .hop L h
  | .mir s => .ms s
  | .out r => .oe r

end Cert.KernelIdeal.Talk
-- ==== Proof.Sched.lean ====
module

public import proofs.«01_k».proof.Proof.Proto

/-! What the buffers hold and what each transfer carries: the schedule of the protocol, its levels, and what a device
owes at a time. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

/-! ## Rows -/

/-- The first row, in the gathered result, of a chunk after some hops around the ring. -/
def kRow (c : Dev nD) (L : Fin 6) (h : ℕ) : ℕ :=
  512 * (if L.val < 3 then (pz c + 8 - h) % 8 else (pz c + h) % 8) + 128 * px c + 64 * L.val

/-- The first row of a strip a device sends to the other ring. -/
def mRow (c : Dev nD) (s : ℕ) : ℕ :=
  512 * (if px c = 0 then (pz c + 8 - s) % 8 else (pz c + s) % 8) + 384 * px c

/-- The first row of a band. -/
def regRow (c : Dev nD) : Reg → ℕ
  | .own => 512 * pz c + 128 * px c
  | .a h => 512 * ((pz c + 7 - h.val) % 8) + 128 * px c
  | .b h => 512 * ((pz c + h.val + 1) % 8) + 128 * px c + 192
  | .m s => mRow (nb 0 c) s.val

/-- How many rows a band has. -/
def regLen : Reg → ℕ
  | .own => 384
  | .a _ => 192
  | .b _ => 192
  | .m _ => 128

/-- The chunks a strip to the other ring is made of. -/
def inStrip (c : Dev nD) (L : Fin 6) : Bool := if px c = 0 then decide (L.val < 2) else decide (4 ≤ L.val)

/-! ## Contents -/

/-- What the devices are given: the rows they gather, what they scale them by, and their blocks of the table. -/
structure Data (F : FTy → Type) where
  /-- the row of the table a device gathers into a row -/
  idx : Dev nD → ℕ → BitVec 32
  /-- the factor of a row -/
  val : Dev nD → ℕ → Elt F .f32
  /-- the table -/
  tab : Dev nD → ℕ → ℕ → Elt F .f32

variable (D : Data F)

/-- A gathered row. -/
def gF (c : Dev nD) (r k : ℕ) : Elt F .f32 := D.tab c (D.idx c r).toNat k

/-- A gathered row, scaled and narrowed. -/
def xF (c : Dev nD) (r k : ℕ) : Elt F .bf16 :=
  FloatOps.truncf .bf16 (φ := .f32) (by decide) (FloatOps.mulf (gF D c r k) (D.val c r))

/-- What a device receives of its own stripe from the other ring. -/
def pF (c : Dev nD) (r k : ℕ) : Elt F .bf16 := xF D (nb 0 c) (r + 128 * px c) k

/-- The half whose device adds a row up, as the devices of half `p` come by it. -/
def sideOf (p q : ℕ) : ℕ := if p = 0 then (if q < 384 then 0 else 1) else (if q < 128 then 0 else 1)

/-- The gathered result on the devices of half `p`. -/
def cF (p i k : ℕ) : Elt F .bf16 :=
  FloatOps.addf (xF D (dv (sideOf p (i % 512)) (i / 512)) (i % 512) k)
    (xF D (dv (1 - sideOf p (i % 512)) (i / 512)) (i % 512) k)

/-- The widened result on the devices of half `p`. -/
def oF (p i k : ℕ) : Elt F .f32 := FloatOps.extf .f32 (φ := .bf16) (by decide) (cF D p i k)

/-! ## The resource algebra -/

/-- The ghost state: the staging's part and the rounds of the kernel's semaphores. -/
abbrev UU : Type := UR sig nD τ × URounds (GSem nD τ sig) ℕ

local notation "𝕄" => MT nD τ sig Unit (Elt F) ℕ UU ℕ

/-- The staging's part of the ghost state. -/
abbrev EP : Emb (UR sig nD τ) (MT nD τ sig Unit (Elt F) ℕ UU ℕ) := embL
/-- The rounds' part of the ghost state. -/
abbrev ER : Emb (URounds (GSem nD τ sig) ℕ) (MT nD τ sig Unit (Elt F) ℕ UU ℕ) := embR

/-- The share of a chunk that goes around the ring. -/
abbrev qA : PosShare TreeShare := fullShare.left
/-- The share of a chunk that goes to the other ring. -/
abbrev qB : PosShare TreeShare := fullShare.right.left
/-- The share of a chunk a device keeps. -/
abbrev qC : PosShare TreeShare := fullShare.right.right

/-! ## Bands of the buffers -/

/-- A band of the gathered rows. -/
abbrev gP (c : Dev nD) (a n : ℕ) (q : PosShare TreeShare) (f : ℕ → ℕ → Elt F .f32) : sProp 𝕄 :=
  ((c : Thread nD τ).loc cc0_scratch3) ↦[rows 512 2048 a n]{q} (grid f)
/-- A band of the scaled and narrowed rows. -/
abbrev xP (c : Dev nD) (a n : ℕ) (q : PosShare TreeShare) (f : ℕ → ℕ → Elt F .bf16) : sProp 𝕄 :=
  ((c : Thread nD τ).loc cc0_scratch4) ↦[rows 512 2048 a n]{q} (grid f)
/-- A band of the rows received from the other ring. -/
abbrev pP (c : Dev nD) (a n : ℕ) (q : PosShare TreeShare) (f : ℕ → ℕ → Elt F .bf16) : sProp 𝕄 :=
  ((c : Thread nD τ).loc cc0_scratch2) ↦[rows 384 2048 a n]{q} (grid f)
/-- A band of the summed rows. -/
abbrev cP (c : Dev nD) (a n : ℕ) (q : PosShare TreeShare) (f : ℕ → ℕ → Elt F .bf16) : sProp 𝕄 :=
  ((c : Thread nD τ).loc cc0_scratch0) ↦[rows 4096 2048 a n]{q} (grid f)
/-- A band of the widened rows. -/
abbrev oP (c : Dev nD) (a n : ℕ) (q : PosShare TreeShare) (f : ℕ → ℕ → Elt F .f32) : sProp 𝕄 :=
  ((c : Thread nD τ).loc cc0_scratch1) ↦[rows 4096 2048 a n]{q} (grid f)
/-- A band of the result. -/
abbrev hP (c : Dev nD) (a n : ℕ) (q : PosShare TreeShare) (f : ℕ → ℕ → Elt F .f32) : sProp 𝕄 :=
  ((c : Thread nD τ).loc main_v32) ↦[rows 4096 2048 a n]{q} (grid f)
/-- A band of the device's block of the table. -/
abbrev eP (c : Dev nD) (a n : ℕ) (q : PosShare TreeShare) (f : ℕ → ℕ → Elt F .f32) : sProp 𝕄 :=
  ((c : Thread nD τ).loc main_arg1) ↦[rows 8192 2048 a n]{q} (grid f)

/-- The share of the table that the copy of row `d` of an eighth reads under. -/
abbrev qE (e : Fin 8) (d : ℕ) : PosShare TreeShare := leaf 6 (leaf 3 fullShare e) (Fin.ofNat 64 d)

/-! ## Semaphores -/

/-- A device's semaphore. -/
abbrev gc (c : Dev nD) (x : Cell) : GSem nD τ sig := ((c : Thread nD τ), .dma (semOf x))
/-- A device's barrier semaphore. -/
abbrev bc (c : Dev nD) : GSem nD τ sig := ((c : Thread nD τ), .reg (sig.barrier 0 rfl))

/-- What a transfer credits. -/
def amt : Cell → ℕ
  | .g _ => ((View.whole cc0_scratch3).slice (Rect.unit (s := S512x2048) ![0, 0] S1x2048.size (by decide))).dmaCredit
  | .s (.p1 _) => ((View.whole cc0_scratch4).slice (Rect.unit (s := S512x2048) ![0, 0] S64x2048.size (by decide))).dmaCredit
  | .r (.p1 _) => ((View.whole cc0_scratch4).slice (Rect.unit (s := S512x2048) ![0, 0] S64x2048.size (by decide))).dmaCredit
  | .s (.ring _ _) => ((View.whole cc0_scratch0).slice (Rect.unit (s := S4096x2048) ![0, 0] S64x2048.size (by decide))).dmaCredit
  | .r (.ring _ _) => ((View.whole cc0_scratch0).slice (Rect.unit (s := S4096x2048) ![0, 0] S64x2048.size (by decide))).dmaCredit
  | .s (.mir _) => ((View.whole cc0_scratch0).slice (Rect.unit (s := S4096x2048) ![0, 0] S128x2048.size (by decide))).dmaCredit
  | .r (.mir _) => ((View.whole cc0_scratch0).slice (Rect.unit (s := S4096x2048) ![0, 0] S128x2048.size (by decide))).dmaCredit
  | .s (.out .own) => ((View.whole main_v32).slice (Rect.unit (s := S4096x2048) ![0, 0] S384x2048.size (by decide))).dmaCredit
  | .s (.out (.a _)) => ((View.whole main_v32).slice (Rect.unit (s := S4096x2048) ![0, 0] S192x2048.size (by decide))).dmaCredit
  | .s (.out (.b _)) => ((View.whole main_v32).slice (Rect.unit (s := S4096x2048) ![0, 0] S192x2048.size (by decide))).dmaCredit
  | .s (.out (.m _)) => ((View.whole main_v32).slice (Rect.unit (s := S4096x2048) ![0, 0] S128x2048.size (by decide))).dmaCredit

/-- Every transfer credits something. -/
theorem amt_pos (x : Cell) : 0 < amt x := by
  rcases x with e | (e | ⟨L, h⟩ | s | (_ | h | h | s)) | (L | ⟨L, h⟩ | s) <;> exact View.dmaCredit_pos _ (by decide)

/-! ## The schedule -/

/-- The rows a transfer lands in on a device, at contents not chosen. -/
def spare (d : Dev nD) : RC → sProp 𝕄
  | .p1 L => iprop(∃ f, pP d (64 * L.val) 64 fullShare f)
  | .ring L h => iprop(∃ f, cP d (kRow d L (h.val + 1)) 64 fullShare f)
  | .mir s => iprop(∃ f, cP d (mRow (nb 0 d) s.val) 128 fullShare f)

/-- The rows a transfer lands in, once it has landed. -/
def landed (d : Dev nD) : RC → sProp 𝕄
  | .p1 L => pP d (64 * L.val) 64 fullShare (pF D d)
  | .ring L h => cP d (kRow d L (h.val + 1)) 64 fullShare (cF D (px d))
  | .mir s => cP d (mRow (nb 0 d) s.val) 128 fullShare (cF D (px d))

/-- What a device gets back of a transfer it started. -/
def sent (c : Dev nD) : SC → sProp 𝕄
  | .p1 e => xP c (64 * e.val) 64 qA (xF D c)
  | .ring L h => cP c (kRow c L h.val) 64 qA (cF D (px c))
  | .mir s => cP c (mRow c s.val) 128 qB (cF D (px c))
  | .out r => iprop(hP c (regRow c r) (regLen r) fullShare (oF D (px c)) ∗ oP c (regRow c r) (regLen r) fullShare (oF D (px c)))

/-- What the copy of a gathered row gives back. -/
def gath (c : Dev nD) (e : Fin 8) (d : ℕ) : sProp 𝕄 :=
  iprop(gP c (64 * e.val + d) 1 fullShare (gF D c) ∗ eP c 0 8192 (qE e d) (D.tab c))

/-- What a neighbour's signal gives a device: the neighbour's rows that the device sends to. -/
def lease (d : Dev nD) (k : ℕ) : sProp 𝕄 :=
  bigSep (Finset.univ.filter fun x : RC => (hand x).val = opp k) fun x =>
    iprop(spare (F := F) (nb k d) x ∗ reached ER (gc (nb k d) (.r x)) 0)

instance spare_storable (d : Dev nD) (x : RC) : BI.Storable (upEmb : UEmb _ 𝕄) (spare (F := F) d x) := by
  cases x <;> unfold spare <;> infer_instance
instance landed_storable (d : Dev nD) (x : RC) : BI.Storable (upEmb : UEmb _ 𝕄) (landed D d x) := by
  cases x <;> unfold landed <;> infer_instance
instance sent_storable (d : Dev nD) (x : SC) : BI.Storable (upEmb : UEmb _ 𝕄) (sent D d x) := by
  cases x <;> unfold sent <;> infer_instance
instance gath_storable (c : Dev nD) (e : Fin 8) (d : ℕ) : BI.Storable (upEmb : UEmb _ 𝕄) (gath D c e d) := by
  unfold gath; infer_instance
instance lease_storable (d : Dev nD) (k : ℕ) : BI.Storable (upEmb : UEmb _ 𝕄) (lease (F := F) d k) := by
  unfold lease; infer_instance

/-- The duties of a device's semaphore. -/
def dutiesOf (c : Dev nD) : Cell → Finset ℕ
  | .g _ => Finset.range 64
  | .s x => if active c x then {0} else ∅
  | .r _ => {0}

/-- What a duty of a device's semaphore carries. -/
def payOf (c : Dev nD) (d : ℕ) : Cell → sProp 𝕄
  | .g e => gath D c e d
  | .s x => sent D c x
  | .r x => landed D c x

instance payOf_storable (c : Dev nD) (d : ℕ) (x : Cell) : BI.Storable (upEmb : UEmb _ 𝕄) (payOf D c d x) := by
  cases x <;> unfold payOf <;> infer_instance

/-- The transfer of a semaphore of the kernel. -/
def kind (g : GSem nD τ sig) : Option Cell :=
  if g.1.2 = .tc then (match g.2 with | .dma n => cellAt n.val | .reg _ => none) else none

/-- Whether a semaphore is a barrier of the kernel. -/
abbrev IsBar (g : GSem nD τ sig) : Prop := g.1.2 = .tc ∧ g.2 = .reg (sig.barrier 0 rfl)

/-- A transfer's semaphore stands for that transfer. -/
theorem kind_gc (c : Dev nD) (x : Cell) : kind (gc c x) = some x := by
  unfold kind gc
  rw [if_pos rfl]
  exact cellAt_semNum x
/-- A transfer's semaphore is not a barrier. -/
theorem not_bar_gc (c : Dev nD) (x : Cell) : ¬ IsBar (gc c x) := fun h => by cases h.2
/-- A device's barrier semaphore is a barrier. -/
theorem is_bar (c : Dev nD) : IsBar (bc c) := ⟨rfl, rfl⟩

/-- The protocol: one round on every semaphore. -/
def Rd : Rounds.Schedule (GSem nD τ sig) ℕ 𝕄 where
  duties g r := if r = 0 then
      (if IsBar g then Finset.range 3 else match kind g with | some x => dutiesOf g.1.1 x | none => ∅)
    else ∅
  unitless _ := False
  amount g _ _ := if IsBar g then 1 else match kind g with | some x => amt x | none => 1
  payload g _ d := if IsBar g then lease g.1.1 d else match kind g with | some x => payOf D g.1.1 d x | none => iprop(emp)
  amount_pos g _ _ _ := by
    split
    · exact Nat.one_pos
    · split
      · exact amt_pos _
      · exact Nat.one_pos

instance Rd_storable (g : GSem nD τ sig) (r : ℕ) (d : ℕ) : BI.Storable (upEmb : UEmb _ 𝕄) ((Rd D).payload g r d) := by
  show BI.Storable upEmb (if IsBar g then lease g.1.1 d else match kind g with | some x => payOf D g.1.1 d x | none => iprop(emp))
  (repeat' split) <;> infer_instance

section Facts

variable (c : Dev nD) (x : Cell)

/-- The three signals to a barrier. -/
theorem duties_bc : (Rd D).duties (bc c) 0 = Finset.range 3 := by dsimp only [Rd]; rw [if_pos rfl, if_pos (is_bar c)]
/-- The credits to a transfer's semaphore. -/
theorem duties_gc : (Rd D).duties (gc c x) 0 = dutiesOf c x := by
  dsimp only [Rd]; rw [if_pos rfl, if_neg (not_bar_gc c x), kind_gc]
/-- No semaphore has a second round. -/
theorem duties_later (g : GSem nD τ sig) : ∀ r, 1 ≤ r → (Rd D).duties g r = ∅ := fun r hr => by
  dsimp only [Rd]; rw [if_neg (by omega)]
/-- A signal counts one. -/
theorem amount_bc (r d : ℕ) : (Rd D).amount (bc c) r d = 1 := by dsimp only [Rd]; rw [if_pos (is_bar c)]
/-- A credit counts what the transfer credits. -/
theorem amount_gc (r d : ℕ) : (Rd D).amount (gc c x) r d = amt x := by
  dsimp only [Rd]; rw [if_neg (not_bar_gc c x), kind_gc]
/-- A signal carries the rows that its giver lends. -/
theorem payload_bc (r d : ℕ) : (Rd D).payload (bc c) r d = lease c d := by dsimp only [Rd]; rw [if_pos (is_bar c)]
/-- A credit carries what the transfer hands over. -/
theorem payload_gc (r d : ℕ) : (Rd D).payload (gc c x) r d = payOf D c d x := by
  dsimp only [Rd]; rw [if_neg (not_bar_gc c x), kind_gc]
/-- A barrier awaits three. -/
theorem expect_bc : (Rd D).expect (bc c) 0 = 3 := by
  unfold Schedule.expect Schedule.amountOf
  rw [duties_bc, Finset.sum_congr rfl (fun d _ => amount_bc D c 0 d)]; rfl
/-- A transfer's semaphore awaits all its credits. -/
theorem expect_gc : (Rd D).expect (gc c x) 0 = (dutiesOf c x).card * amt x := by
  unfold Schedule.expect Schedule.amountOf
  rw [duties_gc, Finset.sum_congr rfl (fun d _ => amount_gc D c x 0 d), Finset.sum_const, smul_eq_mul]

end Facts

/-! ## What a device owes; the levels -/

/-- Whether a device has done something before a time. -/
def dn (t : ℕ) (a : Act) : Bool := decide (code a < t)

/-- What a device owes at a time: what it has not yet sent, and the signals it has not yet given. -/
def Ow (c : Dev nD) (d : Act → Bool) : CellTallies nD τ sig Unit :=
  (∑ x : RC, if d (sendAct c x) then 0 else tallyAt (gc (tgt x c) (.r x)) () (amt (.r x)))
    + ∑ j : Fin 3, if d (.sig j) then 0 else tallyAt (bc (nb j c)) () 1

/-- The semaphores with a level: those of the tensor cores. -/
def Lx (g : GSem nD τ sig) : Finset Unit := if g.1.2 = .tc then {()} else ∅

/-- The level of a semaphore: a barrier at one, a received transfer after when it is sent, all others at zero. -/
def lv (g : GSem nD τ sig) (_ : Unit) : ℕ :=
  if IsBar g then 1 else match kind g with | some (.r x) => code (sendAct (src x g.1.1) x) + 2 | _ => 0

/-- Only the tensor cores' semaphores have a level. -/
theorem Lx_of_ne (g : GSem nD τ sig) (h : g.1.2 ≠ .tc) : Lx g = ∅ := if_neg h
/-- Every semaphore of a tensor core has one level. -/
theorem Lx_tc (c : Dev nD) (sm : SemLoc sig) : Lx ((c : Thread nD τ), sm) = {()} := if_pos rfl
/-- The level of a barrier. -/
theorem lv_bc (c : Dev nD) (u : Unit) : lv (bc c) u = 1 := if_pos (is_bar c)
/-- The level of a received transfer. -/
theorem lv_r (c : Dev nD) (x : RC) (u : Unit) : lv (gc c (.r x)) u = code (sendAct (src x c) x) + 2 := by
  unfold lv; rw [if_neg (not_bar_gc _ _), kind_gc]
/-- The level of a sent transfer. -/
theorem lv_s (c : Dev nD) (x : SC) (u : Unit) : lv (gc c (.s x)) u = 0 := by
  unfold lv; rw [if_neg (not_bar_gc _ _), kind_gc]
/-- The level of an eighth's row copies. -/
theorem lv_g (c : Dev nD) (e : Fin 8) (u : Unit) : lv (gc c (.g e)) u = 0 := by
  unfold lv; rw [if_neg (not_bar_gc _ _), kind_gc]

/-- What is owed on a semaphore is a transfer not yet sent or a signal not yet given. -/
theorem owed_of_pos (c : Dev nD) (d : Act → Bool) (g : GSem nD τ sig) (u : Unit) (h : 0 < Ow c d g u) :
    (∃ x, d (sendAct c x) = false ∧ g = gc (tgt x c) (.r x)) ∨ ∃ j : Fin 3, d (.sig j) = false ∧ g = bc (nb j c) := by
  by_contra hn
  rw [not_or] at hn
  have h0 : Ow c d g u = 0 := by
    unfold Ow
    show ((∑ x : RC, if d (sendAct c x) then 0 else tallyAt (gc (tgt x c) (.r x)) () (amt (.r x)) : CellTallies nD τ sig Unit) g) u
      + ((∑ j : Fin 3, if d (.sig j) then 0 else tallyAt (bc (nb j c)) () 1 : CellTallies nD τ sig Unit) g) u = 0
    rw [Nat.add_eq_zero_iff]
    constructor
    · rw [Finset.sum_apply, Finsupp.finset_sum_apply]
      refine Finset.sum_eq_zero fun x _ => ?_
      by_cases hd : d (sendAct c x) = true
      · rw [if_pos hd]; rfl
      · rw [if_neg hd, tallyAt_apply, if_neg]
        rintro ⟨hg, -⟩; exact hn.1 ⟨x, by simpa using hd, hg⟩
    · rw [Finset.sum_apply, Finsupp.finset_sum_apply]
      refine Finset.sum_eq_zero fun j _ => ?_
      by_cases hd : d (.sig j) = true
      · rw [if_pos hd]; rfl
      · rw [if_neg hd, tallyAt_apply, if_neg]
        rintro ⟨hg, -⟩; exact hn.2 ⟨j, by simpa using hd, hg⟩
  omega

/-- A device may wait on a semaphore whose level is below those of all it owes. -/
theorem mayWait (c : Dev nD) (sm : SemLoc sig) (d : Act → Bool) (n : ℕ) (h0 : lv ((c : Thread nD τ), sm) () ≤ n)
    (hs : ∀ x, d (sendAct c x) = false → n < code (sendAct c x) + 2) (hj : ∀ j, d (.sig j) = false → n < 1) :
    (levAts Lx lv : sProp 𝕄) ⊢ MayWait (c : Thread nD τ) sm () (Ow c d) :=
  MayOwe.of_cut (L := Lx) (lev := lv) n
    (fun p hp => by rw [Finset.mem_singleton.mp hp, Lx_tc]; exact Finset.mem_singleton_self _)
    (fun g u hg => by
      rcases owed_of_pos c d g u hg with ⟨x, _, rfl⟩ | ⟨j, _, rfl⟩ <;> rw [Lx_tc] <;> exact Finset.mem_singleton_self _)
    (fun p hp => by rw [Finset.mem_singleton.mp hp]; exact h0)
    (fun g u hg => by
      rcases owed_of_pos c d g u hg with ⟨x, hx, rfl⟩ | ⟨j, hj', rfl⟩
      · rw [lv_r, src_tgt]; exact hs x hx
      · rw [lv_bc]; exact hj j hj')

end Cert.KernelIdeal.Talk
-- ==== Proof.State.lean ====
module

public import proofs.«01_k».proof.Proof.Sched

/-! What a device holds at a time, piece by piece: each piece changes only with the few things done to it. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

/-- The pieces of what a device holds. -/
inductive Item
  | cell (x : Cell) | to (x : RC) | inn (x : RC) | k (L : Fin 6) (h : Fin 8) | x (e : Fin 8) | o (r : Reg) | gb (e : Fin 8)
  | sg (j : Fin 3) | cst | barr
  deriving DecidableEq

instance : Fintype Item := Fintype.ofEquiv (Cell ⊕ RC ⊕ RC ⊕ (Fin 6 × Fin 8) ⊕ Fin 8 ⊕ Reg ⊕ Fin 8 ⊕ Fin 3 ⊕ Unit ⊕ Unit)
  { toFun := fun
      | .inl x => .cell x | .inr (.inl x) => .to x | .inr (.inr (.inl x)) => .inn x | .inr (.inr (.inr (.inl (L, h)))) => .k L h
      | .inr (.inr (.inr (.inr (.inl e)))) => .x e | .inr (.inr (.inr (.inr (.inr (.inl r))))) => .o r
      | .inr (.inr (.inr (.inr (.inr (.inr (.inl e)))))) => .gb e | .inr (.inr (.inr (.inr (.inr (.inr (.inr (.inl j))))))) => .sg j
      | .inr (.inr (.inr (.inr (.inr (.inr (.inr (.inr (.inl _)))))))) => .cst
      | .inr (.inr (.inr (.inr (.inr (.inr (.inr (.inr (.inr _)))))))) => .barr
    invFun := fun
      | .cell x => .inl x | .to x => .inr (.inl x) | .inn x => .inr (.inr (.inl x)) | .k L h => .inr (.inr (.inr (.inl (L, h))))
      | .x e => .inr (.inr (.inr (.inr (.inl e)))) | .o r => .inr (.inr (.inr (.inr (.inr (.inl r)))))
      | .gb e => .inr (.inr (.inr (.inr (.inr (.inr (.inl e)))))) | .sg j => .inr (.inr (.inr (.inr (.inr (.inr (.inr (.inl j)))))))
      | .cst => .inr (.inr (.inr (.inr (.inr (.inr (.inr (.inr (.inl ()))))))))
      | .barr => .inr (.inr (.inr (.inr (.inr (.inr (.inr (.inr (.inr ()))))))))
    left_inv := by rintro (_ | _ | _ | _ | _ | _ | _ | _ | _ | _) <;> rfl
    right_inv := by rintro (_ | _ | _ | _ | _ | _ | _ | _ | _ | _) <;> rfl }

/-! ## What each piece depends on -/

/-- When a chunk has come to a device. -/
def kA (L : Fin 6) (h : Fin 8) : Act := if hh : h.val = 0 then .cs L else .wr (.ring L ⟨h.val - 1, by omega⟩)
/-- When a chunk is sent on. -/
def kH (L : Fin 6) (h : Fin 8) : Act := if hh : h.val < 7 then .hop L ⟨h.val, hh⟩ else .none
/-- When a chunk's sending on has ended. -/
def kF (L : Fin 6) (h : Fin 8) : Act := if hh : h.val < 7 then .fin (.ring L ⟨h.val, hh⟩) else .none

/-- Whether a piece depends on something a device does. -/
def touches (c : Dev nD) (a : Act) : Item → Bool
  | .cell (.g e) => decide (a = .gI e) || decide (a = .gW e)
  | .cell (.s y) => active c y && (decide (a = startAct y) || decide (a = .fin y))
  | .cell (.r y) => decide (a = .wr y)
  | .to y => decide (a = sendAct c y) || decide (a = .bar)
  | .inn y => decide (a = .sig (hand y)) || decide (a = .wr y)
  | .k L h => decide (a = kA L h) || decide (a = kH L h) || decide (a = kF L h)
      || (inStrip c L && (decide (a = .ms h) || decide (a = .fin (.mir h))))
  | .x e => decide (a = .xs e) || (active c (.p1 e) && (decide (a = .p1 e) || decide (a = .fin (.p1 e))))
  | .o r => decide (a = .os r) || decide (a = .oe r) || decide (a = .fin (.out r))
  | .gb e => decide (a = .gI e) || decide (a = .gW e)
  | .sg j => decide (a = .sig j)
  | .cst => false
  | .barr => decide (a = .bar)

variable (D : Data F)

/-- What stays in the rows a transfer has landed in: a chunk of the ring goes to the chunks. -/
def keep (c : Dev nD) : RC → sProp 𝕄
  | .ring _ _ => iprop(emp)
  | x => landed D c x

/-- The rows a device gathers, as it is given them. -/
def idxF (c : Dev nD) : Shape.Idx S512 → Elt F .i32 := fun i => D.idx c (i 0).val

/-- A piece of what a device holds, by what it has done. -/
def st (c : Dev nD) (d : Act → Bool) : Item → sProp 𝕄
  | .cell (.g e) => if d (.gW e) then semVal (gc c (.g e)) 0 else iprop(atPos ER (gc c (.g e)) 0 ∅ 0 ∗
      if d (.gI e) then bigSep (Finset.range 64) fun _ => cred (tallyAt (gc c (.g e)) () (amt (.g e)))
      else bigSep (Finset.range 64) fun i => dutyTok ER (gc c (.g e)) 0 i)
  | .cell (.s y) => if active c y then (if d (.fin y) then semVal (gc c (.s y)) 0 else iprop(atPos ER (gc c (.s y)) 0 ∅ 0 ∗
      if d (startAct y) then cred (tallyAt (gc c (.s y)) () (amt (.s y))) else dutyTok ER (gc c (.s y)) 0 0))
      else semVal (gc c (.s y)) 0
  | .cell (.r y) => if d (.wr y) then semVal (gc c (.r y)) 0
      else iprop(atPos ER (gc c (.r y)) 0 ∅ 0 ∗ cred (tallyAt (gc c (.r y)) () (amt (.r y))))
  | .to y => if d (sendAct c y) then iprop(emp) else iprop(dutyTok ER (gc (tgt y c) (.r y)) 0 0 ∗
      if d .bar then iprop(spare (tgt y c) y ∗ reached ER (gc (tgt y c) (.r y)) 0) else iprop(emp))
  | .inn y => if d (.sig (hand y)) then (if d (.wr y) then keep D c y else iprop(emp)) else spare c y
  | .k L h => if d (kA L h) then
      iprop((if d (kH L h) && !d (kF L h) then iprop(emp) else cP c (kRow c L h.val) 64 qA (cF D (px c)))
        ∗ (if inStrip c L && (d (.ms h) && !d (.fin (.mir h))) then iprop(emp) else cP c (kRow c L h.val) 64 qB (cF D (px c)))
        ∗ cP c (kRow c L h.val) 64 qC (cF D (px c)))
      else if h.val = 0 then iprop(∃ f, cP c (kRow c L 0) 64 fullShare f) else iprop(emp)
  | .x e => if d (.xs e) then
      iprop(xP c (64 * e.val) 64 fullShare.right (xF D c)
        ∗ if active c (.p1 e) && (d (.p1 e) && !d (.fin (.p1 e))) then iprop(emp) else xP c (64 * e.val) 64 qA (xF D c))
      else iprop(∃ f, xP c (64 * e.val) 64 fullShare f)
  | .o r => if d (.fin (.out r)) then sent D c (.out r) else if d (.oe r) then iprop(emp)
      else iprop((∃ f, hP c (regRow c r) (regLen r) fullShare f)
        ∗ if d (.os r) then oP c (regRow c r) (regLen r) fullShare (oF D (px c)) else iprop(∃ f, oP c (regRow c r) (regLen r) fullShare f))
  | .gb e => if d (.gW e) then
      iprop(gP c (64 * e.val) 64 fullShare (gF D c) ∗ bigSep (Finset.range 64) fun i => eP c 0 8192 (qE e i) (D.tab c))
      else if d (.gI e) then iprop(emp)
      else iprop((∃ f, gP c (64 * e.val) 64 fullShare f) ∗ bigSep (Finset.range 64) fun i => eP c 0 8192 (qE e i) (D.tab c))
  | .sg j => if d (.sig j) then iprop(emp) else dutyTok ER (bc (nb j c)) 0 (opp j)
  | .cst => iprop((((c : Thread nD τ).loc cc0_stg0_0) ↦{fullShare} idxF D c)
      ∗ (((c : Thread nD τ).loc cc0_stg1_0) ↦{fullShare} (grid (fun r _ => D.val c r) : Shape.Idx ⟨2, ![512, 1]⟩ → Elt F .f32)))
  | .barr => if d .bar then semVal (bc c) 0 else iprop(atPos ER (bc c) 0 ∅ 0 ∗ cred (tallyAt (bc c) () 3))

/-- Something is done: before it was not, after it is, and nothing else has changed. -/
structure Does (d : Act → Bool) (a : Act) (d' : Act → Bool) : Prop where
  before : d a = false
  after : d' a = true
  other : ∀ b, b ≠ a → d b = d' b

/-- At its time, a thing is done and nothing else changes. -/
theorem does_code (a : Act) : Does (dn (code a)) a (dn (code a + 1)) where
  before := by simp [dn]
  after := by simp [dn]
  other b hb := by
    have h : code b ≠ code a := fun h => hb (code_inj h)
    unfold dn
    rw [decide_eq_decide]
    omega

/-- What a device does at a time is all that changes then. -/
theorem does_at {t : ℕ} {a : Act} (h : actAt t = a) (ht : t < 275) : Does (dn t) a (dn (t + 1)) := by
  subst h
  have := does_code (actAt t)
  rwa [code_actAt t ht] at this

/-- A piece does not change with what it does not depend on. -/
theorem st_congr {c : Dev nD} {d d' : Act → Bool} {a : Act} (hs : Does d a d') (i : Item) (h : touches c a i = false) :
    st D c d i = st D c d' i := by
  have key : ∀ b, a ≠ b → d b = d' b := fun b hb => hs.other b (fun h => hb h.symm)
  rcases i with (e | y | y) | y | y | ⟨L, k⟩ | e | r | e | j | _ | _
  · simp only [touches, Bool.or_eq_false_iff, decide_eq_false_iff_not] at h
    simp only [st, key _ h.1, key _ h.2]
  · by_cases hac : active c y = true
    · simp only [touches, hac, Bool.true_and, Bool.or_eq_false_iff, decide_eq_false_iff_not] at h
      simp only [st, key _ h.1, key _ h.2]
    · simp only [st, if_neg hac]
  · simp only [touches, decide_eq_false_iff_not] at h
    simp only [st, key _ h]
  · simp only [touches, Bool.or_eq_false_iff, decide_eq_false_iff_not] at h
    simp only [st, key _ h.1, key _ h.2]
  · simp only [touches, Bool.or_eq_false_iff, decide_eq_false_iff_not] at h
    simp only [st, key _ h.1, key _ h.2]
  · simp only [touches, Bool.or_eq_false_iff, decide_eq_false_iff_not] at h
    obtain ⟨⟨⟨h1, h2⟩, h3⟩, h4⟩ := h
    by_cases hac : inStrip c L = true
    · simp only [hac, Bool.true_and, Bool.or_eq_false_iff, decide_eq_false_iff_not] at h4
      simp only [st, key _ h1, key _ h2, key _ h3, key _ h4.1, key _ h4.2]
    · rw [Bool.not_eq_true] at hac
      simp only [st, hac, Bool.false_and, key _ h1, key _ h2, key _ h3]
  · simp only [touches, Bool.or_eq_false_iff, decide_eq_false_iff_not] at h
    by_cases hac : active c (.p1 e) = true
    · simp only [hac, Bool.true_and, Bool.or_eq_false_iff, decide_eq_false_iff_not] at h
      simp only [st, key _ h.1, key _ h.2.1, key _ h.2.2]
    · rw [Bool.not_eq_true] at hac
      simp only [st, hac, Bool.false_and, key _ h.1]
  · simp only [touches, Bool.or_eq_false_iff, decide_eq_false_iff_not] at h
    simp only [st, key _ h.1.1, key _ h.1.2, key _ h.2]
  · simp only [touches, Bool.or_eq_false_iff, decide_eq_false_iff_not] at h
    simp only [st, key _ h.1, key _ h.2]
  · simp only [touches, decide_eq_false_iff_not] at h
    simp only [st, key _ h]
  · rfl
  · simp only [touches, decide_eq_false_iff_not] at h
    simp only [st, key _ h]

/-- What a device holds at a time. -/
def All (c : Dev nD) (d : Act → Bool) : sProp 𝕄 := bigSep Finset.univ (st D c d)

/-- The pieces in a set, taken and given back as something is done to them. -/
theorem take (c : Dev nD) {d d' : Act → Bool} {a : Act} (hs : Does d a d') (T : Finset Item)
    (hT : ∀ i, i ∉ T → touches c a i = false) :
    All D c d ⊢ iprop(bigSep T (st D c d) ∗ (bigSep T (st D c d') -∗ All D c d')) := by
  unfold All
  have e1 : (bigSep Finset.univ (st D c d) : sProp 𝕄) = iprop(bigSep T (st D c d) ∗ bigSep (Finset.univ \ T) (st D c d)) :=
    bigSep_sdiff_split (Finset.subset_univ T)
  have e2 : (bigSep Finset.univ (st D c d') : sProp 𝕄) = iprop(bigSep T (st D c d') ∗ bigSep (Finset.univ \ T) (st D c d')) :=
    bigSep_sdiff_split (Finset.subset_univ T)
  have e3 : (bigSep (Finset.univ \ T) (st D c d) : sProp 𝕄) = bigSep (Finset.univ \ T) (st D c d') :=
    bigSep_congr fun i hi => st_congr D hs i (hT i (Finset.mem_sdiff.mp hi).2)
  rw [e1, e2, e3]
  iintro ⟨H1, H2⟩
  isplitl [H1]; · iexact H1
  iintro H
  isplitl [H]; · iexact H
  iexact H2

/-- Doing something that no piece depends on changes no piece. -/
theorem take0 (c : Dev nD) {d d' : Act → Bool} {a : Act} (hs : Does d a d') (hT : ∀ i, touches c a i = false) :
    (All D c d : sProp 𝕄) = All D c d' := bigSep_congr fun i _ => st_congr D hs i (hT i)

/-- Doing something that one piece depends on changes that piece only. -/
theorem take1 (c : Dev nD) {d d' : Act → Bool} {a : Act} (hs : Does d a d') (i : Item)
    (hT : ∀ j, j ≠ i → touches c a j = false) :
    All D c d ⊢ iprop(st D c d i ∗ (st D c d' i -∗ All D c d')) := by
  have := take D c hs {i} (fun j hj => hT j (by simpa using hj))
  rwa [bigSep_singleton, bigSep_singleton] at this

/-- Two different pieces, one beside the other. -/
theorem pair_sep {i j : Item} (hij : i ≠ j) (f : Item → sProp 𝕄) : bigSep {i, j} f = iprop(f i ∗ f j) := by
  rw [bigSep_insert (by simpa using hij), bigSep_singleton]; rfl

/-- Doing something that two pieces depend on changes those two only. -/
theorem take2 (c : Dev nD) {d d' : Act → Bool} {a : Act} (hs : Does d a d') (i j : Item) (hij : i ≠ j)
    (hT : ∀ k, k ≠ i → k ≠ j → touches c a k = false) :
    All D c d ⊢ iprop((st D c d i ∗ st D c d j) ∗ ((st D c d' i ∗ st D c d' j) -∗ All D c d')) := by
  have := take D c hs {i, j} (fun l hl => by
    simp only [Finset.mem_insert, Finset.mem_singleton, not_or] at hl; exact hT l hl.1 hl.2)
  rwa [pair_sep hij, pair_sep hij] at this

/-- Three different pieces, one beside the other. -/
theorem triple_sep {i j k : Item} (hij : i ≠ j) (hik : i ≠ k) (hjk : j ≠ k) (f : Item → sProp 𝕄) :
    bigSep {i, j, k} f = iprop(f i ∗ f j ∗ f k) := by
  rw [bigSep_insert (by simp [hij, hik]), pair_sep hjk]; rfl

/-- Doing something that three pieces depend on changes those three only. -/
theorem take3 (c : Dev nD) {d d' : Act → Bool} {a : Act} (hs : Does d a d') (i j k : Item) (hij : i ≠ j) (hik : i ≠ k) (hjk : j ≠ k)
    (hT : ∀ l, l ≠ i → l ≠ j → l ≠ k → touches c a l = false) :
    All D c d ⊢ iprop((st D c d i ∗ st D c d j ∗ st D c d k) ∗ ((st D c d' i ∗ st D c d' j ∗ st D c d' k) -∗ All D c d')) := by
  have := take D c hs {i, j, k} (fun l hl => by
    simp only [Finset.mem_insert, Finset.mem_singleton, not_or] at hl; exact hT l hl.1 hl.2.1 hl.2.2)
  rwa [triple_sep hij hik hjk, triple_sep hij hik hjk] at this

/-- Four different pieces, one beside the other. -/
theorem quad_sep {i j k l : Item} (hij : i ≠ j) (hik : i ≠ k) (hil : i ≠ l) (hjk : j ≠ k) (hjl : j ≠ l) (hkl : k ≠ l) (f : Item → sProp 𝕄) :
    bigSep {i, j, k, l} f = iprop(f i ∗ f j ∗ f k ∗ f l) := by
  rw [bigSep_insert (by simp [hij, hik, hil]), triple_sep hjk hjl hkl]; rfl

/-- Doing something that four pieces depend on changes those four only. -/
theorem take4 (c : Dev nD) {d d' : Act → Bool} {a : Act} (hs : Does d a d') (i j k l : Item) (hij : i ≠ j) (hik : i ≠ k) (hil : i ≠ l)
    (hjk : j ≠ k) (hjl : j ≠ l) (hkl : k ≠ l)
    (hT : ∀ n, n ≠ i → n ≠ j → n ≠ k → n ≠ l → touches c a n = false) :
    All D c d ⊢ iprop((st D c d i ∗ st D c d j ∗ st D c d k ∗ st D c d l)
      ∗ ((st D c d' i ∗ st D c d' j ∗ st D c d' k ∗ st D c d' l) -∗ All D c d')) := by
  have := take D c hs {i, j, k, l} (fun n hn => by
    simp only [Finset.mem_insert, Finset.mem_singleton, not_or] at hn; exact hT n hn.1 hn.2.1 hn.2.2.1 hn.2.2.2)
  rwa [quad_sep hij hik hil hjk hjl hkl, quad_sep hij hik hil hjk hjl hkl] at this

/-- The pieces in a set, looked at and given back as they were. -/
theorem peek (c : Dev nD) (d : Act → Bool) (T : Finset Item) :
    All D c d ⊢ iprop(bigSep T (st D c d) ∗ (bigSep T (st D c d) -∗ All D c d)) := by
  unfold All
  have e1 : (bigSep Finset.univ (st D c d) : sProp 𝕄) = iprop(bigSep T (st D c d) ∗ bigSep (Finset.univ \ T) (st D c d)) :=
    bigSep_sdiff_split (Finset.subset_univ T)
  rw [e1]
  iintro ⟨H1, H2⟩
  isplitl [H1]; · iexact H1
  iintro H
  isplitl [H]; · iexact H
  iexact H2

/-- A piece may be looked at and put back. -/
theorem peek1 (c : Dev nD) (d : Act → Bool) (i : Item) :
    All D c d ⊢ iprop(st D c d i ∗ (st D c d i -∗ All D c d)) := by
  have := peek D c d {i}
  rwa [bigSep_singleton] at this

/-! ## What a device owes, as it goes -/

/-- Different transfers are sent by doing different things. -/
theorem sendAct_inj (c : Dev nD) {x y : RC} (h : sendAct c x = sendAct c y) : x = y := by
  rcases x with L | ⟨L, k⟩ | s <;> rcases y with L' | ⟨L', k'⟩ | s' <;> simp only [sendAct] at h <;> try cases h
  · have h := congrArg (fun a : Act => match a with | .p1 e => e.val | _ => 0) h
    simp only [eOf] at h
    congr 1
    exact Fin.ext (by omega)
  all_goals rfl

/-- Sending a transfer is not giving a signal. -/
theorem sendAct_ne_sig (c : Dev nD) (x : RC) (j : Fin 3) : sendAct c x ≠ .sig j := by
  rcases x with L | ⟨L, k⟩ | s <;> simp [sendAct]

/-- Sending a transfer takes it off what is owed. -/
theorem Ow_send (c : Dev nD) {d d' : Act → Bool} (x : RC) (hs : Does d (sendAct c x) d') :
    Ow c d = Ow c d' + tallyAt (gc (tgt x c) (.r x)) () (amt (.r x)) := by
  unfold Ow
  rw [← Finset.add_sum_erase _ _ (Finset.mem_univ x), ← Finset.add_sum_erase (Finset.univ : Finset RC) _ (Finset.mem_univ x)]
  rw [if_neg (by rw [hs.before]; decide), if_pos hs.after, zero_add]
  have e1 : ∀ y ∈ Finset.univ.erase x, (if d (sendAct c y) then (0 : CellTallies nD τ sig Unit) else tallyAt (gc (tgt y c) (.r y)) () (amt (.r y)))
      = if d' (sendAct c y) then 0 else tallyAt (gc (tgt y c) (.r y)) () (amt (.r y)) := fun y hy => by
    rw [hs.other _ fun h => (Finset.mem_erase.mp hy).1 (sendAct_inj c h)]
  have e2 : ∀ j ∈ (Finset.univ : Finset (Fin 3)), (if d (.sig j) then (0 : CellTallies nD τ sig Unit) else tallyAt (bc (nb j c)) () 1)
      = if d' (.sig j) then 0 else tallyAt (bc (nb j c)) () 1 := fun j _ => by
    rw [hs.other _ fun h => sendAct_ne_sig c x j h.symm]
  rw [Finset.sum_congr rfl e1, Finset.sum_congr rfl e2]
  rw [add_assoc, add_comm]

/-- Giving a signal takes it off what is owed. -/
theorem Ow_sig (c : Dev nD) {d d' : Act → Bool} (j : Fin 3) (hs : Does d (.sig j) d') :
    Ow c d = Ow c d' + tallyAt (bc (nb j c)) () 1 := by
  unfold Ow
  rw [← Finset.add_sum_erase (Finset.univ : Finset (Fin 3)) _ (Finset.mem_univ j),
    ← Finset.add_sum_erase (Finset.univ : Finset (Fin 3)) (fun j => if d' (.sig j) then (0 : CellTallies nD τ sig Unit) else tallyAt (bc (nb j c)) () 1) (Finset.mem_univ j)]
  rw [if_neg (by rw [hs.before]; decide), if_pos hs.after, zero_add]
  have e1 : ∀ y ∈ (Finset.univ : Finset RC), (if d (sendAct c y) then (0 : CellTallies nD τ sig Unit) else tallyAt (gc (tgt y c) (.r y)) () (amt (.r y)))
      = if d' (sendAct c y) then 0 else tallyAt (gc (tgt y c) (.r y)) () (amt (.r y)) := fun y _ => by
    rw [hs.other _ (sendAct_ne_sig c y j)]
  have e2 : ∀ i ∈ Finset.univ.erase j, (if d (.sig i) then (0 : CellTallies nD τ sig Unit) else tallyAt (bc (nb i c)) () 1)
      = if d' (.sig i) then 0 else tallyAt (bc (nb i c)) () 1 := fun i hi => by
    rw [hs.other _ fun h => (Finset.mem_erase.mp hi).1 (by cases h; rfl)]
  rw [Finset.sum_congr rfl e1, Finset.sum_congr rfl e2]
  rw [add_comm (tallyAt _ _ _), ← add_assoc]

/-- What does not send or signal leaves what is owed. -/
theorem Ow_same (c : Dev nD) {d d' : Act → Bool} {a : Act} (hs : Does d a d') (h1 : ∀ x, sendAct c x ≠ a) (h2 : ∀ j, Act.sig j ≠ a) :
    Ow c d = Ow c d' := by
  unfold Ow
  congr 1
  · exact Finset.sum_congr rfl fun y _ => by rw [hs.other _ (h1 y)]
  · exact Finset.sum_congr rfl fun j _ => by rw [hs.other _ (h2 j)]

/-! ## The invariants, and a device's state -/

/-- What all devices know. -/
def Inv (K : GSem nD τ sig → ℕ) (c : Dev nD) : sProp 𝕄 :=
  iprop((bigSep Finset.univ fun p : Dev nD × Cell => cellInv ER (Rd D) (K (gc p.1 p.2)) (gc p.1 p.2))
    ∗ (bigSep Finset.univ fun c' : Dev nD => cellInv ER (Rd D) (K (bc c')) (bc c'))
    ∗ (bigSep Finset.univ fun x : Cell => reached ER (gc c x) 0)
    ∗ (bigSep Finset.univ fun c' : Dev nD => reached ER (bc c') 0)
    ∗ levAts Lx lv)

instance Inv_persistent (K : GSem nD τ sig → ℕ) (c : Dev nD) : BI.Persistent (Inv D K c) := by unfold Inv; infer_instance

variable {D} in
/-- All devices know the invariant of every transfer's semaphore. -/
theorem Inv_gc {K : GSem nD τ sig → ℕ} {c : Dev nD} (c' : Dev nD) (x : Cell) : Inv D K c ⊢ cellInv ER (Rd D) (K (gc c' x)) (gc c' x) := by
  unfold Inv
  iintro ⟨H, -⟩
  iapply (bigSep_elim (i := (c', x)) (Finset.mem_univ _) : _ ⊢ _) $$ H

end Cert.KernelIdeal.Talk
-- ==== Proof.Touch.lean ====
module

public import proofs.«01_k».proof.Proof.State

/-! Which pieces each thing a device does changes. -/

@[expose] public section

noncomputable section

namespace Cert.KernelIdeal.Talk

open Idealize.ShloMosaic Idealize.ShloMosaic.TcCoe Idealize.ShloMosaic.Rounds

variable {c : Dev nD} {i : Item}

/-- A piece that cannot depend on something does not. -/
theorem nt {a : Act} (h : touches c a i = true → False) : touches c a i = false := by
  rw [← Bool.not_eq_true]; exact h

/-- Only storing a chunk or receiving one makes a chunk come. -/
theorem kA_ne {a : Act} (h1 : ∀ L, a ≠ .cs L) (h2 : ∀ L h, a ≠ .wr (.ring L h)) (L : Fin 6) (h : Fin 8) : ¬ a = kA L h := by
  unfold kA; split
  · exact h1 _
  · exact h2 _ _
/-- Only a hop sends a chunk on. -/
theorem kH_ne {a : Act} (h1 : ∀ L h, a ≠ .hop L h) (h2 : a ≠ .none) (L : Fin 6) (h : Fin 8) : ¬ a = kH L h := by
  unfold kH; split
  · exact h1 _ _
  · exact h2
/-- Only the wait for a hop ends a chunk's sending on. -/
theorem kF_ne {a : Act} (h1 : ∀ L h, a ≠ .fin (.ring L h)) (h2 : a ≠ .none) (L : Fin 6) (h : Fin 8) : ¬ a = kF L h := by
  unfold kF; split
  · exact h1 _ _
  · exact h2

/-- Storing a chunk makes that chunk come, before any hop. -/
theorem kA_cs {L L' : Fin 6} {h : Fin 8} (e : Act.cs L = kA L' h) : L' = L ∧ h = 0 := by
  unfold kA at e; split at e
  · rename_i hh; cases e; exact ⟨rfl, Fin.ext hh⟩
  · cases e
/-- Receiving a transfer makes a chunk come just when it is a hop of that chunk. -/
theorem kA_wr {y : RC} {L' : Fin 6} {h : Fin 8} (e : Act.wr y = kA L' h) : ∃ h' : Fin 7, y = .ring L' h' ∧ h = h'.succ := by
  unfold kA at e; split at e
  · cases e
  · rename_i hh; cases e; exact ⟨_, rfl, Fin.ext (by simp; omega)⟩
/-- A hop sends on its own chunk. -/
theorem kH_hop {L L' : Fin 6} {h : Fin 7} {h' : Fin 8} (e : Act.hop L h = kH L' h') : L' = L ∧ h' = h.castSucc := by
  unfold kH at e; split at e
  · cases e; exact ⟨rfl, rfl⟩
  · cases e
/-- The wait for a hop ends the sending on of its own chunk. -/
theorem kF_fin {y : SC} {L' : Fin 6} {h : Fin 8} (e : Act.fin y = kF L' h) : ∃ h' : Fin 7, y = .ring L' h' ∧ h = h'.castSucc := by
  unfold kF at e; split at e
  · cases e; exact ⟨_, rfl, rfl⟩
  · cases e

/-- A device's own chunk comes when it is stored. -/
theorem kA_zero (L : Fin 6) : kA L 0 = .cs L := rfl
/-- A chunk from around the ring comes when it is received. -/
theorem kA_succ (L : Fin 6) (h : Fin 7) : kA L h.succ = .wr (.ring L h) := by
  unfold kA; rw [dif_neg (by simp)]; rfl
/-- A chunk that goes on is sent on by its hop. -/
theorem kH_castSucc (L : Fin 6) (h : Fin 7) : kH L h.castSucc = .hop L h := by
  unfold kH; rw [dif_pos (by simp)]; rfl
/-- The sending on of a chunk ends with the wait for its hop. -/
theorem kF_castSucc (L : Fin 6) (h : Fin 7) : kF L h.castSucc = .fin (.ring L h) := by
  unfold kF; rw [dif_pos (by simp)]; rfl

/-- The pieces that depend on the wait for a sent transfer. -/
theorem who_fin {y : SC} (h : touches c (.fin y) i = true) :
    i = .cell (.s y) ∨ (∃ e, y = .p1 e ∧ i = .x e) ∨ (∃ L k, y = .ring L k ∧ i = .k L k.castSucc)
      ∨ (∃ s L, y = .mir s ∧ inStrip c L = true ∧ i = .k L s) ∨ ∃ r, y = .out r ∧ i = .o r := by
  rcases i with (e | y' | y') | y' | y' | ⟨L, k⟩ | e | r | e | j | _ | _
  · simp [touches] at h
  · have h1 : ¬ (Act.fin y = startAct y') := by cases y' <;> simp [startAct]
    simp only [touches, h1, decide_false, Bool.false_or, Bool.and_eq_true, decide_eq_true_eq, Act.fin.injEq] at h
    exact .inl (by rw [h.2])
  · simp [touches] at h
  · have h1 : ¬ (Act.fin y = sendAct c y') := by cases y' <;> simp [sendAct]
    simp [touches, h1] at h
  · simp [touches] at h
  · simp only [touches, Bool.or_eq_true, decide_eq_true_eq, Bool.and_eq_true] at h
    rcases h with ((h | h) | h) | ⟨hi, h | h⟩
    · exact absurd h (kA_ne (by simp) (by simp) _ _)
    · exact absurd h (kH_ne (by simp) (by simp) _ _)
    · obtain ⟨h', rfl, rfl⟩ := kF_fin h
      exact .inr (.inr (.inl ⟨_, _, rfl, rfl⟩))
    · cases h
    · cases h
      exact .inr (.inr (.inr (.inl ⟨_, _, rfl, hi, rfl⟩)))
  · simp [touches] at h
    exact .inr (.inl ⟨_, h.2, rfl⟩)
  · simp [touches] at h
    exact .inr (.inr (.inr (.inr ⟨_, h, rfl⟩)))
  all_goals simp [touches] at h

/-- The pieces that depend on the wait for a received transfer. -/
theorem who_wr {y : RC} (h : touches c (.wr y) i = true) :
    i = .cell (.r y) ∨ i = .inn y ∨ ∃ L k, y = .ring L k ∧ i = .k L k.succ := by
  rcases i with (e | y' | y') | y' | y' | ⟨L, k⟩ | e | r | e | j | _ | _
  · simp [touches] at h
  · have h1 : ¬ (Act.wr y = startAct y') := by cases y' <;> simp [startAct]
    simp [touches, h1] at h
  · simp [touches] at h; exact .inl (by rw [h])
  · have h1 : ¬ (Act.wr y = sendAct c y') := by cases y' <;> simp [sendAct]
    simp [touches, h1] at h
  · simp [touches] at h; exact .inr (.inl (by rw [h]))
  · simp only [touches, Bool.or_eq_true, decide_eq_true_eq, Bool.and_eq_true] at h
    rcases h with ((h | h) | h) | ⟨hi, h | h⟩
    · obtain ⟨h', rfl, rfl⟩ := kA_wr h
      exact .inr (.inr ⟨_, _, rfl, rfl⟩)
    · exact absurd h (kH_ne (by simp) (by simp) _ _)
    · exact absurd h (kF_ne (by simp) (by simp) _ _)
    · cases h
    · cases h
  all_goals simp [touches] at h

/-- The pieces that depend on a hop. -/
theorem who_hop {L : Fin 6} {k : Fin 7} (h : touches c (.hop L k) i = true) :
    i = .cell (.s (.ring L k)) ∨ i = .to (.ring L k) ∨ i = .k L k.castSucc := by
  rcases i with (e | y' | y') | y' | y' | ⟨L', k'⟩ | e | r | e | j | _ | _
  · simp [touches] at h
  · rcases y' with _ | ⟨L', k'⟩ | _ | _ <;> simp [touches, startAct] at h
    exact .inl (by rw [h.2.1, h.2.2])
  · simp [touches] at h
  · rcases y' with _ | ⟨L', k'⟩ | _ <;> simp [touches, sendAct] at h
    exact .inr (.inl (by rw [h.1, h.2]))
  · simp [touches] at h
  · simp only [touches, Bool.or_eq_true, decide_eq_true_eq, Bool.and_eq_true] at h
    rcases h with ((h | h) | h) | ⟨hi, h | h⟩
    · exact absurd h (kA_ne (by simp) (by simp) _ _)
    · obtain ⟨rfl, rfl⟩ := kH_hop h
      exact .inr (.inr rfl)
    · exact absurd h (kF_ne (by simp) (by simp) _ _)
    · cases h
    · cases h
  all_goals simp [touches] at h

/-- The pieces that depend on sending a strip. -/
theorem who_ms {s : Fin 8} (h : touches c (.ms s) i = true) :
    i = .cell (.s (.mir s)) ∨ i = .to (.mir s) ∨ ∃ L, inStrip c L = true ∧ i = .k L s := by
  rcases i with (e | y' | y') | y' | y' | ⟨L', k'⟩ | e | r | e | j | _ | _
  · simp [touches] at h
  · rcases y' with _ | ⟨L', k'⟩ | _ | _ <;> simp [touches, startAct] at h
    exact .inl (by rw [h.2])
  · simp [touches] at h
  · rcases y' with _ | ⟨L', k'⟩ | _ <;> simp [touches, sendAct] at h
    exact .inr (.inl (by rw [h]))
  · simp [touches] at h
  · simp only [touches, Bool.or_eq_true, decide_eq_true_eq, Bool.and_eq_true] at h
    rcases h with ((h | h) | h) | ⟨hi, h | h⟩
    · exact absurd h (kA_ne (by simp) (by simp) _ _)
    · exact absurd h (kH_ne (by simp) (by simp) _ _)
    · exact absurd h (kF_ne (by simp) (by simp) _ _)
    · cases h
      exact .inr (.inr ⟨_, hi, rfl⟩)
    · cases h
  all_goals simp [touches] at h

/-- Different chunks are carried by different eighths. -/
theorem eOf_inj {L L' : Fin 6} (h : eOf c L = eOf c L') : L = L' := by
  have := congrArg Fin.val h
  simp only [eOf] at this
  exact Fin.ext (by omega)

/-- A device does send the eighths that carry chunks. -/
theorem active_p1 (L : Fin 6) : active c (.p1 (eOf c L)) = true := by
  have := px_lt c
  unfold active eOf
  dsimp only
  split
  · rename_i h; simp [h]
  · have h : px c = 1 := by omega
    simp [h]

/-- A device sends an eighth just when it carries a chunk. -/
theorem active_iff {e : Fin 8} : active c (.p1 e) = true ↔ ∃ L, e = eOf c L := by
  constructor
  · intro h
    have := px_lt c
    have := e.isLt
    unfold active at h
    dsimp only at h
    split at h
    · rename_i hp
      rw [decide_eq_true_eq] at h
      exact ⟨⟨e.val - 2, by omega⟩, Fin.ext (by simp only [eOf]; omega)⟩
    · rw [decide_eq_true_eq] at h
      exact ⟨⟨e.val, h⟩, Fin.ext (by simp only [eOf]; omega)⟩
  · rintro ⟨L, rfl⟩
    exact active_p1 L

/-- The pieces that depend on sending an eighth. -/
theorem who_p1 {L : Fin 6} (h : touches c (.p1 (eOf c L)) i = true) :
    i = .cell (.s (.p1 (eOf c L))) ∨ i = .to (.p1 L) ∨ i = .x (eOf c L) := by
  rcases i with (e | y' | y') | y' | y' | ⟨L', k'⟩ | e | r | e | j | _ | _
  · simp [touches] at h
  · rcases y' with _ | ⟨L', k'⟩ | _ | _ <;> simp [touches, startAct] at h
    exact .inl (by rw [h.2])
  · simp [touches] at h
  · rcases y' with L' | ⟨L', k'⟩ | _ <;> simp [touches, sendAct] at h
    exact .inr (.inl (by rw [eOf_inj h]))
  · simp [touches] at h
  · simp only [touches, Bool.or_eq_true, decide_eq_true_eq, Bool.and_eq_true] at h
    rcases h with ((h | h) | h) | ⟨hi, h | h⟩
    · exact absurd h (kA_ne (by simp) (by simp) _ _)
    · exact absurd h (kH_ne (by simp) (by simp) _ _)
    · exact absurd h (kF_ne (by simp) (by simp) _ _)
    · cases h
    · cases h
  · simp [touches] at h
    exact .inr (.inr (by rw [h.2]))
  all_goals simp [touches] at h

/-- No piece depends on an eighth that is not sent. -/
theorem who_p1_idle {e : Fin 8} (hi : active c (.p1 e) = false) : touches c (.p1 e) i = false := by
  rw [← Bool.not_eq_true]
  intro h
  rcases i with (e' | y' | y') | y' | y' | ⟨L', k'⟩ | e' | r | e' | j | _ | _
  · simp [touches] at h
  · rcases y' with _ | ⟨L', k'⟩ | _ | _ <;> simp [touches, startAct] at h
    rw [← h.2, hi] at h; exact absurd h.1 (by simp)
  · simp [touches] at h
  · rcases y' with L' | ⟨L', k'⟩ | _ <;> simp [touches, sendAct] at h
    rw [h, active_p1] at hi; cases hi
  · simp [touches] at h
  · simp only [touches, Bool.or_eq_true, decide_eq_true_eq, Bool.and_eq_true] at h
    rcases h with ((h | h) | h) | ⟨hi, h | h⟩
    · exact absurd h (kA_ne (by simp) (by simp) _ _)
    · exact absurd h (kH_ne (by simp) (by simp) _ _)
    · exact absurd h (kF_ne (by simp) (by simp) _ _)
    · cases h
    · cases h
  · simp [touches] at h
    rw [← h.2, hi] at h; exact absurd h.1 (by simp)
  all_goals simp [touches] at h

/-- No piece depends on the wait for an eighth that is not sent. -/
theorem who_fin_idle {e : Fin 8} (hi : active c (.p1 e) = false) : touches c (.fin (.p1 e)) i = false := by
  rw [← Bool.not_eq_true]
  intro h
  rcases i with (e' | y' | y') | y' | y' | ⟨L', k'⟩ | e' | r | e' | j | _ | _
  · simp [touches] at h
  · have h1 : ¬ (Act.fin (.p1 e) = startAct y') := by cases y' <;> simp [startAct]
    simp [touches, h1] at h
    rw [← h.2, hi] at h; exact absurd h.1 (by simp)
  · simp [touches] at h
  · rcases y' with L' | ⟨L', k'⟩ | _ <;> simp [touches, sendAct] at h
  · simp [touches] at h
  · simp only [touches, Bool.or_eq_true, decide_eq_true_eq, Bool.and_eq_true] at h
    rcases h with ((h | h) | h) | ⟨hi, h | h⟩
    · exact absurd h (kA_ne (by simp) (by simp) _ _)
    · exact absurd h (kH_ne (by simp) (by simp) _ _)
    · exact absurd h (kF_ne (by simp) (by simp) _ _)
    · cases h
    · cases h
  · simp [touches] at h
    rw [← h.2, hi] at h; exact absurd h.1 (by simp)
  all_goals simp [touches] at h

/-- The pieces that depend on shipping a band to the result. -/
theorem who_oe {r : Reg} (h : touches c (.oe r) i = true) : i = .cell (.s (.out r)) ∨ i = .o r := by
  rcases i with (e | y' | y') | y' | y' | ⟨L', k'⟩ | e | r | e | j | _ | _
  · simp [touches] at h
  · rcases y' with _ | ⟨L', k'⟩ | _ | _ <;> simp [touches, startAct] at h
    exact .inl (by rw [h.2])
  · simp [touches] at h
  · rcases y' with L' | ⟨L', k'⟩ | _ <;> simp [touches, sendAct] at h
  · simp [touches] at h
  · simp only [touches, Bool.or_eq_true, decide_eq_true_eq, Bool.and_eq_true] at h
    rcases h with ((h | h) | h) | ⟨hi, h | h⟩
    · exact absurd h (kA_ne (by simp) (by simp) _ _)
    · exact absurd h (kH_ne (by simp) (by simp) _ _)
    · exact absurd h (kF_ne (by simp) (by simp) _ _)
    · cases h
    · cases h
  · simp [touches] at h
  · simp [touches] at h
    exact .inr (by rw [h])
  all_goals simp [touches] at h

/-- Things that only one kind of piece depends on. -/
theorem who_rest {a : Act} (h : touches c a i = true)
    (ha : (∃ r, a = .os r) ∨ (∃ e, a = .xs e) ∨ (∃ L, a = .cs L) ∨ (∃ j, a = .sig j) ∨ a = .bar ∨ (∃ e, a = .gI e) ∨ ∃ e, a = .gW e) :
    (∃ r, a = .os r ∧ i = .o r) ∨ (∃ e, a = .xs e ∧ i = .x e) ∨ (∃ L, a = .cs L ∧ i = .k L 0)
      ∨ (∃ j, a = .sig j ∧ (i = .sg j ∨ ∃ y, i = .inn y ∧ hand y = j)) ∨ (a = .bar ∧ (i = .barr ∨ ∃ y, i = .to y))
      ∨ (∃ e, (a = .gI e ∨ a = .gW e) ∧ (i = .cell (.g e) ∨ i = .gb e)) := by
  rcases i with (e | y' | y') | y' | y' | ⟨L', k'⟩ | e | r | e | j | _ | _
  · simp [touches] at h
    exact .inr (.inr (.inr (.inr (.inr ⟨e, h, .inl rfl⟩))))
  · rcases ha with ⟨r, rfl⟩ | ⟨e, rfl⟩ | ⟨L, rfl⟩ | ⟨j, rfl⟩ | rfl | ⟨e, rfl⟩ | ⟨e, rfl⟩ <;>
      rcases y' with L' | ⟨L', k'⟩ | _ | _ <;> simp [touches, startAct] at h
  · rcases ha with ⟨r, rfl⟩ | ⟨e, rfl⟩ | ⟨L, rfl⟩ | ⟨j, rfl⟩ | rfl | ⟨e, rfl⟩ | ⟨e, rfl⟩ <;> simp [touches] at h
  · rcases ha with ⟨r, rfl⟩ | ⟨e, rfl⟩ | ⟨L, rfl⟩ | ⟨j, rfl⟩ | rfl | ⟨e, rfl⟩ | ⟨e, rfl⟩
    · rcases y' with L' | ⟨L', k'⟩ | _ <;> simp [touches, sendAct] at h
    · rcases y' with L' | ⟨L', k'⟩ | _ <;> simp [touches, sendAct] at h
    · rcases y' with L' | ⟨L', k'⟩ | _ <;> simp [touches, sendAct] at h
    · rcases y' with L' | ⟨L', k'⟩ | _ <;> simp [touches, sendAct] at h
    · exact .inr (.inr (.inr (.inr (.inl ⟨rfl, .inr ⟨_, rfl⟩⟩))))
    · rcases y' with L' | ⟨L', k'⟩ | _ <;> simp [touches, sendAct] at h
    · rcases y' with L' | ⟨L', k'⟩ | _ <;> simp [touches, sendAct] at h
  · rcases ha with ⟨r, rfl⟩ | ⟨e, rfl⟩ | ⟨L, rfl⟩ | ⟨j, rfl⟩ | rfl | ⟨e, rfl⟩ | ⟨e, rfl⟩ <;> simp [touches] at h
    exact .inr (.inr (.inr (.inl ⟨_, rfl, .inr ⟨_, rfl, h.symm⟩⟩)))
  · simp only [touches, Bool.or_eq_true, decide_eq_true_eq, Bool.and_eq_true] at h
    rcases ha with ⟨r, rfl⟩ | ⟨e, rfl⟩ | ⟨L, rfl⟩ | ⟨j, rfl⟩ | rfl | ⟨e, rfl⟩ | ⟨e, rfl⟩
    all_goals rcases h with ((h | h) | h) | ⟨hi, h | h⟩
    all_goals first
      | (obtain ⟨rfl, rfl⟩ := kA_cs h; exact .inr (.inr (.inl ⟨_, rfl, rfl⟩)))
      | exact absurd h (kH_ne (by simp) (by simp) _ _)
      | exact absurd h (kF_ne (by simp) (by simp) _ _)
      | exact absurd h (kA_ne (by simp) (by simp) _ _)
      | cases h
  · rcases ha with ⟨r, rfl⟩ | ⟨e, rfl⟩ | ⟨L, rfl⟩ | ⟨j, rfl⟩ | rfl | ⟨e, rfl⟩ | ⟨e, rfl⟩ <;> simp [touches] at h
    exact .inr (.inl ⟨_, rfl, by rw [h]⟩)
  · rcases ha with ⟨r, rfl⟩ | ⟨e, rfl⟩ | ⟨L, rfl⟩ | ⟨j, rfl⟩ | rfl | ⟨e, rfl⟩ | ⟨e, rfl⟩ <;> simp [touches] at h
    exact .inl ⟨_, rfl, by rw [h]⟩
  · simp [touches] at h
    exact .inr (.inr (.inr (.inr (.inr ⟨e, h, .inr rfl⟩))))
  · simp [touches] at h
    exact .inr (.inr (.inr (.inl ⟨j, h, .inl rfl⟩)))
  · simp [touches] at h
  · simp [touches] at h
    exact .inr (.inr (.inr (.inr (.inl ⟨h, .inl rfl⟩))))

end Cert.KernelIdeal.Talk
-- ==== Proof.Wait.lean ====
module

public import proofs.«01_k».proof.Proof.Touch

/-! The waits: what a device holds before and after each. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

/-- The proof needs no variants. -/
abbrev 𝒱₀ : Variants := Variants.none

variable {D : Data F} {K : GSem nD τ sig → ℕ} {c : Dev nD}

/-- All devices know the invariant of every barrier. -/
theorem Inv_bc (c' : Dev nD) : Inv D K c ⊢ cellInv ER (Rd D) (K (bc c')) (bc c') := by
  unfold Inv
  iintro ⟨-, H, -⟩
  iapply (bigSep_elim (i := c') (Finset.mem_univ _) : _ ⊢ _) $$ H
/-- A device knows its transfers' semaphores are in their first round. -/
theorem Inv_rc (x : Cell) : Inv D K c ⊢ reached ER (gc c x) 0 := by
  unfold Inv
  iintro ⟨-, -, H, -⟩
  iapply (bigSep_elim (i := x) (Finset.mem_univ _) : _ ⊢ _) $$ H
/-- All devices know the barriers are in their first round. -/
theorem Inv_rb (c' : Dev nD) : Inv D K c ⊢ reached ER (bc c') 0 := by
  unfold Inv
  iintro ⟨-, -, -, H, -⟩
  iapply (bigSep_elim (i := c') (Finset.mem_univ _) : _ ⊢ _) $$ H
/-- All devices know the levels. -/
theorem Inv_lev : Inv D K c ⊢ levAts Lx lv := by
  unfold Inv
  iintro ⟨-, -, -, -, H⟩
  iexact H

variable (D K c) in
/-- A device's state, between two things it does. -/
def St (t : ℕ) : sProp 𝕄 :=
  iprop(Inv D K c ∗ All D c (dn t) ∗ ∃ W, owes (c : Thread nD τ) (Ow c (dn t)) W)

/-- A semaphore with one credit hands over just that credit's payload. -/
theorem rest_gc (x : Cell) (h : dutiesOf c x = {0}) :
    bigSep ((Rd D).duties (gc c x) 0 \ ∅) (fun u => (Rd D).payload (gc c x) 0 u) = payOf D c 0 x := by
  rw [Finset.sdiff_empty, duties_gc, h, bigSep_singleton, payload_gc]

/-- After its round, a semaphore's counter is back at zero and the device's own. -/
theorem close (x : GSem nD τ sig) :
    iprop(cellInv ER (Rd D) (K x) x ∗ atPos ER x (0 + 1) ∅ 0) ⊢ (|={Set.univ}=> semVal x 0 : sProp 𝕄) :=
  Rounds.cell_close ER (Rd D) (Set.mem_univ _) id (duties_later D x)

/-- The time of what a device does is that thing's own time. -/
theorem t_eq {t : ℕ} {a : Act} (h : actAt t = a) (ht : t < 275) : t = code a := by rw [← h, code_actAt t ht]

/-- By time 11 the signals have been given. -/
theorem sig_before {t : ℕ} (h : 11 ≤ t) (j : Fin 3) : dn t (.sig j) = true := by
  have := j.isLt
  have : 8 + j.val < t := by omega
  exact decide_eq_true this

/-- A wait on one of a device's own semaphores gives what its one duty carries, and ends the semaphore. -/
theorem wait_core {t : ℕ} (x : Cell) (hx : dutiesOf c x = {0}) {P : sProp 𝕄} {d' : Act → Bool}
    (hO : Ow c (dn t) = Ow c d')
    (hP : All D c (dn t) ⊢ iprop((atPos ER (gc c x) 0 ∅ 0 ∗ cred (tallyAt (gc c x) () (amt x)))
      ∗ ((semVal (gc c x) 0 ∗ payOf D c 0 x) -∗ P)))
    (n : ℕ) (h0 : lv (gc c x) () ≤ n) (hn : ∀ x, dn t (sendAct c x) = false → n < code (sendAct c x) + 2) (ht : 11 ≤ t)
    {sp sp' : Space} {s s' : Shape} {e e' : EltTy} {sem : DmaSem sig} {src : Memref sig .tc sp' s' e'} {κ' : Kind} {dst : Memref sig κ' sp s e}
    {h1 : src.view.WordExact} {h2 : dst.view.WordExact} (hsem : sem = semOf x) (hN : dst.view.dmaCredit = amt x) :
    St D K c t ⊢ wp frame (wpE (defs₀ (F := F)) 𝒱₀ c none) Set.univ (Prog.lift (.waitDma2 sem src dst h1 h2))
      (fun _ => iprop(Inv D K c ∗ P ∗ ∃ W, owes (c : Thread nD τ) (Ow c d') W)) := by
  subst hsem
  have hl := @Inv_lev F _ D K c
  have hmw := hl.trans (mayWait c (.dma (semOf x)) (dn t) n h0 hn (fun j hj => by rw [sig_before ht] at hj; cases hj))
  unfold St
  iintro ⟨#HI, HA, ⟨%W, HO⟩⟩
  ihave Hp := hP $$ HA
  icases Hp with ⟨⟨Hat, Hcr⟩, Hk⟩
  rw [← hN]
  unfold Prog.lift
  iapply (Rounds.wp_wait_rest_token 𝒱₀ ER (Rd D) (c : Thread nD τ) none (κ := K (gc c x))
      (wpE_waitDma2_eq (src := src) (dst := dst) 𝒱₀ (c : Thread nD τ) none Set.univ) (Set.mem_univ _) () (O := Ow c (dn t)) (W := W) (R := 0) (m := 0) (T := ∅)
      (by rw [expect_gc, hx, hN, Finset.card_singleton, one_mul, zero_add])) $$ [Hcr HO Hat]
  · isplitr; · iapply (Inv_gc c x) $$ HI
    isplitl [Hcr]; · iexact Hcr
    isplitl [HO]; · iexact HO
    isplitr; · iapply hmw $$ HI
    iexact Hat
  iintro ⟨HO, Hat, -, Hpay⟩
  rw [wp_ret]
  imod (close (K := K) (D := D) (gc c x)) $$ [Hat] with Hs0
  · isplitr; · iapply (Inv_gc c x) $$ HI
    iexact Hat
  ihave Hpay := (Entails.of_eq (rest_gc x hx)) $$ Hpay
  imodintro
  isplitr; · iexact HI
  isplitl [Hk Hs0 Hpay]
  · iapply Hk
    isplitl [Hs0]; · iexact Hs0
    iexact Hpay
  iexists _
  rw [← hO]
  iexact HO

end Cert.KernelIdeal.Talk
-- ==== Proof.WaitSteps.lean ====
module

public import proofs.«01_k».proof.Proof.Wait

/-! Each wait of the kernel for a transfer: what it leaves a device holding. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

variable {D : Data F} {K : GSem nD τ sig → ℕ} {c : Dev nD}

/-! ## Bands, cut and joined -/

/-- A band of the summed rows, cut in two. -/
theorem cP_split (a n k : ℕ) (q : PosShare TreeShare) (f : ℕ → ℕ → Elt F .bf16) :
    (cP c a (n + k) q f : sProp 𝕄) = iprop(cP c a n q f ∗ cP c (a + n) k q f) := by
  have hd : Disjoint (rows 4096 2048 a n) (rows 4096 2048 (a + n) k) := rows_disjoint (.inl (le_refl _))
  unfold cP; rw [rows_append]
  exact BI.Entails.antisymm (pointsTo_union hd).1 (pointsTo_union hd).2

/-- The two chunks of the strip a device sends to the other ring. -/
def sL (c : Dev nD) (i : Fin 2) : Fin 6 := ⟨i.val + 4 * px c, by have := px_lt c; omega⟩

/-- A strip is made of two chunks. -/
theorem inStrip_iff {L : Fin 6} : inStrip c L = true ↔ L = sL c 0 ∨ L = sL c 1 := by
  revert c L; decide

/-- Each of the two is in the strip. -/
theorem inStrip_sL (i : Fin 2) : inStrip c (sL c i) = true := by
  revert c i; decide

/-- Where the two chunks of a strip lie in it. -/
theorem kRow_sL (i : Fin 2) (s : ℕ) : kRow c (sL c i) s = mRow c s + 64 * i.val := by
  have := px_lt c
  unfold kRow mRow sL
  dsimp only
  rcases Nat.eq_zero_or_pos (px c) with h | h
  · rw [if_pos (by omega), if_pos h]; omega
  · rw [if_neg (by omega), if_neg (by omega)]; omega

/-- A strip, cut into its two chunks. -/
theorem strip_split (s : ℕ) (q : PosShare TreeShare) (f : ℕ → ℕ → Elt F .bf16) :
    (cP c (mRow c s) 128 q f : sProp 𝕄) = iprop(cP c (kRow c (sL c 0) s) 64 q f ∗ cP c (kRow c (sL c 1) s) 64 q f) := by
  rw [kRow_sL, kRow_sL]
  exact cP_split _ 64 64 q f

/-! ## Orders -/

/-- What comes earlier in the order has been done. -/
theorem dn_lt {t : ℕ} {a b : Act} (ht : t = code a) (h : code b < code a) : dn t b = true := by
  subst ht; exact decide_eq_true h
/-- What does not come earlier in the order has not been done. -/
theorem dn_ge {t : ℕ} {a b : Act} (ht : t = code a) (h : code a ≤ code b) : dn t b = false := by
  subst ht; exact decide_eq_false (by omega)

/-- The time is at least any bound on the thing's own time. -/
theorem le_t {t : ℕ} {a : Act} (n : ℕ) (ht : t = code a) (h : n ≤ code a) : n ≤ t := by omega

/-- Nothing is sent before the barrier. -/
theorem send_pos (x : RC) : 12 ≤ code (sendAct c x) := by
  rcases x with L | ⟨L, h⟩ | s
  · simp only [sendAct, code]; omega
  · revert L h; simp only [sendAct]; decide
  · revert s; simp only [sendAct]; decide

/-- A transfer that is sent has one credit. -/
theorem dut_s {y : SC} (h : active c y = true) : dutiesOf c (.s y) = {0} := if_pos h

/-- The end of a sent or shipped transfer. -/
theorem fin_core {t : ℕ} (y : SC) (hac : active c y = true) (hact : actAt t = .fin y) (ht : t < 275)
    (hP : ∀ d', Does (dn t) (.fin y) d' → All D c (dn t) ⊢ iprop((atPos ER (gc c (.s y)) 0 ∅ 0 ∗ cred (tallyAt (gc c (.s y)) () (amt (.s y))))
      ∗ ((semVal (gc c (.s y)) 0 ∗ sent D c y) -∗ All D c d')))
    {sp sp' : Space} {s s' : Shape} {e e' : EltTy} {sem : DmaSem sig} {src : Memref sig .tc sp' s' e'} {κ' : Kind} {dst : Memref sig κ' sp s e}
    {h1 : src.view.WordExact} {h2 : dst.view.WordExact} (hsem : sem = semOf (.s y)) (hN : dst.view.dmaCredit = amt (.s y)) :
    St D K c t ⊢ wp frame (wpE (defs₀ (F := F)) 𝒱₀ c none) Set.univ (Prog.lift (.waitDma2 sem src dst h1 h2))
      (fun _ => St D K c (t + 1)) := by
  have hs := does_at hact ht
  have h11 : 11 ≤ t := by
    rw [t_eq hact ht]
    rcases y with e | ⟨L, h⟩ | s | (_ | h | h | s) <;> simp only [code] <;> try omega
    split <;> omega
  refine wait_core (.s y) (dut_s hac) ?_ (hP _ hs) 0 (by rw [lv_s]) (fun x _ => by have := send_pos (c := c) x; omega) h11 hsem hN
  exact Ow_same c hs (fun x => by cases x <;> simp [sendAct]) (fun j => by simp)

/-- The arrival of a transfer. -/
theorem wr_core {t : ℕ} (y : RC) (hact : actAt t = .wr y) (ht : t < 275)
    (hP : ∀ d', Does (dn t) (.wr y) d' → All D c (dn t) ⊢ iprop((atPos ER (gc c (.r y)) 0 ∅ 0 ∗ cred (tallyAt (gc c (.r y)) () (amt (.r y))))
      ∗ ((semVal (gc c (.r y)) 0 ∗ landed D c y) -∗ All D c d')))
    {sp sp' : Space} {s s' : Shape} {e e' : EltTy} {sem : DmaSem sig} {src' : Memref sig .tc sp' s' e'} {κ' : Kind} {dst : Memref sig κ' sp s e}
    {h1 : src'.view.WordExact} {h2 : dst.view.WordExact} (hsem : sem = semOf (.r y)) (hN : dst.view.dmaCredit = amt (.r y)) :
    St D K c t ⊢ wp frame (wpE (defs₀ (F := F)) 𝒱₀ c none) Set.univ (Prog.lift (.waitDma2 sem src' dst h1 h2))
      (fun _ => St D K c (t + 1)) := by
  have hs := does_at hact ht
  have hlt : code (sendAct (src y c) y) + 2 < code (.wr y) + 2 := by
    generalize src y c = c'
    rcases y with L | ⟨L, h⟩ | s
    · clear * -; revert c' L; simp only [sendAct]; decide +kernel
    · clear * -; revert L h; simp only [sendAct]; decide
    · clear * -; revert s; simp only [sendAct]; decide
  have h11 : 11 ≤ t := by
    have := send_pos (c := src y c) y
    have := t_eq hact ht
    omega
  refine wait_core (.r y) rfl ?_ (hP _ hs) (code (sendAct (src y c) y) + 2) (by rw [lv_r]) (fun x hx => ?_) h11 hsem hN
  · exact Ow_same c hs (fun x => by cases x <;> simp [sendAct]) (fun j => by simp)
  · have h := t_eq hact ht
    simp only [dn, decide_eq_false_iff_not] at hx
    omega

/-- A sent transfer's semaphore, after the start and before the wait. -/
theorem sep_cell (c : Dev nD) (y : SC) {d : Act → Bool} (hac : active c y = true) (h1 : d (.fin y) = false) (h2 : d (startAct y) = true) :
    st D c d (.cell (.s y)) = iprop(atPos ER (gc c (.s y)) 0 ∅ 0 ∗ cred (tallyAt (gc c (.s y)) () (amt (.s y)))) := by
  simp [st, hac, h1, h2]
/-- A sent transfer's semaphore, after the wait. -/
theorem sep_cell' (c : Dev nD) (y : SC) {d : Act → Bool} (hac : active c y = true) (h1 : d (.fin y) = true) :
    st D c d (.cell (.s y)) = semVal (gc c (.s y)) 0 := by
  simp [st, hac, h1]
/-- A received transfer's semaphore, before the wait. -/
theorem rcv_cell (c : Dev nD) (y : RC) {d : Act → Bool} (h1 : d (.wr y) = false) :
    st D c d (.cell (.r y)) = iprop(atPos ER (gc c (.r y)) 0 ∅ 0 ∗ cred (tallyAt (gc c (.r y)) () (amt (.r y)))) := by
  simp [st, h1]
/-- A received transfer's semaphore, after the wait. -/
theorem rcv_cell' (c : Dev nD) (y : RC) {d : Act → Bool} (h1 : d (.wr y) = true) :
    st D c d (.cell (.r y)) = semVal (gc c (.r y)) 0 := by
  simp [st, h1]

section Ends

variable {t : ℕ} {sp sp' : Space} {s' s'' : Shape} {e' e'' : EltTy} {sem : DmaSem sig} {src' : Memref sig .tc sp' s'' e''} {κ' : Kind} {dst : Memref sig κ' sp s' e'}
  {h1 : src'.view.WordExact} {h2 : dst.view.WordExact}

/-- The wait for a sent hop takes a device to its next state. -/
theorem step_fin_ring {L : Fin 6} {h : Fin 7} (hact : actAt t = .fin (.ring L h)) (ht : t < 275)
    (hsem : sem = semOf (.s (.ring L h))) (hN : dst.view.dmaCredit = amt (.s (.ring L h))) :
    St D K c t ⊢ wp frame (wpE (defs₀ (F := F)) 𝒱₀ c none) Set.univ (Prog.lift (.waitDma2 sem src' dst h1 h2))
      (fun _ => St D K c (t + 1)) := by
  refine fin_core _ rfl hact ht (fun d' hs => ?_) hsem hN
  have hte := t_eq hact ht
  have a1 : dn t (.hop L h) = true := dn_lt hte (by clear * -; revert L h; decide)
  have a2 : dn t (kA L h.castSucc) = true := dn_lt hte (by clear * -; revert L h; decide)
  have b2 : d' (kA L h.castSucc) = true := by rw [← hs.other _ (by unfold kA; split <;> simp), a2]
  have e2 : st D c (dn t) (.k L h.castSucc) = iprop(emp ∗ (if inStrip c L && (d' (.ms h.castSucc) && !d' (.fin (.mir h.castSucc))) then iprop(emp)
      else cP c (kRow c L h.val) 64 qB (cF D (px c))) ∗ cP c (kRow c L h.val) 64 qC (cF D (px c))) := by
    simp [st, a2, kH_castSucc, kF_castSucc, a1, hs.before, hs.other (.ms h.castSucc) (by simp), hs.other (.fin (.mir h.castSucc)) (by simp)]
  have e3 : st D c d' (.k L h.castSucc) = iprop(sent D c (.ring L h) ∗ (if inStrip c L && (d' (.ms h.castSucc) && !d' (.fin (.mir h.castSucc))) then iprop(emp)
      else cP c (kRow c L h.val) 64 qB (cF D (px c))) ∗ cP c (kRow c L h.val) 64 qC (cF D (px c))) := by
    simp [st, b2, kH_castSucc, kF_castSucc, hs.after, sent]
  refine (take2 D c hs (.cell (.s (.ring L h))) (.k L h.castSucc) (by simp) fun j j1 j2 => nt fun hh => ?_).trans ?_
  · rcases who_fin hh with h | ⟨_, h, _⟩ | ⟨L, k, h, h'⟩ | ⟨_, _, h, _⟩ | ⟨_, h, _⟩ <;> cases h <;> contradiction
  rw [sep_cell c _ rfl hs.before a1, sep_cell' c _ rfl hs.after, e2, e3]
  iintro ⟨⟨H1, -, HB, HC⟩, Hk⟩
  isplitl [H1]; · iexact H1
  iintro ⟨Hs, Hp⟩
  iapply Hk
  isplitl [Hs]; · iexact Hs
  isplitl [Hp]; · iexact Hp
  isplitl [HB]; · iexact HB
  iexact HC

/-- A chunk of a strip that has come, by shares: sent around the ring, sent to the other ring, and kept. -/
theorem k_strip (s : Fin 8) (i : Fin 2) {d : Act → Bool} (a2 : d (kA (sL c i) s) = true) (b : Bool) (hb : (d (.ms s) && !d (.fin (.mir s))) = b) :
    st D c d (.k (sL c i) s) = iprop((if d (kH (sL c i) s) && !d (kF (sL c i) s) then iprop(emp) else cP c (kRow c (sL c i) s.val) 64 qA (cF D (px c)))
      ∗ (if b then iprop(emp) else cP c (kRow c (sL c i) s.val) 64 qB (cF D (px c)))
      ∗ cP c (kRow c (sL c i) s.val) 64 qC (cF D (px c))) := by
  simp [st, a2, inStrip_sL, hb]

/-- The two chunks of a strip are different pieces. -/
theorem sL_ne (s s' : Fin 8) : Item.k (sL c 0) s ≠ Item.k (sL c 1) s' := by
  intro h
  have := congrArg (fun i : Item => match i with | .k L _ => L.val | _ => 0) h
  simp [sL] at this

/-- The wait for a sent strip takes a device to its next state. -/
theorem step_fin_mir {s : Fin 8} (hact : actAt t = .fin (.mir s)) (ht : t < 275)
    (hsem : sem = semOf (.s (.mir s))) (hN : dst.view.dmaCredit = amt (.s (.mir s))) :
    St D K c t ⊢ wp frame (wpE (defs₀ (F := F)) 𝒱₀ c none) Set.univ (Prog.lift (.waitDma2 sem src' dst h1 h2))
      (fun _ => St D K c (t + 1)) := by
  refine fin_core _ rfl hact ht (fun d' hs => ?_) hsem hN
  have hte := t_eq hact ht
  have a1 : dn t (.ms s) = true := dn_lt hte (by clear * -; revert s; decide)
  have a2 : ∀ L, dn t (kA L s) = true := fun L => dn_lt hte (by clear * -; revert L s; decide)
  have b2 : ∀ L, d' (kA L s) = true := fun L => by rw [← hs.other _ (by unfold kA; split <;> simp), a2]
  have o1 : ∀ L, dn t (kH L s) = d' (kH L s) := fun L => hs.other _ (by unfold kH; split <;> simp)
  have o2 : ∀ L, dn t (kF L s) = d' (kF L s) := fun L => hs.other _ (by unfold kF; split <;> simp)
  refine (take3 D c hs (.cell (.s (.mir s))) (.k (sL c 0) s) (.k (sL c 1) s) (by simp) (by simp) (sL_ne s s) fun j j1 j2 j3 => nt fun hh => ?_).trans ?_
  · rcases who_fin hh with h | ⟨_, h, _⟩ | ⟨L, k, h, h'⟩ | ⟨_, L, h, hi, _⟩ | ⟨_, h, _⟩ <;> cases h <;> try contradiction
    rcases inStrip_iff.mp hi with rfl | rfl <;> contradiction
  rw [sep_cell c _ rfl hs.before a1, sep_cell' c _ rfl hs.after]
  rw [k_strip s 0 (a2 _) true (by rw [a1, hs.before]; rfl), k_strip s 1 (a2 _) true (by rw [a1, hs.before]; rfl),
    k_strip s 0 (b2 _) false (by rw [hs.after]; simp), k_strip s 1 (b2 _) false (by rw [hs.after]; simp), o1, o1, o2, o2]
  simp only [sent, strip_split]
  rw [if_neg Bool.false_ne_true, if_neg Bool.false_ne_true]
  iintro ⟨⟨H1, ⟨HA, -, HC⟩, ⟨HA', -, HC'⟩⟩, Hk⟩
  isplitl [H1]; · iexact H1
  iintro ⟨Hs, Hp, Hp'⟩
  iapply Hk
  isplitl [Hs]; · iexact Hs
  isplitl [HA Hp HC]
  · isplitl [HA]; · iexact HA
    isplitl [Hp]; · iexact Hp
    iexact HC
  isplitl [HA']; · iexact HA'
  isplitl [Hp']; · iexact Hp'
  iexact HC'

/-- The wait for a shipped band takes a device to its next state. -/
theorem step_fin_out {r : Reg} (hact : actAt t = .fin (.out r)) (ht : t < 275)
    (hsem : sem = semOf (.s (.out r))) (hN : dst.view.dmaCredit = amt (.s (.out r))) :
    St D K c t ⊢ wp frame (wpE (defs₀ (F := F)) 𝒱₀ c none) Set.univ (Prog.lift (.waitDma2 sem src' dst h1 h2))
      (fun _ => St D K c (t + 1)) := by
  refine fin_core _ rfl hact ht (fun d' hs => ?_) hsem hN
  have hte := t_eq hact ht
  have a1 : dn t (.oe r) = true := dn_lt hte (by clear * -; revert r; decide)
  have e2 : st D c (dn t) (.o r) = iprop(emp) := by simp [st, a1, hs.before]
  have e3 : st D c d' (.o r) = sent D c (.out r) := by simp [st, hs.after]
  refine (take2 D c hs (.cell (.s (.out r))) (.o r) (by simp) fun j j1 j2 => nt fun hh => ?_).trans ?_
  · rcases who_fin hh with h | ⟨_, h, _⟩ | ⟨L, k, h, h'⟩ | ⟨_, _, h, _⟩ | ⟨_, h, _⟩ <;> cases h <;> contradiction
  rw [sep_cell c _ rfl hs.before a1, sep_cell' c _ rfl hs.after, e2, e3]
  iintro ⟨⟨H1, -⟩, Hk⟩
  isplitl [H1]; · iexact H1
  iintro ⟨Hs, Hp⟩
  iapply Hk
  isplitl [Hs]; · iexact Hs
  iexact Hp

/-- The wait for a sent eighth takes a device to its next state. -/
theorem step_fin_p1 {e : Fin 8} (hac : active c (.p1 e) = true) (hact : actAt t = .fin (.p1 e)) (ht : t < 275)
    (hsem : sem = semOf (.s (.p1 e))) (hN : dst.view.dmaCredit = amt (.s (.p1 e))) :
    St D K c t ⊢ wp frame (wpE (defs₀ (F := F)) 𝒱₀ c none) Set.univ (Prog.lift (.waitDma2 sem src' dst h1 h2))
      (fun _ => St D K c (t + 1)) := by
  refine fin_core _ hac hact ht (fun d' hs => ?_) hsem hN
  have hte := t_eq hact ht
  have a1 : dn t (.p1 e) = true := dn_lt hte (by clear * -; revert e; decide)
  have a2 : dn t (.xs e) = true := dn_lt hte (by clear * -; revert e; decide)
  have b2 : d' (.xs e) = true := by rw [← hs.other _ (by simp), a2]
  have e2 : st D c (dn t) (.x e) = iprop(xP c (64 * e.val) 64 fullShare.right (xF D c) ∗ emp) := by simp [st, a1, a2, hac, hs.before]
  have e3 : st D c d' (.x e) = iprop(xP c (64 * e.val) 64 fullShare.right (xF D c) ∗ sent D c (.p1 e)) := by simp [st, hs.after, b2, sent]
  refine (take2 D c hs (.cell (.s (.p1 e))) (.x e) (by simp) fun j j1 j2 => nt fun hh => ?_).trans ?_
  · rcases who_fin hh with h | ⟨_, h, _⟩ | ⟨L, k, h, h'⟩ | ⟨_, _, h, _⟩ | ⟨_, h, _⟩ <;> cases h <;> contradiction
  rw [sep_cell c _ hac hs.before a1, sep_cell' c _ hac hs.after, e2, e3]
  iintro ⟨⟨H1, HR, -⟩, Hk⟩
  isplitl [H1]; · iexact H1
  iintro ⟨Hs, Hp⟩
  iapply Hk
  isplitl [Hs]; · iexact Hs
  isplitl [HR]; · iexact HR
  iexact Hp

/-- The wait for a received hop takes a device to its next state. -/
theorem step_wr_ring {L : Fin 6} {h : Fin 7} (hact : actAt t = .wr (.ring L h)) (ht : t < 275)
    (hsem : sem = semOf (.r (.ring L h))) (hN : dst.view.dmaCredit = amt (.r (.ring L h))) :
    St D K c t ⊢ wp frame (wpE (defs₀ (F := F)) 𝒱₀ c none) Set.univ (Prog.lift (.waitDma2 sem src' dst h1 h2))
      (fun _ => St D K c (t + 1)) := by
  refine wr_core _ hact ht (fun d' hs => ?_) hsem hN
  have hte := t_eq hact ht
  have a1 : dn t (.sig (hand (.ring L h))) = true := sig_before (le_t _ hte (by clear * -; revert L h; decide)) _
  have b1 : d' (.sig (hand (.ring L h))) = true := by rw [← hs.other _ (by simp), a1]
  have a2 : dn t (kH L h.succ) = false := dn_ge hte (by clear * -; revert L h; decide)
  have a3 : dn t (.ms h.succ) = false := dn_ge hte (by clear * -; revert L h; decide)
  have b2 : d' (kH L h.succ) = false := by rw [← hs.other _ (by unfold kH; split <;> simp), a2]
  have b3 : d' (.ms h.succ) = false := by rw [← hs.other _ (by simp), a3]
  have e2 : st D c (dn t) (.k L h.succ) = iprop(emp) := by
    simp [st, kA_succ, hs.before]
  have e3 : st D c d' (.k L h.succ) = iprop(cP c (kRow c L (h.val + 1)) 64 qA (cF D (px c)) ∗ cP c (kRow c L (h.val + 1)) 64 qB (cF D (px c)) ∗ cP c (kRow c L (h.val + 1)) 64 qC (cF D (px c))) := by
    simp [st, kA_succ, hs.after, b2, b3]
  have e4 : st D c (dn t) (.inn (.ring L h)) = iprop(emp) := by simp [st, a1, hs.before]
  have e5 : st D c d' (.inn (.ring L h)) = iprop(emp) := by simp [st, b1, hs.after, keep]
  refine (take3 D c hs (.cell (.r (.ring L h))) (.k L h.succ) (.inn (.ring L h)) (by simp) (by simp) (by simp) fun j j1 j2 j3 => nt fun hh => ?_).trans ?_
  · rcases who_wr hh with h | h | ⟨L, k, h, h'⟩ <;> cases h <;> contradiction
  rw [rcv_cell c _ hs.before, rcv_cell' c _ hs.after, e2, e3, e4, e5]
  unfold landed
  dsimp only
  iintro ⟨⟨H1, -, -⟩, Hk⟩
  isplitl [H1]; · iexact H1
  iintro ⟨Hs, Hp⟩
  iapply Hk
  isplitl [Hs]; · iexact Hs
  ihave ⟨HA, HR⟩ := (pointsTo_share (PosShare.mem_left_op_right fullShare)).1 $$ Hp
  ihave ⟨HB, HC⟩ := (pointsTo_share (PosShare.mem_left_op_right fullShare.right)).1 $$ HR
  isplitl [HA HB HC]
  · isplitl [HA]; · iexact HA
    isplitl [HB]; · iexact HB
    iexact HC
  iempintro

/-- The wait for a received eighth takes a device to its next state. -/
theorem step_wr_p1 {L : Fin 6} (hact : actAt t = .wr (.p1 L)) (ht : t < 275)
    (hsem : sem = semOf (.r (.p1 L))) (hN : dst.view.dmaCredit = amt (.r (.p1 L))) :
    St D K c t ⊢ wp frame (wpE (defs₀ (F := F)) 𝒱₀ c none) Set.univ (Prog.lift (.waitDma2 sem src' dst h1 h2))
      (fun _ => St D K c (t + 1)) := by
  refine wr_core _ hact ht (fun d' hs => ?_) hsem hN
  have hte := t_eq hact ht
  have a1 : dn t (.sig (hand (.p1 L))) = true := sig_before (le_t _ hte (by clear * -; revert L; decide)) _
  have b1 : d' (.sig (hand (.p1 L))) = true := by rw [← hs.other _ (by simp), a1]
  have e4 : st D c (dn t) (.inn (.p1 L)) = iprop(emp) := by simp [st, a1, hs.before]
  have e5 : st D c d' (.inn (.p1 L)) = landed D c (.p1 L) := by simp [st, b1, hs.after, keep]
  refine (take2 D c hs (.cell (.r (.p1 L))) (.inn (.p1 L)) (by simp) fun j j1 j2 => nt fun hh => ?_).trans ?_
  · rcases who_wr hh with h | h | ⟨L, k, h, h'⟩ <;> cases h <;> contradiction
  rw [rcv_cell c _ hs.before, rcv_cell' c _ hs.after, e4, e5]
  iintro ⟨⟨H1, -⟩, Hk⟩
  isplitl [H1]; · iexact H1
  iintro ⟨Hs, Hp⟩
  iapply Hk
  isplitl [Hs]; · iexact Hs
  iexact Hp

/-- The wait for a received strip takes a device to its next state. -/
theorem step_wr_mir {s : Fin 8} (hact : actAt t = .wr (.mir s)) (ht : t < 275)
    (hsem : sem = semOf (.r (.mir s))) (hN : dst.view.dmaCredit = amt (.r (.mir s))) :
    St D K c t ⊢ wp frame (wpE (defs₀ (F := F)) 𝒱₀ c none) Set.univ (Prog.lift (.waitDma2 sem src' dst h1 h2))
      (fun _ => St D K c (t + 1)) := by
  refine wr_core _ hact ht (fun d' hs => ?_) hsem hN
  have hte := t_eq hact ht
  have a1 : dn t (.sig (hand (.mir s))) = true := sig_before (le_t _ hte (by clear * -; revert s; decide)) _
  have b1 : d' (.sig (hand (.mir s))) = true := by rw [← hs.other _ (by simp), a1]
  have e4 : st D c (dn t) (.inn (.mir s)) = iprop(emp) := by simp [st, a1, hs.before]
  have e5 : st D c d' (.inn (.mir s)) = landed D c (.mir s) := by simp [st, b1, hs.after, keep]
  refine (take2 D c hs (.cell (.r (.mir s))) (.inn (.mir s)) (by simp) fun j j1 j2 => nt fun hh => ?_).trans ?_
  · rcases who_wr hh with h | h | ⟨L, k, h, h'⟩ <;> cases h <;> contradiction
  rw [rcv_cell c _ hs.before, rcv_cell' c _ hs.after, e4, e5]
  iintro ⟨⟨H1, -⟩, Hk⟩
  isplitl [H1]; · iexact H1
  iintro ⟨Hs, Hp⟩
  iapply Hk
  isplitl [Hs]; · iexact Hs
  iexact Hp

end Ends

end Cert.KernelIdeal.Talk
-- ==== Proof.Sends.lean ====
module

public import proofs.«01_k».proof.Proof.WaitSteps

/-! The transfers to other devices: what each takes from what a device holds. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

variable {D : Data F} {K : GSem nD τ sig → ℕ} {c : Dev nD}

/-! ## Slices of the buffers are bands -/

section Bands

variable {off sz : Fin 2 → ℕ} {a n : ℕ} (d : Dev nD) (q : PosShare TreeShare)

/-- A slice of the summed rows is a band of them. -/
theorem band_c {inb hr} (hoff : off = ![a, 0]) (hsz : sz = ![n, 2048]) (f : Shape.Idx ⟨2, ![4096, 2048]⟩ → Elt F .bf16) :
    ((((Memref.whole cc0_scratch0).slice (Rect.unit (s := S4096x2048) off sz inb) hr).view.loc (d : Thread nD τ)
      ↦[((Memref.whole cc0_scratch0).slice (Rect.unit (s := S4096x2048) off sz inb) hr).view.set]{q} f) : sProp 𝕄)
    = (((d : Thread nD τ).loc cc0_scratch0) ↦[rows 4096 2048 a n]{q} f) := by
  have h : ((Memref.whole cc0_scratch0).slice (Rect.unit (s := S4096x2048) off sz inb) hr).view.set = rows 4096 2048 a n :=
    (View.set_slice_whole cc0_scratch0 _).trans (rect_rows hoff hsz)
  rw [h]

/-- A slice of the widened rows is a band of them. -/
theorem band_o {inb hr} (hoff : off = ![a, 0]) (hsz : sz = ![n, 2048]) (f : Shape.Idx ⟨2, ![4096, 2048]⟩ → Elt F .f32) :
    ((((Memref.whole cc0_scratch1).slice (Rect.unit (s := S4096x2048) off sz inb) hr).view.loc (d : Thread nD τ)
      ↦[((Memref.whole cc0_scratch1).slice (Rect.unit (s := S4096x2048) off sz inb) hr).view.set]{q} f) : sProp 𝕄)
    = (((d : Thread nD τ).loc cc0_scratch1) ↦[rows 4096 2048 a n]{q} f) := by
  have h : ((Memref.whole cc0_scratch1).slice (Rect.unit (s := S4096x2048) off sz inb) hr).view.set = rows 4096 2048 a n :=
    (View.set_slice_whole cc0_scratch1 _).trans (rect_rows hoff hsz)
  rw [h]

/-- A slice of the result is a band of it. -/
theorem band_h {inb hr} (hoff : off = ![a, 0]) (hsz : sz = ![n, 2048]) (f : Shape.Idx ⟨2, ![4096, 2048]⟩ → Elt F .f32) :
    ((((Memref.whole main_v32).slice (Rect.unit (s := S4096x2048) off sz inb) hr).view.loc (d : Thread nD τ)
      ↦[((Memref.whole main_v32).slice (Rect.unit (s := S4096x2048) off sz inb) hr).view.set]{q} f) : sProp 𝕄)
    = (((d : Thread nD τ).loc main_v32) ↦[rows 4096 2048 a n]{q} f) := by
  have h : ((Memref.whole main_v32).slice (Rect.unit (s := S4096x2048) off sz inb) hr).view.set = rows 4096 2048 a n :=
    (View.set_slice_whole main_v32 _).trans (rect_rows hoff hsz)
  rw [h]

/-- A slice of the rows from the other ring is a band of them. -/
theorem band_p {inb hr} (hoff : off = ![a, 0]) (hsz : sz = ![n, 2048]) (f : Shape.Idx ⟨2, ![384, 2048]⟩ → Elt F .bf16) :
    ((((Memref.whole cc0_scratch2).slice (Rect.unit (s := S384x2048) off sz inb) hr).view.loc (d : Thread nD τ)
      ↦[((Memref.whole cc0_scratch2).slice (Rect.unit (s := S384x2048) off sz inb) hr).view.set]{q} f) : sProp 𝕄)
    = (((d : Thread nD τ).loc cc0_scratch2) ↦[rows 384 2048 a n]{q} f) := by
  have h : ((Memref.whole cc0_scratch2).slice (Rect.unit (s := S384x2048) off sz inb) hr).view.set = rows 384 2048 a n :=
    (View.set_slice_whole cc0_scratch2 _).trans (rect_rows hoff hsz)
  rw [h]

/-- A slice of the gathered rows is a band of them. -/
theorem band_g {inb hr} (hoff : off = ![a, 0]) (hsz : sz = ![n, 2048]) (f : Shape.Idx ⟨2, ![512, 2048]⟩ → Elt F .f32) :
    ((((Memref.whole cc0_scratch3).slice (Rect.unit (s := S512x2048) off sz inb) hr).view.loc (d : Thread nD τ)
      ↦[((Memref.whole cc0_scratch3).slice (Rect.unit (s := S512x2048) off sz inb) hr).view.set]{q} f) : sProp 𝕄)
    = (((d : Thread nD τ).loc cc0_scratch3) ↦[rows 512 2048 a n]{q} f) := by
  have h : ((Memref.whole cc0_scratch3).slice (Rect.unit (s := S512x2048) off sz inb) hr).view.set = rows 512 2048 a n :=
    (View.set_slice_whole cc0_scratch3 _).trans (rect_rows hoff hsz)
  rw [h]

/-- A slice of the scaled rows is a band of them. -/
theorem band_x {inb hr} (hoff : off = ![a, 0]) (hsz : sz = ![n, 2048]) (f : Shape.Idx ⟨2, ![512, 2048]⟩ → Elt F .bf16) :
    ((((Memref.whole cc0_scratch4).slice (Rect.unit (s := S512x2048) off sz inb) hr).view.loc (d : Thread nD τ)
      ↦[((Memref.whole cc0_scratch4).slice (Rect.unit (s := S512x2048) off sz inb) hr).view.set]{q} f) : sProp 𝕄)
    = (((d : Thread nD τ).loc cc0_scratch4) ↦[rows 512 2048 a n]{q} f) := by
  have h : ((Memref.whole cc0_scratch4).slice (Rect.unit (s := S512x2048) off sz inb) hr).view.set = rows 512 2048 a n :=
    (View.set_slice_whole cc0_scratch4 _).trans (rect_rows hoff hsz)
  rw [h]

/-- A slice of the table's block is a band of it. -/
theorem band_e {inb hr} (hoff : off = ![a, 0]) (hsz : sz = ![n, 2048]) (f : Shape.Idx ⟨2, ![8192, 2048]⟩ → Elt F .f32) :
    ((((Memref.whole main_arg1).slice (Rect.unit (s := S8192x2048) off sz inb) hr).view.loc (d : Thread nD τ)
      ↦[((Memref.whole main_arg1).slice (Rect.unit (s := S8192x2048) off sz inb) hr).view.set]{q} f) : sProp 𝕄)
    = (((d : Thread nD τ).loc main_arg1) ↦[rows 8192 2048 a n]{q} f) := by
  have h : ((Memref.whole main_arg1).slice (Rect.unit (s := S8192x2048) off sz inb) hr).view.set = rows 8192 2048 a n :=
    (View.set_slice_whole main_arg1 _).trans (rect_rows hoff hsz)
  rw [h]

end Bands

/-! ## What a copy leaves -/

section Written

variable {off off' sz : Fin 2 → ℕ} {a b n : ℕ}

/-- What lands of summed rows in a band of summed rows. -/
theorem wr_cc {inb inb'} {f g : ℕ → ℕ → Elt F .bf16} (hoff : off = ![a, 0]) (hoff' : off' = ![b, 0])
    (h : ∀ r k, r < n → f (a + r) k = g (b + r) k) (fd : cc0_scratch0.ty.Contents (Elt F)) (i : Shape.Idx ⟨2, ![4096, 2048]⟩) (hi : i ∈ rows 4096 2048 b n) :
    ((View.whole cc0_scratch0).slice (Rect.unit (s := S4096x2048) off' ![n, 2048] inb')).write (Elt F) fd
      (((View.whole cc0_scratch0).slice (Rect.unit (s := S4096x2048) off ![n, 2048] inb)).read (Elt F) (grid f)) Finset.univ i = grid g i := by
  rw [← rect_rows (inb := inb') hoff' rfl] at hi
  refine write_slice_whole cc0_scratch0 _ fd (grid g) _ (fun x => ?_) i hi
  have h1 := grid_emb (R := 4096) (W := 2048) (inb := inb) f hoff rfl x
  have h2 := grid_emb (R := 4096) (W := 2048) (inb := inb') g hoff' rfl x
  exact h1.trans ((h _ _ (x 0).isLt).trans h2.symm)

/-- What lands of scaled rows in a band of the rows from the other ring. -/
theorem wr_xp {inb inb'} {f g : ℕ → ℕ → Elt F .bf16} (hoff : off = ![a, 0]) (hoff' : off' = ![b, 0])
    (h : ∀ r k, r < n → f (a + r) k = g (b + r) k) (fd : cc0_scratch2.ty.Contents (Elt F)) (i : Shape.Idx ⟨2, ![384, 2048]⟩) (hi : i ∈ rows 384 2048 b n) :
    ((View.whole cc0_scratch2).slice (Rect.unit (s := S384x2048) off' ![n, 2048] inb')).write (Elt F) fd
      (((View.whole cc0_scratch4).slice (Rect.unit (s := S512x2048) off ![n, 2048] inb)).read (Elt F) (grid f)) Finset.univ i = grid g i := by
  rw [← rect_rows (inb := inb') hoff' rfl] at hi
  refine write_slice_whole cc0_scratch2 _ fd (grid g) _ (fun x => ?_) i hi
  have h1 := grid_emb (R := 512) (W := 2048) (inb := inb) f hoff rfl x
  have h2 := grid_emb (R := 384) (W := 2048) (inb := inb') g hoff' rfl x
  exact h1.trans ((h _ _ (x 0).isLt).trans h2.symm)

/-- What lands of widened rows in a band of the result. -/
theorem wr_oh {inb inb'} {f g : ℕ → ℕ → Elt F .f32} (hoff : off = ![a, 0]) (hoff' : off' = ![b, 0])
    (h : ∀ r k, r < n → f (a + r) k = g (b + r) k) (fd : main_v32.ty.Contents (Elt F)) (i : Shape.Idx ⟨2, ![4096, 2048]⟩) (hi : i ∈ rows 4096 2048 b n) :
    ((View.whole main_v32).slice (Rect.unit (s := S4096x2048) off' ![n, 2048] inb')).write (Elt F) fd
      (((View.whole cc0_scratch1).slice (Rect.unit (s := S4096x2048) off ![n, 2048] inb)).read (Elt F) (grid f)) Finset.univ i = grid g i := by
  rw [← rect_rows (inb := inb') hoff' rfl] at hi
  refine write_slice_whole main_v32 _ fd (grid g) _ (fun x => ?_) i hi
  have h1 := grid_emb (R := 4096) (W := 2048) (inb := inb) f hoff rfl x
  have h2 := grid_emb (R := 4096) (W := 2048) (inb := inb') g hoff' rfl x
  exact h1.trans ((h _ _ (x 0).isLt).trans h2.symm)

/-- What lands of the table's rows in a band of the gathered rows. -/
theorem wr_eg {inb inb'} {f g : ℕ → ℕ → Elt F .f32} (hoff : off = ![a, 0]) (hoff' : off' = ![b, 0])
    (h : ∀ r k, r < n → f (a + r) k = g (b + r) k) (fd : cc0_scratch3.ty.Contents (Elt F)) (i : Shape.Idx ⟨2, ![512, 2048]⟩) (hi : i ∈ rows 512 2048 b n) :
    ((View.whole cc0_scratch3).slice (Rect.unit (s := S512x2048) off' ![n, 2048] inb')).write (Elt F) fd
      (((View.whole main_arg1).slice (Rect.unit (s := S8192x2048) off ![n, 2048] inb)).read (Elt F) (grid f)) Finset.univ i = grid g i := by
  rw [← rect_rows (inb := inb') hoff' rfl] at hi
  refine write_slice_whole cc0_scratch3 _ fd (grid g) _ (fun x => ?_) i hi
  have h1 := grid_emb (R := 8192) (W := 2048) (inb := inb) f hoff rfl x
  have h2 := grid_emb (R := 512) (W := 2048) (inb := inb') g hoff' rfl x
  exact h1.trans ((h _ _ (x 0).isLt).trans h2.symm)

end Written

/-! ## Starting a transfer to another device -/

/-- A transfer to another device: the device gives the rows it reads and the rows it writes, and does no longer owe it. -/
theorem send_core {t : ℕ} (x : RC) (y : SC) (hy : dutiesOf c (.s y) = {0}) (hact : actAt t = sendAct c x) (ht : t < 275)
    (hamt : amt (.s y) = amt (.r x))
    {sp sp' : Space} {s : Shape} {e : EltTy} {sS sR : DmaSem sig} {src : Memref sig .tc sp s e} {dst : Memref sig .tc sp' s e}
    {c' : Dev nD} (hc : c' = tgt x c) (hS : sS = semOf (.s y)) (hR : sR = semOf (.r x))
    {hsc : dst.view.ref.isScScratch = false} {h1 : src.view.WordExact} {h2 : dst.view.WordExact}
    {h3 : DmaTarget.Typed sp (SemLoc.dma sR) (.remote (Dev.tc c') dst (SemLoc.dma sS) hsc)}
    (q : PosShare TreeShare) (fs : Buf (Elt F) (src.view.loc (c : Thread nD τ)))
    (hN : dst.view.dmaCredit = amt (.r x))
    (hP : ∀ d', Does (dn t) (sendAct c x) d' → All D c (dn t) ⊢ iprop((dutyTok ER (gc c (.s y)) 0 0
        ∗ (dutyTok ER (gc (tgt x c) (.r x)) 0 0 ∗ spare (tgt x c) x ∗ reached ER (gc (tgt x c) (.r x)) 0)
        ∗ (src.view.loc (c : Thread nD τ) ↦[src.view.set]{q} fs))
      ∗ (cred (tallyAt (gc c (.s y)) () (amt (.s y))) -∗ All D c d')))
    (hpay₁ : (src.view.loc (c : Thread nD τ) ↦[src.view.set]{q} fs) ⊢ sent D c y)
    (hsp : spare (F := F) (tgt x c) x ⊢ iprop(∃ fd : Buf (Elt F) (dst.view.loc (tgt x c : Thread nD τ)), dst.view.loc (tgt x c : Thread nD τ) ↦[dst.view.set]{fullShare} fd))
    (hpay₂ : ∀ fd, (dst.view.loc (tgt x c : Thread nD τ) ↦[dst.view.set]{fullShare} (dst.view.write (Elt F) fd (src.view.read (Elt F) fs) Finset.univ))
      ⊢ landed D (tgt x c) x) :
    St D K c t ⊢ wp frame (wpE (defs₀ (F := F)) 𝒱₀ c none) Set.univ
      (Prog.lift (.enqueueDma src (.remote (Dev.tc c') dst (.dma sS) hsc) (.dma sR) h1 h2 h3)) (fun _ => St D K c (t + 1)) := by
  subst hc hS hR
  have hs := does_at hact ht
  unfold St
  iintro ⟨#HI, HA, ⟨%W, HO⟩⟩
  ihave Hp := hP _ hs $$ HA
  icases Hp with ⟨⟨Ht1, ⟨Ht2, Hsp, Hr⟩, Hsrc⟩, Hk⟩
  ihave ⟨%fd, Hd⟩ := hsp $$ Hsp
  unfold Prog.lift
  iapply (Rounds.wp_send_pointsTo 𝒱₀ ER (Rd D) (c : Thread nD τ) none (c' := (tgt x c : Thread nD τ)) (src := src) (dst := dst)
    (sS := .dma (semOf (.s y))) (sem := .dma (semOf (.r x))) (q := q) (fs := fs) (fd := fd) (r₁ := 0) (r₂ := 0) (d₁ := 0) (d₂ := 0)
    (κ₁ := K (gc c (.s y))) (κ₂ := K (gc (tgt x c) (.r x)))
    (by rw [duties_gc, hy]; exact Finset.mem_singleton_self _) (by rw [duties_gc]; exact Finset.mem_singleton_self _)
    () () (amt (.r x)) hN (by rw [amount_gc, hamt]) (by rw [amount_gc]) (Ow c (dn (t + 1))) (Ow_send c x hs) (W := W)
    (by rw [payload_gc]; exact hpay₁) (by rw [payload_gc]; exact hpay₂ fd)) $$ [HO Ht1 Ht2 Hr Hsrc Hd]
  · isplitr; · iapply (Inv_gc c (.s y)) $$ HI
    isplitr; · iapply (Inv_gc (tgt x c) (.r x)) $$ HI
    isplitl [Hsrc]; · iexact Hsrc
    isplitl [Hd]; · iexact Hd
    isplitl [HO]; · iexact HO
    isplitl [Ht1]; · iexact Ht1
    isplitr; · iapply (Inv_rc (.s y)) $$ HI
    isplitl [Ht2]; · iexact Ht2
    iexact Hr
  iintro ⟨Hcr, HO⟩
  rw [wp_ret]
  imodintro
  isplitr; · iexact HI
  isplitl [Hcr Hk]
  · iapply Hk
    rw [hamt]
    iexact Hcr
  iexists W
  iexact HO

/-- A sent transfer's semaphore, before the start. -/
theorem cell_tok (c : Dev nD) (y : SC) {d : Act → Bool} (hac : active c y = true) (h1 : d (.fin y) = false) (h2 : d (startAct y) = false) :
    st D c d (.cell (.s y)) = iprop(atPos ER (gc c (.s y)) 0 ∅ 0 ∗ dutyTok ER (gc c (.s y)) 0 0) := by
  simp [st, hac, h1, h2]
/-- What a device needs to send a transfer, before it is sent. -/
theorem to_before (c : Dev nD) (y : RC) {d : Act → Bool} (h1 : d (sendAct c y) = false) (h2 : d .bar = true) :
    st D c d (.to y) = iprop(dutyTok ER (gc (tgt y c) (.r y)) 0 0 ∗ spare (tgt y c) y ∗ reached ER (gc (tgt y c) (.r y)) 0) := by
  simp [st, h1, h2]
/-- Nothing of it is left once the transfer is sent. -/
theorem to_after (c : Dev nD) (y : RC) {d : Act → Bool} (h1 : d (sendAct c y) = true) : st D c d (.to y) = iprop(emp) := by
  simp [st, h1]

/-- A hop stays within its half. -/
theorem px_tgt_ring (L : Fin 6) (h : Fin 7) : px (tgt (.ring L h) c) = px c := by
  clear * -; revert c L; simp only [tgt, hand]; decide
/-- A chunk lands in the rows it left. -/
theorem kRow_tgt (L : Fin 6) (h : Fin 7) : kRow (tgt (.ring L h) c) L (h.val + 1) = kRow c L h.val := by
  clear * -; revert c L h; simp only [tgt, hand]; decide +kernel

section Sends

variable {t : ℕ} {sS sR : DmaSem sig} {c' : Dev nD} {off off' : Fin 2 → ℕ}

/-- A hop takes a device to its next state. -/
theorem step_hop {L : Fin 6} {h : Fin 7} (hact : actAt t = .hop L h) (ht : t < 275)
    {inb inb' hr hr' hsc h1 h2 h3} (hoff : off = ![kRow c L h.val, 0]) (hoff' : off' = ![kRow c L h.val, 0])
    (hc : c' = tgt (.ring L h) c) (hS : sS = semOf (.s (.ring L h))) (hR : sR = semOf (.r (.ring L h))) :
    St D K c t ⊢ wp frame (wpE (defs₀ (F := F)) 𝒱₀ c none) Set.univ
      (Prog.lift (.enqueueDma ((Memref.whole cc0_scratch0).slice (Rect.unit (s := S4096x2048) off S64x2048.size inb) hr)
        (.remote (Dev.tc c') ((Memref.whole cc0_scratch0).slice (Rect.unit (s := S4096x2048) off' S64x2048.size inb') hr') (.dma sS) hsc) (.dma sR) h1 h2 h3))
      (fun _ => St D K c (t + 1)) := by
  have hte := t_eq hact ht
  refine send_core (.ring L h) (.ring L h) rfl hact ht rfl hc hS hR qA (grid (cF D (px c))) rfl (fun d' hs => ?_) ?_ ?_ fun fd => ?_
  · have a0 : dn t .bar = true := dn_lt hte (by clear * -; revert L h; decide)
    have a1 : dn t (.fin (.ring L h)) = false := dn_ge hte (by clear * -; revert L h; decide)
    have a2 : dn t (kA L h.castSucc) = true := dn_lt hte (by clear * -; revert L h; decide)
    have b1 : d' (.fin (.ring L h)) = false := by rw [← hs.other _ (by simp [sendAct]), a1]
    have b2 : d' (kA L h.castSucc) = true := by rw [← hs.other _ (by unfold kA sendAct; split <;> simp), a2]
    have hb := hs.before
    have ha := hs.after
    have o1 := hs.other (.ms h.castSucc) (by simp [sendAct])
    have o2 := hs.other (.fin (.mir h.castSucc)) (by simp [sendAct])
    simp only [sendAct] at hb ha
    have e2 : st D c (dn t) (.k L h.castSucc) = iprop(sent D c (.ring L h) ∗ (if inStrip c L && (d' (.ms h.castSucc) && !d' (.fin (.mir h.castSucc))) then iprop(emp)
        else cP c (kRow c L h.val) 64 qB (cF D (px c))) ∗ cP c (kRow c L h.val) 64 qC (cF D (px c))) := by
      simp [st, a2, kH_castSucc, kF_castSucc, hb, o1, o2, sent]
    have e3 : st D c d' (.k L h.castSucc) = iprop(emp ∗ (if inStrip c L && (d' (.ms h.castSucc) && !d' (.fin (.mir h.castSucc))) then iprop(emp)
        else cP c (kRow c L h.val) 64 qB (cF D (px c))) ∗ cP c (kRow c L h.val) 64 qC (cF D (px c))) := by
      simp [st, b2, kH_castSucc, kF_castSucc, ha, b1]
    refine (take3 D c hs (.cell (.s (.ring L h))) (.to (.ring L h)) (.k L h.castSucc) (by simp) (by simp) (by simp) fun j j1 j2 j3 => nt fun hh => ?_).trans ?_
    · rcases who_hop hh with rfl | rfl | rfl <;> contradiction
    rw [cell_tok c _ rfl a1 hb, sep_cell c _ rfl b1 ha, to_before c (.ring L h) hb a0, to_after c (.ring L h) ha, e2, e3, band_c c qA hoff rfl]
    simp only [sent]
    iintro ⟨⟨⟨Hat, Ht1⟩, H2, HA, HB, HC⟩, Hk⟩
    isplitl [Ht1 H2 HA]
    · isplitl [Ht1]; · iexact Ht1
      isplitl [H2]; · iexact H2
      iexact HA
    iintro Hcr
    iapply Hk
    isplitl [Hat Hcr]
    · isplitl [Hat]; · iexact Hat
      iexact Hcr
    isplitr; · iempintro
    isplitr; · iempintro
    isplitl [HB]; · iexact HB
    iexact HC
  · rw [band_c c qA hoff rfl]
    simp only [sent]
    exact Entails.rfl
  · unfold spare
    dsimp only
    rw [kRow_tgt]
    iintro ⟨%f, H⟩
    iexists _
    rw [band_c (hr := hr') (tgt (.ring L h) c) fullShare hoff' rfl]
    iexact H
  · rw [band_c (tgt (.ring L h) c) fullShare hoff' rfl]
    unfold landed
    dsimp only
    rw [kRow_tgt, px_tgt_ring]
    refine Entails.of_eq (pointsTo_congr fun i hi => ?_)
    exact wr_cc hoff hoff' (fun r k _ => rfl) fd i hi

/-- The other ring's other ring is one's own. -/
theorem nb0_nb0 (c : Dev nD) : nb 0 (nb 0 c) = c := by revert c; decide
/-- The other ring is that of the other half. -/
theorem px_nb0 (c : Dev nD) : px (nb 0 c) = 1 - px c := by revert c; decide
/-- Where the rows of a strip lie in their stripe. -/
theorem mRow_mod (c : Dev nD) (s : ℕ) (r : ℕ) (hr : r < 128) : (mRow c s + r) % 512 = 384 * px c + r := by
  have := px_lt c
  unfold mRow
  omega

/-- A strip's contents are the same on both rings. -/
theorem cF_strip (s r k : ℕ) (hr : r < 128) : cF D (px c) (mRow c s + r) k = cF D (1 - px c) (mRow c s + r) k := by
  have hp := px_lt c
  have h : sideOf (px c) ((mRow c s + r) % 512) = sideOf (1 - px c) ((mRow c s + r) % 512) := by
    rw [mRow_mod c s r hr]
    rcases Nat.eq_zero_or_pos (px c) with h | h
    · rw [h]; unfold sideOf; simp [hr, show r < 384 by omega]
    · rw [show px c = 1 by omega]; unfold sideOf; simp; omega
  unfold cF
  rw [h]

/-- Sending a strip takes a device to its next state. -/
theorem step_ms {s : Fin 8} (hact : actAt t = .ms s) (ht : t < 275)
    {inb inb' hr hr' hsc h1 h2 h3} (hoff : off = ![mRow c s.val, 0]) (hoff' : off' = ![mRow c s.val, 0])
    (hc : c' = tgt (.mir s) c) (hS : sS = semOf (.s (.mir s))) (hR : sR = semOf (.r (.mir s))) :
    St D K c t ⊢ wp frame (wpE (defs₀ (F := F)) 𝒱₀ c none) Set.univ
      (Prog.lift (.enqueueDma ((Memref.whole cc0_scratch0).slice (Rect.unit (s := S4096x2048) off S128x2048.size inb) hr)
        (.remote (Dev.tc c') ((Memref.whole cc0_scratch0).slice (Rect.unit (s := S4096x2048) off' S128x2048.size inb') hr') (.dma sS) hsc) (.dma sR) h1 h2 h3))
      (fun _ => St D K c (t + 1)) := by
  have hte := t_eq hact ht
  have htg : tgt (.mir s) c = nb 0 c := rfl
  refine send_core (.mir s) (.mir s) rfl hact ht rfl hc hS hR qB (grid (cF D (px c))) rfl (fun d' hs => ?_) ?_ ?_ fun fd => ?_
  · have a0 : dn t .bar = true := dn_lt hte (by clear * -; revert s; decide)
    have a1 : dn t (.fin (.mir s)) = false := dn_ge hte (by clear * -; revert s; decide)
    have a2 : ∀ L, dn t (kA L s) = true := fun L => dn_lt hte (by clear * -; revert L s; decide)
    have b1 : d' (.fin (.mir s)) = false := by rw [← hs.other _ (by simp [sendAct]), a1]
    have b2 : ∀ L, d' (kA L s) = true := fun L => by rw [← hs.other _ (by unfold kA sendAct; split <;> simp), a2]
    have hb := hs.before
    have ha := hs.after
    have o1 : ∀ L, dn t (kH L s) = d' (kH L s) := fun L => hs.other _ (by unfold kH sendAct; split <;> simp)
    have o2 : ∀ L, dn t (kF L s) = d' (kF L s) := fun L => hs.other _ (by unfold kF sendAct; split <;> simp)
    simp only [sendAct] at hb ha
    refine (take4 D c hs (.cell (.s (.mir s))) (.to (.mir s)) (.k (sL c 0) s) (.k (sL c 1) s) (by simp) (by simp) (by simp) (by simp) (by simp) (sL_ne s s)
      fun j j1 j2 j3 j4 => nt fun hh => ?_).trans ?_
    · rcases who_ms hh with rfl | rfl | ⟨L, hL, rfl⟩ <;> try contradiction
      rcases inStrip_iff.mp hL with rfl | rfl <;> contradiction
    rw [cell_tok c _ rfl a1 hb, sep_cell c _ rfl b1 ha, to_before c (.mir s) hb a0, to_after c (.mir s) ha, band_c c qB hoff rfl]
    rw [k_strip s 0 (a2 _) false (by rw [hb]; rfl), k_strip s 1 (a2 _) false (by rw [hb]; rfl),
      k_strip s 0 (b2 _) true (by rw [ha, b1]; rfl), k_strip s 1 (b2 _) true (by rw [ha, b1]; rfl), o1, o1, o2, o2]
    rw [if_neg Bool.false_ne_true, if_neg Bool.false_ne_true]
    have hj : iprop(cP c (kRow c (sL c 0) s.val) 64 qB (cF D (px c)) ∗ cP c (kRow c (sL c 1) s.val) 64 qB (cF D (px c)))
      ⊢ cP c (mRow c s.val) 128 qB (cF D (px c)) := Entails.of_eq (strip_split s.val qB (cF D (px c))).symm
    iintro ⟨⟨⟨Hat, Ht1⟩, H2, ⟨HA, HB, HC⟩, ⟨HA', HB', HC'⟩⟩, Hk⟩
    isplitl [Ht1 H2 HB HB']
    · isplitl [Ht1]; · iexact Ht1
      isplitl [H2]; · iexact H2
      iapply hj
      isplitl [HB]; · iexact HB
      iexact HB'
    iintro Hcr
    iapply Hk
    isplitl [Hat Hcr]
    · isplitl [Hat]; · iexact Hat
      iexact Hcr
    isplitr; · iempintro
    isplitl [HA HC]
    · isplitl [HA]; · iexact HA
      isplitr; · iempintro
      iexact HC
    isplitl [HA']; · iexact HA'
    isplitr; · iempintro
    iexact HC'
  · rw [band_c c qB hoff rfl]
    simp only [sent]
    exact Entails.rfl
  · unfold spare
    dsimp only
    rw [htg, nb0_nb0]
    iintro ⟨%f, H⟩
    iexists _
    rw [band_c (hr := hr') (nb 0 c) fullShare hoff' rfl]
    iexact H
  · rw [band_c (tgt (.mir s) c) fullShare hoff' rfl]
    unfold landed
    dsimp only
    rw [htg, nb0_nb0, px_nb0]
    refine Entails.of_eq (pointsTo_congr fun i hi => ?_)
    exact wr_cc hoff hoff' (fun r k hr => cF_strip s.val r k hr) fd i hi

/-- Sending an eighth takes a device to its next state. -/
theorem step_p1 {L : Fin 6} (hact : actAt t = .p1 (eOf c L)) (ht : t < 275)
    {inb inb' hr hr' hsc h1 h2 h3} (hoff : off = ![64 * (eOf c L).val, 0]) (hoff' : off' = ![64 * L.val, 0])
    (hc : c' = tgt (.p1 L) c) (hS : sS = semOf (.s (.p1 (eOf c L)))) (hR : sR = semOf (.r (.p1 L))) :
    St D K c t ⊢ wp frame (wpE (defs₀ (F := F)) 𝒱₀ c none) Set.univ
      (Prog.lift (.enqueueDma ((Memref.whole cc0_scratch4).slice (Rect.unit (s := S512x2048) off S64x2048.size inb) hr)
        (.remote (Dev.tc c') ((Memref.whole cc0_scratch2).slice (Rect.unit (s := S384x2048) off' S64x2048.size inb') hr') (.dma sS) hsc) (.dma sR) h1 h2 h3))
      (fun _ => St D K c (t + 1)) := by
  have hte := t_eq hact ht
  have htg : tgt (.p1 L) c = nb 0 c := rfl
  have hac := active_p1 (c := c) L
  have hdut : dutiesOf c (.s (.p1 (eOf c L))) = {0} := dut_s hac
  generalize he : eOf c L = e at *
  refine send_core (.p1 L) (.p1 e) hdut (by rw [sendAct, he, hact]) ht rfl hc hS hR qA (grid (xF D c)) rfl (fun d' hs => ?_) ?_ ?_ fun fd => ?_
  · simp only [sendAct, he] at hs
    have a0 : dn t .bar = true := dn_lt hte (by clear * -; revert e; decide)
    have a1 : dn t (.fin (.p1 e)) = false := dn_ge hte (by clear * -; revert e; decide)
    have a2 : dn t (.xs e) = true := dn_lt hte (by clear * -; revert e; decide)
    have b1 : d' (.fin (.p1 e)) = false := by rw [← hs.other _ (by simp), a1]
    have b2 : d' (.xs e) = true := by rw [← hs.other _ (by simp), a2]
    have hb := hs.before
    have ha := hs.after
    have e2 : st D c (dn t) (.x e) = iprop(xP c (64 * e.val) 64 fullShare.right (xF D c) ∗ sent D c (.p1 e)) := by simp [st, a2, hb, sent]
    have e3 : st D c d' (.x e) = iprop(xP c (64 * e.val) 64 fullShare.right (xF D c) ∗ emp) := by simp [st, ha, b1, b2, hac]
    refine (take3 D c hs (.cell (.s (.p1 e))) (.to (.p1 L)) (.x e) (by simp) (by simp) (by simp) fun j j1 j2 j3 => nt fun hh => ?_).trans ?_
    · subst he; rcases who_p1 hh with rfl | rfl | rfl <;> contradiction
    rw [cell_tok c _ hac a1 hb, sep_cell c _ hac b1 ha, to_before c (.p1 L) (by rw [sendAct, he, hb]) a0, to_after c (.p1 L) (by rw [sendAct, he, ha]), e2, e3, band_x c qA hoff rfl]
    simp only [sent]
    iintro ⟨⟨⟨Hat, Ht1⟩, H2, HB, HA⟩, Hk⟩
    isplitl [Ht1 H2 HA]
    · isplitl [Ht1]; · iexact Ht1
      isplitl [H2]; · iexact H2
      iexact HA
    iintro Hcr
    iapply Hk
    isplitl [Hat Hcr]
    · isplitl [Hat]; · iexact Hat
      iexact Hcr
    isplitr; · iempintro
    isplitl [HB]; · iexact HB
    iempintro
  · rw [band_x c qA hoff rfl]
    simp only [sent]
    exact Entails.rfl
  · unfold spare
    dsimp only
    iintro ⟨%f, H⟩
    iexists _
    rw [band_p (hr := hr') (tgt (.p1 L) c) fullShare hoff' rfl]
    iexact H
  · rw [band_p (tgt (.p1 L) c) fullShare hoff' rfl]
    unfold landed
    dsimp only
    refine Entails.of_eq (pointsTo_congr fun i hi => ?_)
    refine wr_xp hoff hoff' (fun r k hr => ?_) fd i hi
    unfold pF
    rw [htg, nb0_nb0, px_nb0]
    have hv := congrArg Fin.val he
    simp only [eOf] at hv
    congr 1
    omega

end Sends

end Cert.KernelIdeal.Talk
-- ==== Proof.Bands.lean ====
module

public import proofs.«01_k».proof.Proof.Sends

/-! Reading and writing bands of the buffers: what a device's state says of what it reads, and how writing changes it. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

variable {D : Data F} {K : GSem nD τ sig → ℕ} {c : Dev nD}

/-- The elements of a band, by their place in it. -/
def blk {α : Type} (f : ℕ → ℕ → α) (a : ℕ) {s : Fin 2 → ℕ} : Shape.Idx ⟨2, s⟩ → α := fun x => f (a + (x 0).val) (x 1).val

/-! ## Programs, step by step -/

/-- A step, then the rest. -/
theorem seq {α : Type} {p : Prog (TpuEff nD τ sig (Elt F) Λ₀ .tc) α} {β : Type} {k : α → Prog (TpuEff nD τ sig (Elt F) Λ₀ .tc) β}
    {P R : sProp 𝕄} {Φ : α → Prop} {Q : β → sProp 𝕄}
    (h1 : P ⊢ wp frame (wpE (defs₀ (F := F)) 𝒱₀ c none) Set.univ p (fun v => iprop(⌜Φ v⌝ ∗ R)))
    (h2 : ∀ v, Φ v → R ⊢ wp frame (wpE (defs₀ (F := F)) 𝒱₀ c none) Set.univ (k v) Q) :
    P ⊢ wp frame (wpE (defs₀ (F := F)) 𝒱₀ c none) Set.univ (p >>= k) Q := by
  rw [wp_bind]
  refine h1.trans (wp_mono _ _ _ fun v => ?_)
  iintro ⟨%hv, H⟩
  iapply (h2 v hv) $$ H

/-- A step whose value does not matter, then the rest. -/
theorem seq0 {α : Type} {p : Prog (TpuEff nD τ sig (Elt F) Λ₀ .tc) α} {β : Type} {k : α → Prog (TpuEff nD τ sig (Elt F) Λ₀ .tc) β}
    {P R : sProp 𝕄} {Q : β → sProp 𝕄}
    (h1 : P ⊢ wp frame (wpE (defs₀ (F := F)) 𝒱₀ c none) Set.univ p (fun _ => R))
    (h2 : ∀ v, R ⊢ wp frame (wpE (defs₀ (F := F)) 𝒱₀ c none) Set.univ (k v) Q) :
    P ⊢ wp frame (wpE (defs₀ (F := F)) 𝒱₀ c none) Set.univ (p >>= k) Q := by
  rw [wp_bind]
  exact h1.trans (wp_mono _ _ _ fun v => h2 v)

/-- The end of a program. -/
theorem fin_pure {β : Type} {v : β} {P : sProp 𝕄} {Φ : β → Prop} (h : Φ v) :
    P ⊢ wp frame (wpE (defs₀ (F := F)) 𝒱₀ c none) Set.univ (pure v) (fun v => iprop(⌜Φ v⌝ ∗ P)) := by
  refine BIBase.Entails.trans ?_ (Entails.of_eq (wp_ret ..).symm)
  iintro H
  imodintro
  isplitr; · ipureintro; exact h
  iexact H

/-- A program that only returns asks for nothing. -/
theorem fin_pure0 {β : Type} {v : β} {P : sProp 𝕄} :
    P ⊢ wp frame (wpE (defs₀ (F := F)) 𝒱₀ c none) Set.univ (pure v) (fun _ => P) := by
  refine BIBase.Entails.trans ?_ (Entails.of_eq (wp_ret ..).symm)
  iintro H
  imodintro
  iexact H

/-! ## Borrowing -/

/-- Something lent out of something, to be given back. -/
abbrev Lends (P Q : sProp 𝕄) : Prop := P ⊢ iprop(Q ∗ (Q -∗ P))

/-- What is lent may be lent on. -/
theorem Lends.trans {P Q R : sProp 𝕄} (h : Lends P Q) (h' : Lends Q R) : Lends P R := by
  unfold Lends
  refine BIBase.Entails.trans h ?_
  iintro ⟨HQ, Hk⟩
  ihave ⟨HR, Hk'⟩ := h' $$ HQ
  isplitl [HR]; · iexact HR
  iintro H
  iapply Hk
  iapply Hk'
  iexact H
/-- Two things are lent side by side. -/
theorem Lends.both {P Q P' Q' : sProp 𝕄} (h : Lends P Q) (h' : Lends P' Q') : Lends iprop(P ∗ P') iprop(Q ∗ Q') := by
  unfold Lends
  iintro ⟨HP, HP'⟩
  ihave ⟨HQ, Hk⟩ := h $$ HP
  ihave ⟨HQ', Hk'⟩ := h' $$ HP'
  isplitl [HQ HQ']
  · isplitl [HQ]; · iexact HQ
    iexact HQ'
  iintro ⟨H, H'⟩
  isplitl [Hk H]
  · iapply Hk; iexact H
  iapply Hk'; iexact H'
/-- The left of two things may be lent. -/
theorem Lends.left {P Q : sProp 𝕄} : Lends iprop(P ∗ Q) P := by
  unfold Lends
  iintro ⟨H, H'⟩
  isplitl [H]; · iexact H
  iintro H
  isplitl [H]; · iexact H
  iexact H'
/-- The right of two things may be lent. -/
theorem Lends.right {P Q : sProp 𝕄} : Lends iprop(P ∗ Q) Q := by
  unfold Lends
  iintro ⟨H, H'⟩
  isplitl [H']; · iexact H'
  iintro H'
  isplitl [H]; · iexact H
  iexact H'
/-- The same thing, written in another way, may be lent. -/
theorem Lends.of_eq {P Q : sProp 𝕄} (h : P = Q) : Lends P Q := by
  subst h
  unfold Lends
  iintro H
  isplitl [H]; · iexact H
  iintro H
  iexact H

/-- What the pieces lend, a device's state lends. -/
theorem st_lends {t : ℕ} {Q : sProp 𝕄} (h : Lends (All D c (dn t)) Q) : Lends (St D K c t) Q := by
  refine Lends.trans (Lends.trans (Lends.of_eq (by unfold St; rfl)) (Lends.right.trans Lends.left)) h

/-! ## Loads -/

/-- A load from rows that the state holds at known contents. -/
theorem load_core {t : ℕ} {cs : CoreSpace} {s : Shape} {e : EltTy} {m : Memref sig .tc cs s e} {r : Rect s} {hl : m.view.LoadsAt r.toLoadRect}
    {S : Finset (Idx ((m.access r).loc (c : Thread nD τ)))} {q : PosShare TreeShare} {f : Buf (Elt F) ((m.access r).loc (c : Thread nD τ))}
    (w : r.shape.Idx → Elt F e)
    (hL : Lends (St D K c t) ((m.access r).loc (c : Thread nD τ) ↦[S]{q} f)) (hS : (m.access r).set ⊆ S)
    (hw : (m.access r).read (Elt F) f = w) :
    St D K c t ⊢ wp frame (wpE (defs₀ (F := F)) 𝒱₀ c none) Set.univ (Prog.lift (.load m r.toLoadRect hl)) (fun v => iprop(⌜v = w⌝ ∗ St D K c t)) := by
  unfold Lends at hL
  refine hL.trans ?_
  iintro ⟨H, Hk⟩
  unfold Prog.lift
  iapply (wp_load_rect 𝒱₀ (c : Thread nD τ) none Set.univ hS) $$ H
  iintro H
  rw [wp_ret]
  imodintro
  isplitr; · ipureintro; exact hw
  iapply Hk
  iexact H

/-- A load whose value does not matter, from rows that the state holds at some contents. -/
theorem load_any {t : ℕ} {cs : CoreSpace} {s : Shape} {e : EltTy} {m : Memref sig .tc cs s e} {r : Rect s} {hl : m.view.LoadsAt r.toLoadRect}
    {S : Finset (Idx ((m.access r).loc (c : Thread nD τ)))} {q : PosShare TreeShare} {G : Type} {f : G → Buf (Elt F) ((m.access r).loc (c : Thread nD τ))}
    (hL : Lends (St D K c t) iprop(∃ g, (m.access r).loc (c : Thread nD τ) ↦[S]{q} f g)) (hS : (m.access r).set ⊆ S) :
    St D K c t ⊢ wp frame (wpE (defs₀ (F := F)) 𝒱₀ c none) Set.univ (Prog.lift (.load m r.toLoadRect hl)) (fun _ => St D K c t) := by
  unfold Lends at hL
  refine hL.trans ?_
  iintro ⟨⟨%g, H⟩, Hk⟩
  unfold Prog.lift
  iapply (wp_load_rect 𝒱₀ (c : Thread nD τ) none Set.univ hS) $$ H
  iintro H
  rw [wp_ret]
  imodintro
  iapply Hk
  iexists g
  iexact H

/-- A store over rows that the state holds at some contents. -/
theorem store_core {t : ℕ} {a : Act} (hact : actAt t = a) (ht : t < 275) (ha1 : ∀ x, sendAct c x ≠ a) (ha2 : ∀ j, Act.sig j ≠ a)
    {cs : CoreSpace} {s : Shape} {e : EltTy} {m : Memref sig .tc cs s e} {r : Rect s} {w : r.shape.Idx → Elt F e}
    {hx : (m.access r).Stores Finset.univ} {hm} {S : Finset (Idx ((m.access r).loc (c : Thread nD τ)))}
    {G : Type} {f : G → Buf (Elt F) ((m.access r).loc (c : Thread nD τ))} {g : Buf (Elt F) ((m.access r).loc (c : Thread nD τ))}
    (hP : ∀ d', Does (dn t) a d' → All D c (dn t) ⊢ iprop((∃ i, (m.access r).loc (c : Thread nD τ) ↦[S]{fullShare} f i)
      ∗ (((m.access r).loc (c : Thread nD τ) ↦[S]{fullShare} g) -∗ All D c d')))
    (hS : (m.access r).set = S) (hw : ∀ i, ∀ j ∈ S, (m.access r).write (Elt F) (f i) w Finset.univ j = g j) :
    St D K c t ⊢ wp frame (wpE (defs₀ (F := F)) 𝒱₀ c none) Set.univ (Prog.lift (.store m r w Finset.univ hx hm)) (fun _ => St D K c (t + 1)) := by
  have hs := does_at hact ht
  have hO := Ow_same c hs ha1 ha2
  unfold St
  iintro ⟨#HI, HA, ⟨%W, HO⟩⟩
  ihave Hp := hP _ hs $$ HA
  icases Hp with ⟨⟨%i, H⟩, Hk⟩
  unfold Prog.lift
  iapply (wp_store 𝒱₀ (c : Thread nD τ) none Set.univ (hS ▸ Finset.Subset.refl _)) $$ H
  iintro H
  rw [wp_ret]
  imodintro
  isplitr; · iexact HI
  isplitl [H Hk]
  · iapply Hk
    ihave H := (Entails.of_eq (pointsTo_congr (hw i))) $$ H
    iexact H
  iexists W
  rw [← hO]
  iexact HO

/-! ## What the state lends -/

/-- A piece may be lent out of them all. -/
theorem lend1 (d : Act → Bool) (i : Item) : Lends (All D c d) (st D c d i) := peek1 D c d i

/-- A chunk that has come. -/
theorem lend_k {d : Act → Bool} {L : Fin 6} {h : Fin 8} (hA : d (kA L h) = true) :
    Lends (st D c d (.k L h)) (cP c (kRow c L h.val) 64 qC (cF D (px c))) := by
  refine Lends.trans (Lends.of_eq (show st D c d (.k L h) = _ from by rw [st, if_pos hA])) ?_
  exact Lends.right.trans Lends.right

/-- Three chunks, one after the other, lend a band of summed rows. -/
theorem three_k {L0 L1 L2 : Fin 6} {h : Fin 8} {d : Act → Bool} (hA : ∀ L, d (kA L h) = true)
    (h1 : kRow c L1 h.val = kRow c L0 h.val + 64) (h2 : kRow c L2 h.val = kRow c L0 h.val + 64 + 64)
    (n1 : L0 ≠ L1) (n2 : L0 ≠ L2) (n3 : L1 ≠ L2) :
    Lends (bigSep {Item.k L0 h, Item.k L1 h, Item.k L2 h} (st D c d)) (cP c (kRow c L0 h.val) 192 qC (cF D (px c))) := by
  rw [triple_sep (by simpa using n1) (by simpa using n2) (by simpa using n3), show 192 = 64 + (64 + 64) from rfl, cP_split, cP_split, ← h2, ← h1]
  exact Lends.both (lend_k (hA _)) (Lends.both (lend_k (hA _)) (lend_k (hA _)))

/-- The first band that a hop brings may be lent once it has come. -/
theorem lend_a {d : Act → Bool} {h : Fin 7} (hA : ∀ L, d (kA L h.succ) = true) :
    Lends (All D c d) (cP c (regRow c (.a h)) 192 qC (cF D (px c))) := by
  have h0 : regRow c (.a h) = kRow c 0 h.succ.val := by clear * -; revert c h; decide +kernel
  rw [h0]
  refine Lends.trans (peek D c d {Item.k 0 h.succ, Item.k 1 h.succ, Item.k 2 h.succ}) (three_k hA ?_ ?_ (by decide) (by decide) (by decide))
  · unfold kRow; rfl
  · unfold kRow; rfl

/-- The second band that a hop brings may be lent once it has come. -/
theorem lend_b {d : Act → Bool} {h : Fin 7} (hA : ∀ L, d (kA L h.succ) = true) :
    Lends (All D c d) (cP c (regRow c (.b h)) 192 qC (cF D (px c))) := by
  have h0 : regRow c (.b h) = kRow c 3 h.succ.val := by clear * -; revert c h; decide +kernel
  rw [h0]
  refine Lends.trans (peek D c d {Item.k 3 h.succ, Item.k 4 h.succ, Item.k 5 h.succ}) (three_k hA ?_ ?_ (by decide) (by decide) (by decide))
  · unfold kRow; rfl
  · unfold kRow; rfl

/-- The device's own band may be lent once it is stored. -/
theorem lend_own {d : Act → Bool} (hA : ∀ L, d (kA L 0) = true) :
    Lends (All D c d) (cP c (regRow c .own) 384 qC (cF D (px c))) := by
  have h0 : regRow c .own = kRow c 0 (0 : Fin 8).val := by clear * -; revert c; decide +kernel
  have h1 : kRow c 3 (0 : Fin 8).val = kRow c 0 (0 : Fin 8).val + 192 := by clear * -; revert c; decide +kernel
  rw [h0, show 384 = 192 + 192 from rfl, cP_split, ← h1]
  refine Lends.trans (peek D c d ({Item.k 0 0, Item.k 1 0, Item.k 2 0} ∪ {Item.k 3 0, Item.k 4 0, Item.k 5 0})) ?_
  have hd : Disjoint ({Item.k 0 0, Item.k 1 0, Item.k 2 0} : Finset Item) {Item.k 3 0, Item.k 4 0, Item.k 5 0} := by decide
  refine Lends.trans (Lends.of_eq (bigSep_union hd)) ?_
  refine Lends.both (three_k hA ?_ ?_ (by decide) (by decide) (by decide)) (three_k hA ?_ ?_ (by decide) (by decide) (by decide)) <;> (unfold kRow; rfl)

/-- A strip's band may be lent once it has come. -/
theorem lend_m {d : Act → Bool} {s : Fin 8} (h1 : d (.sig (hand (.mir s))) = true) (h2 : d (.wr (.mir s)) = true) :
    Lends (All D c d) (cP c (regRow c (.m s)) 128 fullShare (cF D (px c))) := by
  refine Lends.trans (lend1 d (.inn (.mir s))) (Lends.of_eq ?_)
  rw [st, if_pos h1, if_pos h2]
  rfl

/-- An eighth from the other ring may be lent once it has come. -/
theorem lend_p {d : Act → Bool} {L : Fin 6} (h1 : d (.sig (hand (.p1 L))) = true) (h2 : d (.wr (.p1 L)) = true) :
    Lends (All D c d) (pP c (64 * L.val) 64 fullShare (pF D c)) := by
  refine Lends.trans (lend1 d (.inn (.p1 L))) (Lends.of_eq ?_)
  rw [st, if_pos h1, if_pos h2]
  rfl

/-- A scaled eighth. -/
theorem lend_x {d : Act → Bool} {e : Fin 8} (h1 : d (.xs e) = true) :
    Lends (All D c d) (xP c (64 * e.val) 64 fullShare.right (xF D c)) := by
  refine Lends.trans (lend1 d (.x e)) ?_
  rw [st, if_pos h1]
  exact Lends.left

/-- A gathered eighth. -/
theorem lend_g {d : Act → Bool} {e : Fin 8} (h1 : d (.gW e) = true) :
    Lends (All D c d) (gP c (64 * e.val) 64 fullShare (gF D c)) := by
  refine Lends.trans (lend1 d (.gb e)) ?_
  rw [st, if_pos h1]
  exact Lends.left

/-- The row numbers may be lent at any time. -/
theorem lend_idx (d : Act → Bool) : Lends (All D c d) (((c : Thread nD τ).loc cc0_stg0_0) ↦{fullShare} idxF D c) :=
  Lends.trans (lend1 d .cst) Lends.left
/-- The weights may be lent at any time. -/
theorem lend_val (d : Act → Bool) :
    Lends (All D c d) (((c : Thread nD τ).loc cc0_stg1_0) ↦{fullShare} (grid (fun r _ => D.val c r) : Shape.Idx ⟨2, ![512, 1]⟩ → Elt F .f32)) :=
  Lends.trans (lend1 d .cst) Lends.right

end Cert.KernelIdeal.Talk
-- ==== Proof.Local.lean ====
module

public import proofs.«01_k».proof.Proof.Bands

/-! What a device does on its own: it loads and stores rows, and ships finished rows to the result. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

variable {D : Data F} {K : GSem nD τ sig → ℕ} {c : Dev nD} {t : ℕ} {off : Fin 2 → ℕ}

/-! ## Loads -/

/-- Loading an eighth of the gathered rows reads their contents. -/
theorem ld_g {e : Fin 8} (hA : dn t (.gW e) = true) (hoff : off = ![64 * e.val, 0]) {inb hl} :
    St D K c t ⊢ wp frame (wpE (defs₀ (F := F)) 𝒱₀ c none) Set.univ
      (Prog.lift (.load (Memref.whole cc0_scratch3) (Rect.unit (s := S512x2048) off S64x2048.size inb).toLoadRect hl))
      (fun v => iprop(⌜v = blk (gF D c) (64 * e.val)⌝ ∗ St D K c t)) :=
  load_core _ (st_lends (lend_g hA)) (((View.set_slice_whole cc0_scratch3 _).trans (rect_rows hoff rfl)).subset)
    (funext fun x => grid_emb (R := 512) (W := 2048) (inb := inb) (gF D c) hoff rfl x)

/-- Loading weights reads their values. -/
theorem ld_v (a : ℕ) (hoff : off = ![a, 0]) {inb hl} :
    St D K c t ⊢ wp frame (wpE (defs₀ (F := F)) 𝒱₀ c none) Set.univ
      (Prog.lift (.load (Memref.whole cc0_stg1_0) (Rect.unit (s := S512x1) off S64x1.size inb).toLoadRect hl))
      (fun v => iprop(⌜v = blk (fun r _ => D.val c r) a⌝ ∗ St D K c t)) :=
  load_core _ (st_lends (lend_val _)) (Finset.subset_univ _)
    (funext fun x => grid_emb (R := 512) (W := 1) (inb := inb) (fun r _ => D.val c r) hoff rfl x)

/-- Loading the eighth that meets a chunk reads the scaled rows. -/
theorem ld_x {L : Fin 6} (hA : dn t (.xs ⟨L.val + 2 * px c, by have := px_lt c; omega⟩) = true) (hoff : off = ![64 * L.val + 128 * px c, 0]) {inb hl} :
    St D K c t ⊢ wp frame (wpE (defs₀ (F := F)) 𝒱₀ c none) Set.univ
      (Prog.lift (.load (Memref.whole cc0_scratch4) (Rect.unit (s := S512x2048) off S64x2048.size inb).toLoadRect hl))
      (fun v => iprop(⌜v = blk (xF D c) (64 * L.val + 128 * px c)⌝ ∗ St D K c t)) := by
  have h : 64 * L.val + 128 * px c = 64 * (L.val + 2 * px c) := by omega
  rw [h] at hoff ⊢
  exact load_core _ (st_lends (lend_x hA)) (((View.set_slice_whole cc0_scratch4 _).trans (rect_rows hoff rfl)).subset)
    (funext fun x => grid_emb (R := 512) (W := 2048) (inb := inb) (xF D c) hoff rfl x)

/-- Loading an eighth from the other ring reads what was received. -/
theorem ld_p {L : Fin 6} (h1 : dn t (.sig (hand (.p1 L))) = true) (h2 : dn t (.wr (.p1 L)) = true) (hoff : off = ![64 * L.val, 0]) {inb hl} :
    St D K c t ⊢ wp frame (wpE (defs₀ (F := F)) 𝒱₀ c none) Set.univ
      (Prog.lift (.load (Memref.whole cc0_scratch2) (Rect.unit (s := S384x2048) off S64x2048.size inb).toLoadRect hl))
      (fun v => iprop(⌜v = blk (pF D c) (64 * L.val)⌝ ∗ St D K c t)) :=
  load_core _ (st_lends (lend_p h1 h2)) (((View.set_slice_whole cc0_scratch2 _).trans (rect_rows hoff rfl)).subset)
    (funext fun x => grid_emb (R := 384) (W := 2048) (inb := inb) (pF D c) hoff rfl x)

/-- A load of gathered rows, all of one band. -/
theorem ld_c {a n : ℕ} {q : PosShare TreeShare} {sz : Fin 2 → ℕ} (hL : Lends (All D c (dn t)) (cP c a n q (cF D (px c)))) (hsz : sz = ![n, 2048])
    (hoff : off = ![a, 0]) {inb hl} :
    St D K c t ⊢ wp frame (wpE (defs₀ (F := F)) 𝒱₀ c none) Set.univ
      (Prog.lift (.load (Memref.whole cc0_scratch0) (Rect.unit (s := S4096x2048) off sz inb).toLoadRect hl))
      (fun v => iprop(⌜v = blk (cF D (px c)) a⌝ ∗ St D K c t)) := by
  subst hsz
  exact load_core _ (st_lends hL) (((View.set_slice_whole cc0_scratch0 _).trans (rect_rows hoff rfl)).subset)
    (funext fun x => grid_emb (R := 4096) (W := 2048) (inb := inb) (cF D (px c)) hoff rfl x)

/-- At the time of the device's own band its chunks are stored. -/
theorem own_ge (h : t ≤ 55) (h' : 54 < t) (L : Fin 6) : dn t (kA L 0) = true := by
  unfold dn; rw [kA_zero]; refine decide_eq_true (lt_of_lt_of_le ?_ h'); clear * -; revert L; decide

/-- Loading the device's own band reads the summed rows. -/
theorem ld_own (hA : ∀ L, dn t (kA L 0) = true) (hoff : off = ![regRow c .own, 0]) {inb hl} :
    St D K c t ⊢ wp frame (wpE (defs₀ (F := F)) 𝒱₀ c none) Set.univ
      (Prog.lift (.load (Memref.whole cc0_scratch0) (Rect.unit (s := S4096x2048) off S384x2048.size inb).toLoadRect hl))
      (fun v => iprop(⌜v = blk (cF D (px c)) (regRow c .own)⌝ ∗ St D K c t)) := ld_c (lend_own hA) rfl hoff
/-- Loading the first band of a hop reads the summed rows. -/
theorem ld_a {h : Fin 7} (hA : ∀ L, dn t (kA L h.succ) = true) (hoff : off = ![regRow c (.a h), 0]) {inb hl} :
    St D K c t ⊢ wp frame (wpE (defs₀ (F := F)) 𝒱₀ c none) Set.univ
      (Prog.lift (.load (Memref.whole cc0_scratch0) (Rect.unit (s := S4096x2048) off S192x2048.size inb).toLoadRect hl))
      (fun v => iprop(⌜v = blk (cF D (px c)) (regRow c (.a h))⌝ ∗ St D K c t)) := ld_c (lend_a hA) rfl hoff
/-- Loading the second band of a hop reads the summed rows. -/
theorem ld_b {h : Fin 7} (hA : ∀ L, dn t (kA L h.succ) = true) (hoff : off = ![regRow c (.b h), 0]) {inb hl} :
    St D K c t ⊢ wp frame (wpE (defs₀ (F := F)) 𝒱₀ c none) Set.univ
      (Prog.lift (.load (Memref.whole cc0_scratch0) (Rect.unit (s := S4096x2048) off S192x2048.size inb).toLoadRect hl))
      (fun v => iprop(⌜v = blk (cF D (px c)) (regRow c (.b h))⌝ ∗ St D K c t)) := ld_c (lend_b hA) rfl hoff
/-- Loading a strip's band reads the summed rows. -/
theorem ld_m {s : Fin 8} (h1 : dn t (.sig (hand (.mir s))) = true) (h2 : dn t (.wr (.mir s)) = true) (hoff : off = ![regRow c (.m s), 0]) {inb hl} :
    St D K c t ⊢ wp frame (wpE (defs₀ (F := F)) 𝒱₀ c none) Set.univ
      (Prog.lift (.load (Memref.whole cc0_scratch0) (Rect.unit (s := S4096x2048) off S128x2048.size inb).toLoadRect hl))
      (fun v => iprop(⌜v = blk (cF D (px c)) (regRow c (.m s))⌝ ∗ St D K c t)) := ld_c (lend_m h1 h2) rfl hoff

/-! ## Loads of rows not written yet -/

/-- The rows an eighth is about to be stored in may be loaded. -/
theorem free_x {e : Fin 8} (h1 : dn t (.xs e) = false) (hoff : off = ![64 * e.val, 0]) {inb hl} :
    St D K c t ⊢ wp frame (wpE (defs₀ (F := F)) 𝒱₀ c none) Set.univ
      (Prog.lift (.load (Memref.whole cc0_scratch4) (Rect.unit (s := S512x2048) off S64x2048.size inb).toLoadRect hl)) (fun _ => St D K c t) := by
  have h : st D c (dn t) (.x e) = iprop(∃ f, xP c (64 * e.val) 64 fullShare f) := by simp [st, h1]
  exact load_any (S := rows 512 2048 (64 * e.val) 64) (q := fullShare) (st_lends ((lend1 _ (.x e)).trans (Lends.of_eq h)))
    (((View.set_slice_whole cc0_scratch4 _).trans (rect_rows hoff rfl)).subset)

/-- The rows a chunk is about to be stored in may be loaded. -/
theorem free_c {L : Fin 6} (h1 : dn t (.cs L) = false) (hoff : off = ![kRow c L 0, 0]) {inb hl} :
    St D K c t ⊢ wp frame (wpE (defs₀ (F := F)) 𝒱₀ c none) Set.univ
      (Prog.lift (.load (Memref.whole cc0_scratch0) (Rect.unit (s := S4096x2048) off S64x2048.size inb).toLoadRect hl)) (fun _ => St D K c t) := by
  have h : st D c (dn t) (.k L 0) = iprop(∃ f, cP c (kRow c L 0) 64 fullShare f) := by simp [st, kA_zero, h1]
  exact load_any (S := rows 4096 2048 (kRow c L 0) 64) (q := fullShare) (st_lends ((lend1 _ (.k L 0)).trans (Lends.of_eq h)))
    (((View.set_slice_whole cc0_scratch0 _).trans (rect_rows hoff rfl)).subset)

/-- A band of the result, before it is stored. -/
theorem o_free {r : Reg} {d : Act → Bool} (h1 : d (.os r) = false) (h2 : d (.oe r) = false) (h3 : d (.fin (.out r)) = false) :
    st D c d (.o r) = iprop((∃ f, hP c (regRow c r) (regLen r) fullShare f) ∗ (∃ f, oP c (regRow c r) (regLen r) fullShare f)) := by
  simp [st, h1, h2, h3]
/-- A band of the result, once stored and before it is shipped. -/
theorem o_full {r : Reg} {d : Act → Bool} (h1 : d (.os r) = true) (h2 : d (.oe r) = false) (h3 : d (.fin (.out r)) = false) :
    st D c d (.o r) = iprop((∃ f, hP c (regRow c r) (regLen r) fullShare f) ∗ oP c (regRow c r) (regLen r) fullShare (oF D (px c))) := by
  simp [st, h1, h2, h3]
/-- A band of the result, while it is shipped. -/
theorem o_gone {r : Reg} {d : Act → Bool} (h2 : d (.oe r) = true) (h3 : d (.fin (.out r)) = false) :
    st D c d (.o r) = iprop(emp) := by
  simp [st, h2, h3]

/-- The rows a band is about to be stored in may be loaded. -/
theorem free_o {r : Reg} {sz : Fin 2 → ℕ} (hact : actAt t = .os r) (ht : t < 275) (hsz : sz = ![regLen r, 2048]) (hoff : off = ![regRow c r, 0]) {inb hl} :
    St D K c t ⊢ wp frame (wpE (defs₀ (F := F)) 𝒱₀ c none) Set.univ
      (Prog.lift (.load (Memref.whole cc0_scratch1) (Rect.unit (s := S4096x2048) off sz inb).toLoadRect hl)) (fun _ => St D K c t) := by
  have hte := t_eq hact ht
  have h1 : dn t (.os r) = false := dn_ge hte le_rfl
  have h2 : dn t (.oe r) = false := dn_ge hte (by clear * -; revert r; decide)
  have h3 : dn t (.fin (.out r)) = false := dn_ge hte (by clear * -; revert r; decide)
  exact load_any (S := rows 4096 2048 (regRow c r) (regLen r)) (q := fullShare) (st_lends ((lend1 _ (.o r)).trans ((Lends.of_eq (o_free h1 h2 h3)).trans Lends.right)))
    (((View.set_slice_whole cc0_scratch1 _).trans (rect_rows hoff hsz)).subset)

/-! ## Stores -/

/-- Two things, the other way around. -/
theorem swap (P Q : sProp 𝕄) : iprop(P ∗ Q) ⊢ iprop(Q ∗ P) := by
  iintro ⟨H, H'⟩
  isplitl [H']; · iexact H'
  iexact H

/-- A band of scaled rows, in two shares. -/
theorem xP_halves (a n : ℕ) (f : ℕ → ℕ → Elt F .bf16) : (xP c a n fullShare f : sProp 𝕄) = iprop(xP c a n fullShare.right f ∗ xP c a n qA f) := by
  have h : (xP c a n fullShare f : sProp 𝕄) = iprop(xP c a n qA f ∗ xP c a n fullShare.right f) :=
    BI.Entails.antisymm (pointsTo_share (PosShare.mem_left_op_right fullShare)).1 (pointsTo_share (PosShare.mem_left_op_right fullShare)).2
  rw [h]
  exact BI.Entails.antisymm (swap _ _) (swap _ _)

/-- A band of summed rows, in three shares. -/
theorem cP_thirds (a n : ℕ) (f : ℕ → ℕ → Elt F .bf16) : (cP c a n fullShare f : sProp 𝕄) = iprop(cP c a n qA f ∗ cP c a n qB f ∗ cP c a n qC f) := by
  have h : (cP c a n fullShare f : sProp 𝕄) = iprop(cP c a n qA f ∗ cP c a n fullShare.right f) :=
    BI.Entails.antisymm (pointsTo_share (PosShare.mem_left_op_right fullShare)).1 (pointsTo_share (PosShare.mem_left_op_right fullShare)).2
  have h' : (cP c a n fullShare.right f : sProp 𝕄) = iprop(cP c a n qB f ∗ cP c a n qC f) :=
    BI.Entails.antisymm (pointsTo_share (PosShare.mem_left_op_right fullShare.right)).1 (pointsTo_share (PosShare.mem_left_op_right fullShare.right)).2
  rw [h, h']

/-- Storing an eighth of the scaled rows takes a device to its next state. -/
theorem step_xs {e : Fin 8} (hact : actAt t = .xs e) (ht : t < 275) (hoff : off = ![64 * e.val, 0]) {w : Shape.Idx ⟨2, S64x2048.size⟩ → Elt F .bf16}
    (hw : w = blk (xF D c) (64 * e.val)) {inb hx hm} :
    St D K c t ⊢ wp frame (wpE (defs₀ (F := F)) 𝒱₀ c none) Set.univ
      (Prog.lift (.store (Memref.whole cc0_scratch4) (Rect.unit (s := S512x2048) off S64x2048.size inb) w Finset.univ hx hm)) (fun _ => St D K c (t + 1)) := by
  subst hw
  have hte := t_eq hact ht
  refine store_core (S := rows 512 2048 (64 * e.val) 64) (f := grid) (g := grid (xF D c)) hact ht (fun x => by cases x <;> simp [sendAct]) (fun j => by simp) (fun d' hs => ?_)
    ((View.set_slice_whole cc0_scratch4 _).trans (rect_rows hoff rfl)) (fun f i hi => ?_)
  · have e1 : st D c (dn t) (.x e) = iprop(∃ f, xP c (64 * e.val) 64 fullShare f) := by simp [st, hs.before]
    have a1 : d' (.p1 e) = false := by rw [← hs.other _ (by simp)]; exact dn_ge hte (by simp only [code]; omega)
    have e2 : st D c d' (.x e) = xP c (64 * e.val) 64 fullShare (xF D c) := by
      rw [xP_halves]; simp [st, hs.after, a1]
    refine (take1 D c hs (.x e) fun j hj => nt fun hh => ?_).trans ?_
    · rcases who_rest hh (.inr (.inl ⟨_, rfl⟩)) with ⟨r, h, -⟩ | ⟨e', h, rfl⟩ | ⟨L, h, -⟩ | ⟨k, h, -⟩ | ⟨h, -⟩ | ⟨e', h | h, -⟩ <;> cases h
      exact hj rfl
    rw [e1, e2]
    exact Entails.rfl
  · rw [← rect_rows (inb := inb) hoff rfl] at hi
    exact write_slice_whole cc0_scratch4 _ _ (grid (xF D c)) _ (fun x => (grid_emb (R := 512) (W := 2048) (inb := inb) (xF D c) hoff rfl x).symm) i hi

/-- What the rows a device adds up come to. -/
theorem sum_rows (L : Fin 6) (r k : ℕ) (hr : r < 64) :
    FloatOps.addf (xF D c (64 * L.val + 128 * px c + r) k) (pF D c (64 * L.val + r) k) = cF D (px c) (kRow c L 0 + r) k := by
  have h0 : kRow c L 0 = 512 * pz c + (64 * L.val + 128 * px c) := by
    have := pz_lt c
    unfold kRow; split <;> omega
  have hx := px_lt c
  have hL := L.isLt
  have h1 : (kRow c L 0 + r) % 512 = 64 * L.val + 128 * px c + r := by omega
  have h2 : (kRow c L 0 + r) / 512 = pz c := by omega
  have h3 : sideOf (px c) (64 * L.val + 128 * px c + r) = px c := by
    unfold sideOf
    rcases Nat.eq_zero_or_pos (px c) with h | h
    · rw [if_pos h, if_pos (by omega), h]
    · rw [if_neg (by omega), if_neg (by omega)]; omega
  unfold cF pF
  rw [h1, h2, h3, dv_self, show (64 * L.val + r + 128 * px c) = 64 * L.val + 128 * px c + r from by omega]
  rfl

/-- Storing a chunk of the summed rows takes a device to its next state. -/
theorem step_cs {L : Fin 6} (hact : actAt t = .cs L) (ht : t < 275) (hoff : off = ![kRow c L 0, 0]) {w : Shape.Idx ⟨2, S64x2048.size⟩ → Elt F .bf16}
    (hw : w = blk (cF D (px c)) (kRow c L 0)) {inb hx hm} :
    St D K c t ⊢ wp frame (wpE (defs₀ (F := F)) 𝒱₀ c none) Set.univ
      (Prog.lift (.store (Memref.whole cc0_scratch0) (Rect.unit (s := S4096x2048) off S64x2048.size inb) w Finset.univ hx hm)) (fun _ => St D K c (t + 1)) := by
  subst hw
  have hte := t_eq hact ht
  refine store_core (S := rows 4096 2048 (kRow c L 0) 64) (f := grid) (g := grid (cF D (px c))) hact ht (fun x => by cases x <;> simp [sendAct]) (fun j => by simp) (fun d' hs => ?_)
    ((View.set_slice_whole cc0_scratch0 _).trans (rect_rows hoff rfl)) (fun f i hi => ?_)
  · have hb := hs.before
    have ha := hs.after
    have e1 : st D c (dn t) (.k L 0) = iprop(∃ f, cP c (kRow c L 0) 64 fullShare f) := by simp [st, kA_zero, hb]
    have a1 : d' (kH L 0) = false := by rw [← hs.other _ (by simp [kH])]; exact dn_ge hte (by clear * -; revert L; decide)
    have a2 : d' (.ms 0) = false := by rw [← hs.other _ (by simp)]; exact dn_ge hte (by clear * -; revert L; decide)
    have e2 : st D c d' (.k L 0) = cP c (kRow c L 0) 64 fullShare (cF D (px c)) := by
      rw [cP_thirds]; simp [st, kA_zero, ha, a1, a2]
    refine (take1 D c hs (.k L 0) fun j hj => nt fun hh => ?_).trans ?_
    · rcases who_rest hh (.inr (.inr (.inl ⟨_, rfl⟩))) with ⟨r, h, -⟩ | ⟨e', h, -⟩ | ⟨L, h, rfl⟩ | ⟨k, h, -⟩ | ⟨h, -⟩ | ⟨e', h | h, -⟩ <;> cases h
      exact hj rfl
    rw [e1, e2]
    exact Entails.rfl
  · rw [← rect_rows (inb := inb) hoff rfl] at hi
    exact write_slice_whole cc0_scratch0 _ _ (grid (cF D (px c))) _ (fun x => (grid_emb (R := 4096) (W := 2048) (inb := inb) (cF D (px c)) hoff rfl x).symm) i hi

/-- Storing a band of the widened rows takes a device to its next state. -/
theorem step_os {r : Reg} {sz : Fin 2 → ℕ} (hact : actAt t = .os r) (ht : t < 275) (hsz : sz = ![regLen r, 2048]) (hoff : off = ![regRow c r, 0]) {w : Shape.Idx ⟨2, sz⟩ → Elt F .f32}
    (hw : w = blk (oF D (px c)) (regRow c r)) {inb hx hm} :
    St D K c t ⊢ wp frame (wpE (defs₀ (F := F)) 𝒱₀ c none) Set.univ
      (Prog.lift (.store (Memref.whole cc0_scratch1) (Rect.unit (s := S4096x2048) off sz inb) w Finset.univ hx hm)) (fun _ => St D K c (t + 1)) := by
  subst hw hsz
  have hte := t_eq hact ht
  refine store_core (S := rows 4096 2048 (regRow c r) (regLen r)) (f := grid) (g := grid (oF D (px c))) hact ht (fun x => by cases x <;> simp [sendAct]) (fun j => by simp) (fun d' hs => ?_)
    ((View.set_slice_whole cc0_scratch1 _).trans (rect_rows hoff rfl)) (fun f i hi => ?_)
  · have a2 : dn t (.oe r) = false := dn_ge hte (by clear * -; revert r; decide)
    have a3 : dn t (.fin (.out r)) = false := dn_ge hte (by clear * -; revert r; decide)
    have b2 : d' (.oe r) = false := by rw [← hs.other _ (by simp)]; exact a2
    have b3 : d' (.fin (.out r)) = false := by rw [← hs.other _ (by simp)]; exact a3
    refine (take1 D c hs (.o r) fun j hj => nt fun hh => ?_).trans ?_
    · rcases who_rest hh (.inl ⟨_, rfl⟩) with ⟨r, h, rfl⟩ | ⟨e', h, -⟩ | ⟨L, h, -⟩ | ⟨k, h, -⟩ | ⟨h, -⟩ | ⟨e', h | h, -⟩ <;> cases h
      exact hj rfl
    rw [o_free hs.before a2 a3, o_full hs.after b2 b3]
    iintro ⟨⟨H1, H2⟩, Hk⟩
    isplitl [H2]; · iexact H2
    iintro H2
    iapply Hk
    isplitl [H1]; · iexact H1
    iexact H2
  · rw [← rect_rows (inb := inb) hoff rfl] at hi
    exact write_slice_whole cc0_scratch1 _ _ (grid (oF D (px c))) _ (fun x => (grid_emb (R := 4096) (W := 2048) (inb := inb) (oF D (px c)) hoff rfl x).symm) i hi

/-! ## Shipping finished rows -/

/-- Shipping a band to the result takes a device to its next state. -/
theorem step_oe {r : Reg} {sz : Fin 2 → ℕ} {off' : Fin 2 → ℕ} {sem : DmaSem sig} (hact : actAt t = .oe r) (ht : t < 275) (hsz : sz = ![regLen r, 2048])
    {inb inb' hr hr' h1 h2 h3} (hoff : off = ![regRow c r, 0]) (hoff' : off' = ![regRow c r, 0]) (hS : sem = semOf (.s (.out r)))
    (hN : ((Memref.whole main_v32).slice (Rect.unit (s := S4096x2048) off' sz inb') hr').view.dmaCredit = amt (.s (.out r))) :
    St D K c t ⊢ wp frame (wpE (defs₀ (F := F)) 𝒱₀ c none) Set.univ
      (Prog.lift (.enqueueDma ((Memref.whole cc0_scratch1).slice (Rect.unit (s := S4096x2048) off sz inb) hr)
        (.here ((Memref.whole main_v32).slice (Rect.unit (s := S4096x2048) off' sz inb') hr')) (.dma sem) h1 h2 h3))
      (fun _ => St D K c (t + 1)) := by
  subst hS hsz
  have hte := t_eq hact ht
  have hs := does_at hact ht
  have hO := Ow_same c hs (fun x => by cases x <;> simp [sendAct]) (fun j => by simp)
  have a1 : dn t (.os r) = true := dn_lt hte (by clear * -; revert r; decide)
  have a3 : dn t (.fin (.out r)) = false := dn_ge hte (by clear * -; revert r; decide)
  have b3 : dn (t + 1) (.fin (.out r)) = false := by rw [← hs.other _ (by simp)]; exact a3
  have hP := take2 D c hs (.cell (.s (.out r))) (.o r) (by simp) (fun j j1 j2 => nt fun hh => by
    rcases who_oe hh with rfl | rfl <;> contradiction)
  rw [cell_tok c _ rfl a3 hs.before, sep_cell c _ rfl b3 hs.after, o_full a1 hs.before a3, o_gone hs.after b3] at hP
  unfold St
  iintro ⟨#HI, HA, ⟨%W, HO⟩⟩
  ihave Hp := hP $$ HA
  icases Hp with ⟨⟨⟨Hat, Htok⟩, ⟨%f, Hh⟩, Ho⟩, Hk⟩
  unfold Prog.lift
  iapply (Rounds.wp_copy_pointsTo 𝒱₀ ER (Rd D) (c : Thread nD τ) none (src := (Memref.whole cc0_scratch1).slice (Rect.unit (s := S4096x2048) off ![regLen r, 2048] inb) hr)
    (dst := (Memref.whole main_v32).slice (Rect.unit (s := S4096x2048) off' ![regLen r, 2048] inb') hr') (q := fullShare) (fs := grid (oF D (px c))) (fd := grid f)
    (r := 0) (d := 0) (κ := K (gc c (.s (.out r)))) (sem := .dma (semOf (.s (.out r))))
    (by rw [duties_gc, dut_s rfl]; exact Finset.mem_singleton_self _) () (amt (.s (.out r))) hN (by rw [amount_gc]) ?hpay) $$ [Htok Hh Ho]
  case hpay =>
    rw [payload_gc, band_o c fullShare hoff rfl, band_h c fullShare hoff' rfl]
    refine Entails.of_eq ?_
    rw [pointsTo_congr (fun i hi => wr_oh hoff hoff' (fun r k _ => rfl) (grid f) i hi)]
    rfl
  · isplitr; · iapply (Inv_gc c (.s (.out r))) $$ HI
    isplitl [Ho]; · rw [band_o (hr := hr) c fullShare hoff rfl]; iexact Ho
    isplitl [Hh]; · rw [band_h (hr := hr') c fullShare hoff' rfl]; iexact Hh
    isplitl [Htok]; · iexact Htok
    iapply (Inv_rc (.s (.out r))) $$ HI
  iintro Hcr
  rw [wp_ret]
  imodintro
  isplitr; · iexact HI
  isplitl [Hcr Hk Hat]
  · iapply Hk
    isplitl [Hcr Hat]
    · isplitl [Hat]; · iexact Hat
      iexact Hcr
    iempintro
  iexists W
  rw [← hO]
  iexact HO

/-! ## What a device leaves out -/

/-- Doing what nothing depends on takes a device to its next state. -/
theorem idle_core {a : Act} (hact : actAt t = a) (ht : t < 275) (h : ∀ i, touches c a i = false) (h1 : ∀ x, sendAct c x ≠ a) (h2 : ∀ j, Act.sig j ≠ a) :
    (St D K c t : sProp 𝕄) = St D K c (t + 1) := by
  have hs := does_at hact ht
  unfold St
  rw [take0 D c hs h, Ow_same c hs h1 h2]

/-- An eighth that is not sent is passed over. -/
theorem idle_p1 {e : Fin 8} (hact : actAt t = .p1 e) (ht : t < 275) (hi : active c (.p1 e) = false) : (St D K c t : sProp 𝕄) = St D K c (t + 1) := by
  refine idle_core hact ht (fun i => who_p1_idle hi) (fun x => ?_) (fun j => by simp)
  rcases x with L | ⟨L, h⟩ | s <;> simp only [sendAct] <;> try simp
  rintro rfl
  have := active_p1 (c := c) L
  rw [show eOf c L = _ from rfl] at this
  simp_all

/-- The wait for an eighth that is not sent is passed over. -/
theorem idle_fin {e : Fin 8} (hact : actAt t = .fin (.p1 e)) (ht : t < 275) (hi : active c (.p1 e) = false) : (St D K c t : sProp 𝕄) = St D K c (t + 1) :=
  idle_core hact ht (fun i => who_fin_idle hi) (fun x => by cases x <;> simp [sendAct]) (fun j => by simp)

end Cert.KernelIdeal.Talk
-- ==== Proof.Loops.lean ====
module

public import proofs.«01_k».proof.Proof.Local

/-! The loops of a device: it starts the copies of the rows it gathers, an eighth at a time, and waits for them. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

variable {D : Data F} {K : GSem nD τ sig → ℕ} {c : Dev nD} {t : ℕ} {e : Fin 8}

/-- A loop, by what holds after each trip. -/
theorem loop_core {P R : sProp 𝕄} (I : ℕ → sProp 𝕄) {L : Scf.Loop 32} (htr : L.trips = 64) (hok : L.OK)
    {body : Fin L.trips → Unit → Prog (TpuEff nD τ sig (Elt F) Λ₀ .tc) Unit}
    (hb : ∀ k : Fin L.trips, I k.val ⊢ wp frame (wpE (defs₀ (F := F)) 𝒱₀ c none) Set.univ (body k ()) (fun _ => I (k.val + 1)))
    (h0 : P ⊢ I 0) (h1 : I 64 ⊢ R) :
    P ⊢ wp frame (wpE (defs₀ (F := F)) 𝒱₀ c none) Set.univ (Scf.Loop.for L hok ⟨⟩ body) (fun _ => R) := by
  refine h0.trans ?_
  have h := Scf.wp_for frame (wpE (defs₀ (F := F)) 𝒱₀ c none) Set.univ L.lb L.ub L.st hok () body (fun n _ => I n) (fun k _ => hb k) (Q := fun _ => R)
  refine BIBase.Entails.trans ?_ h
  iintro H
  isplitl [H]; · iexact H
  iintro %a H
  iapply h1
  rw [← htr]
  iexact H

/-- A band of gathered rows, row by row. -/
theorem gP_rows (a n : ℕ) (q : PosShare TreeShare) (f : ℕ → ℕ → Elt F .f32) :
    (gP c a n q f : sProp 𝕄) = bigSep (Finset.range n) fun i => gP c (a + i) 1 q f := by
  induction n with
  | zero =>
    have h : rows 512 2048 a 0 = ∅ := by ext i; simp [mem_rows]
    rw [gP, h, pointsTo_empty, Finset.range_zero, bigSep_empty]; rfl
  | succ n ih =>
    rw [Finset.range_add_one, bigSep_insert Finset.notMem_range_self, ← ih, gP, rows_append]
    have hd : Disjoint (rows 512 2048 a n) (rows 512 2048 (a + n) 1) := rows_disjoint (.inl le_rfl)
    exact BI.Entails.antisymm ((pointsTo_union hd).1.trans (swap _ _)) ((swap _ _).trans (pointsTo_union hd).2)

/-- The table's block: one row, and all others. -/
theorem eP_row {a : ℕ} (ha : a < 8192) (q : PosShare TreeShare) (f : ℕ → ℕ → Elt F .f32) :
    (eP c 0 8192 q f : sProp 𝕄) = iprop(eP c a 1 q f ∗ (((c : Thread nD τ).loc main_arg1) ↦[rows 8192 2048 0 8192 \ rows 8192 2048 a 1]{q} (grid f))) :=
  BI.Entails.antisymm (pointsTo_split_subset (rows_subset (Nat.zero_le _) (by omega))).1 (pointsTo_split_subset (rows_subset (Nat.zero_le _) (by omega))).2

/-! ## Starting the copies of an eighth -/

/-- What a copy of a row needs. -/
def Jg (D : Data F) (c : Dev nD) (e : Fin 8) (i : ℕ) : sProp 𝕄 :=
  iprop(dutyTok ER (gc c (.g e)) 0 i ∗ (∃ f, gP c (64 * e.val + i) 1 fullShare f) ∗ eP c 0 8192 (qE e i) (D.tab c))

/-- What holds after some of the copies of an eighth have started; `R` is kept for the end. -/
def GI (D : Data F) (K : GSem nD τ sig → ℕ) (c : Dev nD) (e : Fin 8) (O : CellTallies nD τ sig Unit) (R : sProp 𝕄) (n : ℕ) : sProp 𝕄 :=
  iprop(Inv D K c ∗ (bigSep (Finset.range n) fun _ => cred (tallyAt (gc c (.g e)) () (amt (.g e)))) ∗ bigSep (Finset.Ico n 64) (Jg D c e)
    ∗ (((c : Thread nD τ).loc cc0_stg0_0) ↦{fullShare} idxF D c) ∗ R ∗ ∃ W, owes (c : Thread nD τ) O W)

/-- A copy of a row of the table over a row of the gathered ones. -/
theorem upd_row {a b : ℕ} {off2 off3 : Fin 2 → ℕ} {inb2 inb3} (h2 : off2 = ![b, 0]) (h3 : off3 = ![a, 0]) (f : ℕ → ℕ → Elt F .f32) (Fr : sProp 𝕄)
    (h : ∀ k, D.tab c a k = gF D c b k) :
    iprop(gP c b 1 fullShare f ∗ Fr) ⊢ writeUpdate (c : Thread nD τ) ((Memref.whole cc0_scratch3).slice (Rect.unit (s := S512x2048) off2 S1x2048.size inb2) (fun _ => rfl)).view
      (((Memref.whole main_arg1).slice (Rect.unit (s := S8192x2048) off3 S1x2048.size inb3) (fun _ => rfl)).view.read (Elt F) (grid (D.tab c)))
      iprop(gP c b 1 fullShare (gF D c) ∗ Fr) := by
  have hu := fun i hi => wr_eg (inb := inb3) (inb' := inb2) (f := D.tab c) (g := gF D c) (n := 1) h3 h2 (fun r k hr => by
    obtain rfl : r = 0 := by omega
    exact h k) (grid f) i hi
  have h1 : ((((Memref.whole cc0_scratch3).slice (Rect.unit (s := S512x2048) off2 S1x2048.size inb2) (fun _ => rfl)).view.loc (c : Thread nD τ)
      ↦[((Memref.whole cc0_scratch3).slice (Rect.unit (s := S512x2048) off2 S1x2048.size inb2) (fun _ => rfl)).view.set]{fullShare}
        (((Memref.whole cc0_scratch3).slice (Rect.unit (s := S512x2048) off2 S1x2048.size inb2) (fun _ => rfl)).view.write (Elt F) (grid f)
          (((Memref.whole main_arg1).slice (Rect.unit (s := S8192x2048) off3 S1x2048.size inb3) (fun _ => rfl)).view.read (Elt F) (grid (D.tab c))) Finset.univ)) : sProp 𝕄)
      = gP c b 1 fullShare (gF D c) := by
    rw [band_g c fullShare h2 rfl]
    exact pointsTo_congr hu
  rw [← h1]
  refine ((sep_mono_left ?_).trans (writeUpdate_frame (c : Thread nD τ)))
  refine BIBase.Entails.trans (Entails.of_eq ?_) (pointsTo_writeUpdate (c : Thread nD τ) subset_rfl)
  exact (band_g c fullShare h2 rfl (grid f)).symm

/-- One trip of the loop that starts an eighth's row copies. -/
theorem trip_gI {O : CellTallies nD τ sig Unit} {R : sProp 𝕄} (hD : ∀ r, (D.idx c r).toNat < 8192) {n : ℕ} (hn : n < 64)
    {off1 : Fin 1 → ℕ} {off2 : Fin 2 → ℕ} {off3 : BitVec 32 → Fin 2 → ℕ} (h1 : off1 = ![n + 64 * e.val]) (h2 : off2 = ![n + 64 * e.val, 0])
    (h3 : ∀ v, off3 v = ![v.toNat, 0]) {chk : BitVec 32 → Prop} {dec : ∀ v, Decidable (chk v)} (hchk : ∀ v, v.toNat < 8192 → chk v)
    {inb1 inb2} {inb3 : ∀ v, chk v → ∀ a, off3 v a + S1x2048.size a ≤ S8192x2048.size a} {n1 n2} {sem : DmaSem sig} (hsem : sem = semOf (.g e)) :
    GI D K c e O R n ⊢ wp frame (wpE (defs₀ (F := F)) 𝒱₀ c none) Set.univ
      (do
        let v : Elt F .i32 ← smemLoad (Memref.whole cc0_stg0_0) (Rect.unit (s := S512) off1 S1.size inb1) n1 n2
        have hw : chk v := (← Prog.lift (TpuEff.assume (chk v) (dec v))).down
        Prog.lift (.enqueueDma ((Memref.whole main_arg1).slice (Rect.unit (s := S8192x2048) (off3 v) S1x2048.size (inb3 v hw)) (fun _ => rfl))
          (.here ((Memref.whole cc0_scratch3).slice (Rect.unit (s := S512x2048) off2 S1x2048.size inb2) (fun _ => rfl))) (.dma sem)
          (View.wordExact_bits rfl) (View.wordExact_bits rfl) ⟨Or.inl rfl, trivial⟩)
        pure () : Prog (TpuEff nD τ sig (Elt F) Λ₀ .tc) Unit)
      (fun _ => GI D K c e O R (n + 1)) := by
  subst hsem
  have hread : ∀ x, ((Memref.whole cc0_stg0_0).access (Rect.unit (s := S512) off1 S1.size inb1)).read (Elt F) (idxF D c) x = D.idx c (n + 64 * e.val) := by
    intro x
    subst h1
    show D.idx c (((Rect.unit (s := S512) ![n + 64 * e.val] S1.size inb1).emb x) 0).val = _
    rw [Rect.emb_apply]
    have : (x 0).val < 1 := (x 0).isLt
    show D.idx c (n + 64 * e.val + 1 * (x 0).val) = _
    congr 1; omega
  have hI : Finset.Ico n 64 = insert n (Finset.Ico (n + 1) 64) := by ext i; simp; omega
  have e1 : bigSep (Finset.Ico n 64) (Jg D c e) = iprop(Jg D c e n ∗ bigSep (Finset.Ico (n + 1) 64) (Jg D c e)) := by
    rw [hI, bigSep_insert (by simp)]; rfl
  have e2 : bigSep (Finset.range (n + 1)) (fun _ => cred (tallyAt (gc c (.g e)) () (amt (.g e)))) = (iprop(cred (tallyAt (gc c (.g e)) () (amt (.g e)))
      ∗ bigSep (Finset.range n) (fun _ => cred (tallyAt (gc c (.g e)) () (amt (.g e))))) : sProp 𝕄) := by
    rw [Finset.range_add_one, bigSep_insert Finset.notMem_range_self]; rfl
  unfold GI
  rw [e1, e2]
  iintro ⟨#HI, Hcr, ⟨HJ, HJs⟩, Hidx, HR, HO⟩
  ihave HJ := (Entails.of_eq (show Jg D c e n = iprop(dutyTok ER (gc c (.g e)) 0 n ∗ (∃ f, gP c (64 * e.val + n) 1 fullShare f) ∗ eP c 0 8192 (qE e n) (D.tab c)) from rfl)) $$ HJ
  icases HJ with ⟨Htok, ⟨%f, Hg⟩, He⟩
  ihave Hg := (Entails.of_eq (congrArg (fun a => gP c a 1 fullShare f) (Nat.add_comm (64 * e.val) n))) $$ Hg
  rw [wp_bind]
  unfold smemLoad
  iapply (wp_smemLoadElt (m := Memref.whole cc0_stg0_0) (r := Rect.unit (s := S512) off1 S1.size inb1) 𝒱₀ (c : Thread nD τ) none Set.univ (S := Finset.univ) (Finset.subset_univ _)) $$ Hidx
  iintro Hidx
  rw [wp_ret]
  imodintro
  rw [hread]
  have hv := hD (n + 64 * e.val)
  rw [wp_bind]
  unfold Prog.lift
  iapply (wp_assume 𝒱₀ (c : Thread nD τ) none Set.univ (hchk _ hv))
  rw [wp_ret]
  imodintro
  rw [wp_bind]
  ihave He := (Entails.of_eq (eP_row hv (qE e n) (D.tab c))) $$ He
  icases He with ⟨He, Hrest⟩
  iapply (Rounds.wp_copy 𝒱₀ ER (Rd D) (c : Thread nD τ) none
    (src := (Memref.whole main_arg1).slice (Rect.unit (s := S8192x2048) (off3 (D.idx c (n + 64 * e.val))) S1x2048.size (inb3 _ (hchk _ hv))) (fun _ => rfl))
    (dst := (Memref.whole cc0_scratch3).slice (Rect.unit (s := S512x2048) off2 S1x2048.size inb2) (fun _ => rfl))
    (q := qE e n) (fs := grid (D.tab c)) (r := 0) (d := n) (κ := K (gc c (.g e))) (sem := .dma (semOf (.g e)))
    (R := iprop(gP c (n + 64 * e.val) 1 fullShare (gF D c) ∗ (((c : Thread nD τ).loc main_arg1) ↦[rows 8192 2048 0 8192 \ rows 8192 2048 (D.idx c (n + 64 * e.val)).toNat 1]{qE e n} (grid (D.tab c)))))
    (by rw [duties_gc]; exact Finset.mem_range.mpr hn) () (amt (.g e)) rfl (by rw [amount_gc]) ?hpay) $$ [Htok Hg He Hrest]
  case hpay =>
    rw [payload_gc, band_e c (qE e n) (h3 _) rfl]
    show _ ⊢ iprop(gP c (64 * e.val + n) 1 fullShare (gF D c) ∗ eP c 0 8192 (qE e n) (D.tab c))
    rw [eP_row hv, Nat.add_comm (64 * e.val)]
    iintro ⟨⟨H1, H2⟩, H3⟩
    isplitl [H1]; · iexact H1
    isplitl [H3]; · iexact H3
    iexact H2
  · isplitr; · iapply (Inv_gc c (.g e)) $$ HI
    isplitl [He]; · rw [band_e c (qE e n) (h3 _) rfl]; iexact He
    isplitl [Hg Hrest]
    · iapply (upd_row h2 (h3 _) f _ (fun k => rfl))
      isplitl [Hg]; · iexact Hg
      iexact Hrest
    isplitl [Htok]; · iexact Htok
    iapply (Inv_rc (.g e)) $$ HI
  iintro Hcr'
  rw [wp_ret]
  imodintro
  rw [show (Pure.pure () : Prog (TpuEff nD τ sig (Elt F) Λ₀ .tc) Unit) = .ret () from rfl, wp_ret]
  imodintro
  isplitr; · iexact HI
  isplitl [Hcr Hcr']
  · isplitl [Hcr']; · iexact Hcr'
    iexact Hcr
  isplitl [HJs]; · iexact HJs
  isplitl [Hidx]; · iexact Hidx
  isplitl [HR]; · iexact HR
  iexact HO

/-- The loop that starts an eighth's row copies takes a device to its next state. -/
theorem loop_gI (hact : actAt t = .gI e) (ht : t < 275) (hD : ∀ c r, (D.idx c r).toNat < 8192) {L : Scf.Loop 32} (htr : L.trips = 64) {hok : L.OK}
    {off1 : Fin L.trips → Fin 1 → ℕ} {off2 : Fin L.trips → Fin 2 → ℕ} {off3 : BitVec 32 → Fin 2 → ℕ} (h1 : ∀ k, off1 k = ![k.val + 64 * e.val]) (h2 : ∀ k, off2 k = ![k.val + 64 * e.val, 0])
    (h3 : ∀ v, off3 v = ![v.toNat, 0]) {chk : BitVec 32 → Prop} {dec : ∀ v, Decidable (chk v)} (hchk : ∀ v, v.toNat < 8192 → chk v)
    {inb1 : ∀ k, ∀ a, off1 k a + S1.size a ≤ S512.size a} {inb2 : ∀ k, ∀ a, off2 k a + S1x2048.size a ≤ S512x2048.size a}
    {inb3 : ∀ v, chk v → ∀ a, off3 v a + S1x2048.size a ≤ S8192x2048.size a} {n1 : S1.numel = 1} {n2 : EltTy.i32.packing = 1} {sem : DmaSem sig} (hsem : sem = semOf (.g e)) :
    St D K c t ⊢ wp frame (wpE (defs₀ (F := F)) 𝒱₀ c none) Set.univ
      (Scf.Loop.for L hok ⟨⟩ (fun k (_ : Unit) => (do
        let v : Elt F .i32 ← smemLoad (Memref.whole cc0_stg0_0) (Rect.unit (s := S512) (off1 k) S1.size (inb1 k)) n1 n2
        have hw : chk v := (← Prog.lift (TpuEff.assume (chk v) (dec v))).down
        Prog.lift (.enqueueDma ((Memref.whole main_arg1).slice (Rect.unit (s := S8192x2048) (off3 v) S1x2048.size (inb3 v hw)) (fun _ => rfl))
          (.here ((Memref.whole cc0_scratch3).slice (Rect.unit (s := S512x2048) (off2 k) S1x2048.size (inb2 k)) (fun _ => rfl))) (.dma sem)
          (View.wordExact_bits rfl) (View.wordExact_bits rfl) ⟨Or.inl rfl, trivial⟩)
        pure () : Prog (TpuEff nD τ sig (Elt F) Λ₀ .tc) Unit)))
      (fun _ => St D K c (t + 1)) := by
  have hs := does_at hact ht
  have hte := t_eq hact ht
  have a2 : dn t (.gW e) = false := dn_ge hte (by clear * -; revert e; decide)
  have b2 : dn (t + 1) (.gW e) = false := by rw [← hs.other _ (by simp)]; exact a2
  have hP := take3 D c hs (.cell (.g e)) (.gb e) .cst (by simp) (by simp) (by simp) (fun j j1 j2 j3 => nt fun hh => by
    rcases who_rest hh (.inr (.inr (.inr (.inr (.inr (.inl ⟨_, rfl⟩)))))) with ⟨r, h, -⟩ | ⟨e', h, -⟩ | ⟨L, h, -⟩ | ⟨k, h, -⟩ | ⟨h, -⟩ | ⟨e', h | h, h'⟩ <;> cases h
    rcases h' with rfl | rfl <;> contradiction)
  have e1 : st D c (dn t) (.cell (.g e)) = iprop(atPos ER (gc c (.g e)) 0 ∅ 0 ∗ bigSep (Finset.range 64) fun i => dutyTok ER (gc c (.g e)) 0 i) := by
    simp [st, a2, hs.before]
  have e2 : st D c (dn (t + 1)) (.cell (.g e)) = iprop(atPos ER (gc c (.g e)) 0 ∅ 0 ∗ bigSep (Finset.range 64) fun _ => cred (tallyAt (gc c (.g e)) () (amt (.g e)))) := by
    simp [st, b2, hs.after]
  have e3 : st D c (dn t) (.gb e) = iprop((∃ f, gP c (64 * e.val) 64 fullShare f) ∗ bigSep (Finset.range 64) fun i => eP c 0 8192 (qE e i) (D.tab c)) := by
    simp [st, a2, hs.before]
  have e4 : st D c (dn (t + 1)) (.gb e) = iprop(emp) := by simp [st, b2, hs.after]
  rw [e1, e2, e3, e4] at hP
  have hO := Ow_same c hs (fun x => by cases x <;> simp [sendAct]) (fun j => by simp)
  refine loop_core (GI D K c e (Ow c (dn t)) iprop(atPos ER (gc c (.g e)) 0 ∅ 0 ∗
      (((atPos ER (gc c (.g e)) 0 ∅ 0 ∗ bigSep (Finset.range 64) fun _ => cred (tallyAt (gc c (.g e)) () (amt (.g e)))) ∗ emp ∗ st D c (dn (t + 1)) .cst) -∗ All D c (dn (t + 1)))
      ∗ (((c : Thread nD τ).loc cc0_stg1_0) ↦{fullShare} (grid (fun r _ => D.val c r) : Shape.Idx ⟨2, ![512, 1]⟩ → Elt F .f32)))) htr hok (fun k => ?_) ?_ ?_
  · exact trip_gI (hD c) (htr ▸ k.isLt) (h1 k) (h2 k) h3 hchk hsem
  · unfold St GI
    iintro ⟨#HI, HA, HO⟩
    ihave Hp := hP $$ HA
    icases Hp with ⟨⟨⟨Hat, Htok⟩, ⟨⟨%f, Hg⟩, He⟩, Hc⟩, Hk⟩
    ihave Hc := (Entails.of_eq (show st D c (dn t) .cst = iprop((((c : Thread nD τ).loc cc0_stg0_0) ↦{fullShare} idxF D c)
      ∗ (((c : Thread nD τ).loc cc0_stg1_0) ↦{fullShare} (grid (fun r _ => D.val c r) : Shape.Idx ⟨2, ![512, 1]⟩ → Elt F .f32))) from rfl)) $$ Hc
    icases Hc with ⟨Hi, Hv⟩
    isplitr; · iexact HI
    isplitr; · rw [Finset.range_zero, bigSep_empty]; iempintro
    isplitl [Htok Hg He]
    · have e5 : bigSep (Finset.Ico 0 64) (Jg D c e) = iprop(bigSep (Finset.range 64) (fun i => dutyTok ER (gc c (.g e)) 0 i)
          ∗ bigSep (Finset.range 64) (fun i => iprop(∃ f, gP c (64 * e.val + i) 1 fullShare f)) ∗ bigSep (Finset.range 64) (fun i => eP c 0 8192 (qE e i) (D.tab c))) := by
        rw [← Finset.range_eq_Ico]
        exact (bigSep_sep _ _ _).trans (congrArg (BI.sep _) (bigSep_sep _ _ _))
      rw [e5]
      isplitl [Htok]; · iexact Htok
      isplitl [Hg]
      · have e6 : gP c (64 * e.val) 64 fullShare f ⊢ (bigSep (Finset.range 64) (fun i => iprop(∃ f, gP c (64 * e.val + i) 1 fullShare f)) : sProp 𝕄) := by
          rw [gP_rows]
          have hx : ∀ i, gP c (64 * e.val + i) 1 fullShare f ⊢ iprop(∃ f, gP c (64 * e.val + i) 1 fullShare f) := fun i => by
            iintro H
            iexists f
            iexact H
          exact bigSep_mono fun i _ => hx i
        iapply e6 $$ Hg
      iexact He
    isplitl [Hi]; · iexact Hi
    isplitl [Hat Hk Hv]
    · isplitl [Hat]; · iexact Hat
      isplitl [Hk]; · iexact Hk
      iexact Hv
    iexact HO
  · unfold St GI
    iintro ⟨#HI, Hcr, -, Hi, ⟨Hat, Hk, Hv⟩, HO⟩
    isplitr; · iexact HI
    isplitl [Hcr Hi Hat Hk Hv]
    · iapply Hk
      isplitl [Hat Hcr]
      · isplitl [Hat]; · iexact Hat
        iexact Hcr
      isplitr; · iempintro
      iapply (Entails.of_eq (show iprop((((c : Thread nD τ).loc cc0_stg0_0) ↦{fullShare} idxF D c)
      ∗ (((c : Thread nD τ).loc cc0_stg1_0) ↦{fullShare} (grid (fun r _ => D.val c r) : Shape.Idx ⟨2, ![512, 1]⟩ → Elt F .f32))) = st D c (dn (t + 1)) .cst from rfl))
      isplitl [Hi]; · iexact Hi
      iexact Hv
    rw [← hO]
    iexact HO

/-! ## Waiting for the copies of an eighth -/

/-- What holds after some of the waits for the copies of an eighth; `R` is kept for the end. -/
def WI (D : Data F) (K : GSem nD τ sig → ℕ) (c : Dev nD) (e : Fin 8) (O : CellTallies nD τ sig Unit) (R : sProp 𝕄) (n : ℕ) : sProp 𝕄 :=
  iprop(Inv D K c ∗ (if n < 64 then iprop(∃ T : Finset ℕ, ⌜T ⊆ Finset.range 64⌝ ∗ atPos ER (gc c (.g e)) 0 T (n * amt (.g e)) ∗ (bigSep T fun i => gath D c e i)
      ∗ bigSep (Finset.Ico n 64) fun _ => cred (tallyAt (gc c (.g e)) () (amt (.g e))))
    else iprop(semVal (gc c (.g e)) 0 ∗ bigSep (Finset.range 64) fun i => gath D c e i)) ∗ R ∗ ∃ W, owes (c : Thread nD τ) O W)

/-- Copies already given back, with those still to come, are all the copies given back. -/
theorem join_gath {T S : Finset ℕ} (h : T ⊆ S) :
    iprop((bigSep T fun i => gath D c e i) ∗ bigSep (S \ T) fun i => (Rd D).payload (gc c (.g e)) 0 i) ⊢ (bigSep S fun i => gath D c e i : sProp 𝕄) := by
  have h1 : (bigSep (S \ T) fun i => (Rd D).payload (gc c (.g e)) 0 i : sProp 𝕄) = bigSep (S \ T) fun i => gath D c e i := by
    refine bigSep_congr fun i _ => ?_
    rw [payload_gc]; rfl
  rw [h1]
  have h2 := bigSep_union (Φ := fun i => (gath D c e i : sProp 𝕄)) (Finset.disjoint_sdiff (s := T) (t := S))
  rw [Finset.union_sdiff_of_subset h] at h2
  exact Entails.of_eq h2.symm

/-- One trip of the loop that waits for an eighth's row copies. -/
theorem trip_gW {O : CellTallies nD τ sig Unit} {R : sProp 𝕄} (hmw : Inv D K c ⊢ MayWait (c : Thread nD τ) (.dma (semOf (.g e))) () O) {n : ℕ} (hn : n < 64)
    {sp sp' : Space} {s s' : Shape} {e1 e1' : EltTy} {sem : DmaSem sig} {src : Memref sig .tc sp' s' e1'} {κ' : Kind} {dst : Memref sig κ' sp s e1}
    {h1 : src.view.WordExact} {h2 : dst.view.WordExact} (hsem : sem = semOf (.g e)) (hN : dst.view.dmaCredit = amt (.g e)) :
    WI D K c e O R n ⊢ wp frame (wpE (defs₀ (F := F)) 𝒱₀ c none) Set.univ
      (do
        Prog.lift (.waitDma2 sem src dst h1 h2)
        Pure.pure () : Prog (TpuEff nD τ sig (Elt F) Λ₀ .tc) Unit)
      (fun _ => WI D K c e O R (n + 1)) := by
  subst hsem
  have hI : Finset.Ico n 64 = insert n (Finset.Ico (n + 1) 64) := by ext i; simp; omega
  have e2 : bigSep (Finset.Ico n 64) (fun _ => cred (tallyAt (gc c (.g e)) () (amt (.g e)))) = (iprop(cred (tallyAt (gc c (.g e)) () (amt (.g e)))
      ∗ bigSep (Finset.Ico (n + 1) 64) (fun _ => cred (tallyAt (gc c (.g e)) () (amt (.g e))))) : sProp 𝕄) := by
    rw [hI, bigSep_insert (by simp)]; rfl
  have hdu : (dutiesOf c (.g e)).card = 64 := Finset.card_range 64
  unfold WI
  rw [if_pos hn, e2, wp_bind]
  unfold Prog.lift
  by_cases hlt : n + 1 < 64
  · rw [if_pos hlt]
    iintro ⟨#HI, ⟨%T, %hT, Hat, Hpay, Hc, Hcs⟩, HR, ⟨%W, HO⟩⟩
    iapply (Rounds.wp_wait 𝒱₀ ER (Rd D) (c : Thread nD τ) none (κ := K (gc c (.g e)))
      (wpE_waitDma2_eq (src := src) (dst := dst) 𝒱₀ (c : Thread nD τ) none Set.univ) (Set.mem_univ _) (O := O) (W := W) (R := 0) (m := n * amt (.g e)) (T := T)
      (cr := Finsupp.single () (amt (.g e))) {(.dma (semOf (.g e)), ())} (by rw [Util.total_single, hN]) (image_single_subset _ () _)) $$ [Hc HO Hat]
    · isplitr; · iapply (Inv_gc c (.g e)) $$ HI
      isplitl [Hc]; · iexact Hc
      isplitl [HO]; · iexact HO
      isplitr; · iapply hmw $$ HI
      iexact Hat
    iintro %S ⟨%hS, HO, Hat, Hp⟩
    rw [wp_ret]
    imodintro
    rw [show (Pure.pure () : Prog (TpuEff nD τ sig (Elt F) Λ₀ .tc) Unit) = .ret () from rfl, wp_ret]
    imodintro
    isplitr; · iexact HI
    isplitl [Hat Hpay Hp Hcs]
    · iexists S
      isplitr; · ipureintro; rw [duties_gc] at hS; exact hS.2.1
      isplitl [Hat]
      · rw [show (n + 1) * amt (.g e) = n * amt (.g e) + dst.view.dmaCredit by rw [hN, Nat.add_mul, one_mul]]
        iexact Hat
      isplitl [Hpay Hp]
      · iapply (join_gath hS.1)
        isplitl [Hpay]; · iexact Hpay
        iexact Hp
      iexact Hcs
    isplitl [HR]; · iexact HR
    iexists _
    iexact HO
  · rw [if_neg hlt]
    obtain rfl : n = 63 := by omega
    iintro ⟨#HI, ⟨%T, %hT, Hat, Hpay, Hc, Hcs⟩, HR, ⟨%W, HO⟩⟩
    rw [← hN]
    iapply (Rounds.wp_wait_rest_token 𝒱₀ ER (Rd D) (c : Thread nD τ) none (κ := K (gc c (.g e)))
      (wpE_waitDma2_eq (src := src) (dst := dst) 𝒱₀ (c : Thread nD τ) none Set.univ) (Set.mem_univ _) () (O := O) (W := W) (R := 0) (m := 63 * dst.view.dmaCredit) (T := T)
      (by rw [expect_gc, hdu, hN]; omega)) $$ [Hc HO Hat]
    · isplitr; · iapply (Inv_gc c (.g e)) $$ HI
      isplitl [Hc]; · iexact Hc
      isplitl [HO]; · iexact HO
      isplitr; · iapply hmw $$ HI
      iexact Hat
    iintro ⟨HO, Hat, -, Hp⟩
    rw [wp_ret]
    imodintro
    rw [show (Pure.pure () : Prog (TpuEff nD τ sig (Elt F) Λ₀ .tc) Unit) = .ret () from rfl, wp_ret]
    imod (close (K := K) (D := D) (gc c (.g e))) $$ [Hat] with Hs0
    · isplitr; · iapply (Inv_gc c (.g e)) $$ HI
      iexact Hat
    imodintro
    isplitr; · iexact HI
    isplitl [Hs0 Hpay Hp]
    · isplitl [Hs0]; · iexact Hs0
      iapply (join_gath hT)
      isplitl [Hpay]; · iexact Hpay
      iapply (Entails.of_eq (congrArg (fun U : Finset ℕ => bigSep (U \ T) fun i => (Rd D).payload (gc c (.g e)) 0 i) (duties_gc (D := D) (c := c) (.g e)))) $$ Hp
    isplitl [HR]; · iexact HR
    iexists _
    iexact HO

/-- The loop that waits for an eighth's row copies takes a device to its next state. -/
theorem loop_gW (hact : actAt t = .gW e) (ht : t < 275) {L : Scf.Loop 32} (htr : L.trips = 64) {hok : L.OK}
    {sp sp' : Space} {s s' : Shape} {e1 e1' : EltTy} {sem : DmaSem sig} {src : Memref sig .tc sp' s' e1'} {κ' : Kind} {dst : Memref sig κ' sp s e1}
    {w1 : src.view.WordExact} {w2 : dst.view.WordExact} (hsem : sem = semOf (.g e)) (hN : dst.view.dmaCredit = amt (.g e)) :
    St D K c t ⊢ wp frame (wpE (defs₀ (F := F)) 𝒱₀ c none) Set.univ
      (Scf.Loop.for L hok ⟨⟩ (fun _ (_ : Unit) => (do
        Prog.lift (.waitDma2 sem src dst w1 w2)
        Pure.pure () : Prog (TpuEff nD τ sig (Elt F) Λ₀ .tc) Unit)))
      (fun _ => St D K c (t + 1)) := by
  have hs := does_at hact ht
  have hte := t_eq hact ht
  have h11 : 11 ≤ t := by rw [hte]; clear * -; revert e; decide
  have a1 : dn t (.gI e) = true := dn_lt hte (by clear * -; revert e; decide)
  have b1 : dn (t + 1) (.gI e) = true := by rw [← hs.other _ (by simp)]; exact a1
  have hP := take2 D c hs (.cell (.g e)) (.gb e) (by simp) (fun j j1 j2 => nt fun hh => by
    rcases who_rest hh (.inr (.inr (.inr (.inr (.inr (.inr ⟨_, rfl⟩)))))) with ⟨r, h, -⟩ | ⟨e', h, -⟩ | ⟨L, h, -⟩ | ⟨k, h, -⟩ | ⟨h, -⟩ | ⟨e', h | h, h'⟩ <;> cases h
    rcases h' with rfl | rfl <;> contradiction)
  have e1 : st D c (dn t) (.cell (.g e)) = iprop(atPos ER (gc c (.g e)) 0 ∅ 0 ∗ bigSep (Finset.range 64) fun _ => cred (tallyAt (gc c (.g e)) () (amt (.g e)))) := by
    simp [st, a1, hs.before]
  have e2 : st D c (dn (t + 1)) (.cell (.g e)) = iprop(semVal (gc c (.g e)) 0) := by simp [st, hs.after]
  have e3 : st D c (dn t) (.gb e) = iprop(emp) := by simp [st, a1, hs.before]
  have e4 : st D c (dn (t + 1)) (.gb e) = iprop(gP c (64 * e.val) 64 fullShare (gF D c) ∗ bigSep (Finset.range 64) fun i => eP c 0 8192 (qE e i) (D.tab c)) := by
    simp [st, hs.after]
  rw [e1, e2, e3, e4] at hP
  have hO := Ow_same c hs (fun x => by cases x <;> simp [sendAct]) (fun j => by simp)
  have hl := @Inv_lev F _ D K c
  have hmw := hl.trans (mayWait c (.dma (semOf (.g e))) (dn t) 0 (le_of_eq (lv_g c e ())) (fun x _ => by omega) (fun j hj => by rw [sig_before h11] at hj; cases hj))
  have e5 : (bigSep (Finset.range 64) fun i => (gath D c e i : sProp 𝕄)) = iprop(gP c (64 * e.val) 64 fullShare (gF D c) ∗ bigSep (Finset.range 64) fun i => eP c 0 8192 (qE e i) (D.tab c)) := by
    rw [gP_rows]
    exact bigSep_sep _ _ _
  refine loop_core (WI D K c e (Ow c (dn t)) iprop((semVal (gc c (.g e)) 0 ∗ gP c (64 * e.val) 64 fullShare (gF D c) ∗ bigSep (Finset.range 64) fun i => eP c 0 8192 (qE e i) (D.tab c)) -∗ All D c (dn (t + 1)))) htr hok (fun k => ?_) ?_ ?_
  · exact trip_gW hmw (htr ▸ k.isLt) hsem hN
  · unfold St WI
    rw [if_pos (by omega)]
    iintro ⟨#HI, HA, HO⟩
    ihave Hp := hP $$ HA
    icases Hp with ⟨⟨⟨Hat, Hcr⟩, -⟩, Hk⟩
    isplitr; · iexact HI
    isplitl [Hat Hcr]
    · iexists ∅
      isplitr; · ipureintro; exact Finset.empty_subset _
      isplitl [Hat]; · rw [Nat.zero_mul]; iexact Hat
      isplitr; · rw [bigSep_empty]; iempintro
      rw [← Finset.range_eq_Ico]
      iexact Hcr
    isplitl [Hk]; · iexact Hk
    iexact HO
  · unfold St WI
    rw [if_neg (by omega), e5]
    iintro ⟨#HI, ⟨Hs, Hg, He⟩, Hk, HO⟩
    isplitr; · iexact HI
    isplitl [Hs Hg He Hk]
    · iapply Hk
      isplitl [Hs]; · iexact Hs
      isplitl [Hg]; · iexact Hg
      iexact He
    rw [← hO]
    iexact HO

end Cert.KernelIdeal.Talk
-- ==== Proof.Signals.lean ====
module

public import proofs.«01_k».proof.Proof.Loops

/-! The signals at the start, and the wait for them. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

variable {D : Data F} {K : GSem nD τ sig → ℕ} {c : Dev nD} {t : ℕ}

/-- The transfers a device receives from one of its neighbours. -/
def fromHand (j : Fin 3) : Finset RC := Finset.univ.filter fun x => (hand x).val = j.val

/-- The transfers from a neighbour are those whose hand it is. -/
theorem mem_fromHand {j : Fin 3} {x : RC} : x ∈ fromHand j ↔ hand x = j := by
  simp [fromHand, Fin.ext_iff]

/-- The pieces of the received transfers. -/
def innEmb : RC ↪ Item := ⟨.inn, fun x y h => by cases h; rfl⟩
/-- The pieces of the transfers to send. -/
def toEmb : RC ↪ Item := ⟨.to, fun x y h => by cases h; rfl⟩

/-- The way back of the way back is the way. -/
theorem opp_opp (j : Fin 3) : opp (opp j.val) = j.val := by revert j; decide

/-- What a device's signal gives its neighbour: the rows the neighbour sends to. -/
theorem lease_nb (j : Fin 3) : (lease (F := F) (nb j c) (opp j) : sProp 𝕄)
    = bigSep (fromHand j) fun x => iprop(spare (F := F) c x ∗ reached ER (gc c (.r x)) 0) := by
  unfold lease fromHand
  rw [opp_opp, nb_opp]

/-- A signal to a neighbour takes a device to its next state. -/
theorem step_sig {j : Fin 3} (hact : actAt t = .sig j) (ht : t < 275) {d : Dev nD} {sem : Sem sig} (hd : d = nb j c) (hsem : sem = sig.barrier 0 rfl) :
    St D K c t ⊢ wp frame (wpE (defs₀ (F := F)) 𝒱₀ c none) Set.univ
      (semSignalWord d sem 1#32 : Prog (TpuEff nD τ sig (Elt F) Λ₀ .tc) PUnit) (fun _ => St D K c (t + 1)) := by
  subst hd hsem
  have hs := does_at hact ht
  have hte := t_eq hact ht
  have hwr : ∀ y, dn t (.wr y) = false ∧ dn (t + 1) (.wr y) = false := fun y => by
    have h0 : dn t (.wr y) = false := dn_ge hte (by clear * -; revert j y; decide)
    exact ⟨h0, by rw [← hs.other _ (by simp)]; exact h0⟩
  have hP := take D c hs (insert (.sg j) ((fromHand j).map innEmb)) (fun i hi => nt fun hh => by
    rcases who_rest hh (.inr (.inr (.inr (.inl ⟨_, rfl⟩)))) with ⟨r, h, -⟩ | ⟨e', h, -⟩ | ⟨L, h, -⟩ | ⟨k, h, h'⟩ | ⟨h, -⟩ | ⟨e', h | h, h'⟩ <;> cases h
    refine hi ?_
    rcases h' with rfl | ⟨y, rfl, hy⟩
    · exact Finset.mem_insert_self _ _
    · exact Finset.mem_insert_of_mem (Finset.mem_map.mpr ⟨y, mem_fromHand.mpr hy, rfl⟩))
  have hni : Item.sg j ∉ (fromHand j).map innEmb := fun h => by
    obtain ⟨y, -, h⟩ := Finset.mem_map.mp h
    cases h
  have e1 : ∀ f : Item → sProp 𝕄, bigSep (insert (.sg j) ((fromHand j).map innEmb)) f = iprop(f (.sg j) ∗ bigSep (fromHand j) fun y => f (.inn y)) := fun f => by
    rw [bigSep_insert hni, bigSep_map]; rfl
  have e2 : st D c (dn t) (.sg j) = dutyTok ER (bc (nb j c)) 0 (opp j) := by simp [st, hs.before]
  have e3 : st D c (dn (t + 1)) (.sg j) = iprop(emp) := by simp [st, hs.after]
  have e4 : (bigSep (fromHand j) fun y => st D c (dn t) (.inn y)) = bigSep (fromHand j) fun y => spare (F := F) c y :=
    bigSep_congr fun y hy => by simp [st, mem_fromHand.mp hy, hs.before]
  have e5 : (bigSep (fromHand j) fun y => st D c (dn (t + 1)) (.inn y)) = (iprop(emp) : sProp 𝕄) :=
    (bigSep_congr fun y hy => by simp only [st, mem_fromHand.mp hy, hs.after, (hwr y).2]; rfl).trans (bigSep_emp_const (fromHand j))
  rw [e1, e1, e2, e3, e4, e5] at hP
  have hO := Ow_sig c j hs
  have hr : Inv D K c ⊢ bigSep (fromHand j) fun y => reached ER (gc c (.r y)) 0 :=
    bigSep_intro_persistent fun y _ => Inv_rc (.r y)
  have e6 : (bigSep (fromHand j) fun x => iprop(spare (F := F) c x ∗ reached ER (gc c (.r x)) 0) : sProp 𝕄)
      = iprop((bigSep (fromHand j) fun y => spare (F := F) c y) ∗ bigSep (fromHand j) fun y => reached ER (gc c (.r y)) 0) := bigSep_sep _ _ _
  unfold St semSignalWord
  iintro ⟨#HI, HA, ⟨%W, HO⟩⟩
  ihave Hp := hP $$ HA
  icases Hp with ⟨⟨Htok, Hsp⟩, Hk⟩
  iapply (Rounds.wp_signal 𝒱₀ ER (Rd D) (c : Thread nD τ) none (κ := K (bc (nb j c))) (dst := (nb j c : Thread nD τ)) (sem := sig.barrier 0 rfl) (r := 0) (d := opp j) (k' := 1)
      (by rw [duties_bc]; clear * -; revert j; decide) (amount_bc D _ _ _) () (Ow c (dn (t + 1))) hO) $$ [HO Htok Hsp]
  · isplitr; · iapply (Inv_bc (nb j c)) $$ HI
    isplitl [HO]; · iexact HO
    isplitl [Htok]; · iexact Htok
    isplitl [Hsp]
    · rw [payload_bc, lease_nb, e6]
      isplitl [Hsp]; · iexact Hsp
      iapply hr $$ HI
    iapply (Inv_rb (nb j c)) $$ HI
  iintro HO
  rw [wp_ret]
  imodintro
  isplitr; · iexact HI
  isplitl [Hk]
  · iapply Hk
    isplitr <;> iempintro
  iexists _
  iexact HO

/-- What a device may write on another device, for one transfer. -/
def given (c : Dev nD) (x : RC) : sProp 𝕄 := iprop(spare (F := F) (tgt x c) x ∗ reached ER (gc (tgt x c) (.r x)) 0)

/-- What a neighbour lends is what the transfers to it need. -/
theorem lease_given {k : ℕ} (hk : k < 3) : (lease (F := F) c k : sProp 𝕄) = bigSep (Finset.univ.filter fun x : RC => (hand x).val = opp k) (given c) := by
  unfold lease
  refine bigSep_congr fun x hx => ?_
  have h : opp (hand x) = k := by
    rw [(Finset.mem_filter.mp hx).2]
    exact opp_opp ⟨k, hk⟩
  unfold given tgt
  rw [h]

/-- The three signals give a device all the rows it sends to. -/
theorem leases : (bigSep (Finset.range 3) fun k => lease (F := F) c k : sProp 𝕄) = bigSep Finset.univ (given c) := by
  have h : ∀ s : Finset ℕ, s ⊆ Finset.range 3 → (bigSep s fun k => lease (F := F) c k : sProp 𝕄) = bigSep (Finset.univ.filter fun x : RC => opp (hand x) ∈ s) (given c) := by
    intro s
    induction s using Finset.induction_on with
    | empty => intro _; rw [bigSep_empty, Finset.filter_false_of_mem (by simp), bigSep_empty]
    | insert k s hk ih =>
      intro hs
      have hk3 : k < 3 := Finset.mem_range.mp (hs (Finset.mem_insert_self _ _))
      rw [bigSep_insert hk, ih ((Finset.subset_insert _ _).trans hs), lease_given hk3]
      have e : (Finset.univ.filter fun x : RC => opp (hand x) ∈ insert k s)
          = (Finset.univ.filter fun x : RC => (hand x).val = opp k) ∪ (Finset.univ.filter fun x : RC => opp (hand x) ∈ s) := by
        ext x
        have hx : opp (hand x) = k ↔ (hand x).val = opp k := by
          generalize hand x = j
          exact (by decide : ∀ k j : Fin 3, opp j = k.val ↔ j.val = opp k) ⟨k, hk3⟩ j
        simp [hx]
      rw [e, bigSep_union]
      rw [Finset.disjoint_left]
      intro x h1 h2
      simp only [Finset.mem_filter, Finset.mem_univ, true_and] at h1 h2
      have h3 : opp (hand x) = k := by rw [h1]; exact opp_opp ⟨k, hk3⟩
      exact hk (h3 ▸ h2)
  rw [h _ subset_rfl, Finset.filter_true_of_mem]
  intro x _
  generalize hand x = j
  revert j; decide

/-- The wait at the barrier takes a device to its next state. -/
theorem step_bar (hact : actAt t = .bar) (ht : t < 275) {sem : Sem sig} (hsem : sem = sig.barrier 0 rfl) :
    St D K c t ⊢ wp frame (wpE (defs₀ (F := F)) 𝒱₀ c none) Set.univ
      (semWaitWord sem 3#32 : Prog (TpuEff nD τ sig (Elt F) Λ₀ .tc) PUnit) (fun _ => St D K c (t + 1)) := by
  subst hsem
  have hs := does_at hact ht
  have hte := t_eq hact ht
  have hse : ∀ y, dn t (sendAct c y) = false ∧ dn (t + 1) (sendAct c y) = false := fun y => by
    have h0 : dn t (sendAct c y) = false := dn_ge hte (by clear * -; rcases y with L | ⟨L, h⟩ | s <;> revert c; · revert L; decide
                                                          · revert L h; decide
                                                          · revert s; decide)
    exact ⟨h0, by rw [← hs.other _ (by cases y <;> simp [sendAct])]; exact h0⟩
  have hP := take D c hs (insert .barr (Finset.univ.map toEmb)) (fun i hi => nt fun hh => by
    rcases who_rest hh (.inr (.inr (.inr (.inr (.inl rfl))))) with ⟨r, h, -⟩ | ⟨e', h, -⟩ | ⟨L, h, -⟩ | ⟨k, h, h'⟩ | ⟨h, h'⟩ | ⟨e', h | h, h'⟩ <;> cases h
    refine hi ?_
    rcases h' with rfl | ⟨y, rfl⟩
    · exact Finset.mem_insert_self _ _
    · exact Finset.mem_insert_of_mem (Finset.mem_map.mpr ⟨y, Finset.mem_univ _, rfl⟩))
  have hni : Item.barr ∉ (Finset.univ : Finset RC).map toEmb := fun h => by
    obtain ⟨y, -, h⟩ := Finset.mem_map.mp h
    cases h
  have e1 : ∀ f : Item → sProp 𝕄, bigSep (insert .barr ((Finset.univ : Finset RC).map toEmb)) f = iprop(f .barr ∗ bigSep Finset.univ fun y => f (.to y)) := fun f => by
    rw [bigSep_insert hni, bigSep_map]; rfl
  have e2 : st D c (dn t) .barr = iprop(atPos ER (bc c) 0 ∅ 0 ∗ cred (tallyAt (bc c) () 3)) := by simp [st, hs.before]
  have e3 : st D c (dn (t + 1)) .barr = semVal (bc c) 0 := by simp [st, hs.after]
  have e4 : (bigSep Finset.univ fun y => st D c (dn t) (.to y)) = iprop((bigSep Finset.univ fun y => dutyTok ER (gc (tgt y c) (.r y)) 0 0) ∗ bigSep Finset.univ fun _ : RC => (iprop(emp) : sProp 𝕄)) :=
    (bigSep_congr fun y _ => by simp only [st, (hse y).1, hs.before]; rfl).trans (bigSep_sep _ _ _)
  have e5 : (bigSep Finset.univ fun y => st D c (dn (t + 1)) (.to y)) = iprop((bigSep Finset.univ fun y => dutyTok ER (gc (tgt y c) (.r y)) 0 0) ∗ bigSep Finset.univ (given (F := F) c)) :=
    (bigSep_congr fun y _ => by simp only [st, (hse y).2, hs.after]; rfl).trans (bigSep_sep _ _ _)
  rw [e1, e1, e2, e3, e4, e5, ← leases] at hP
  have hO := Ow_same c hs (fun x => by cases x <;> simp [sendAct]) (fun j => by simp)
  have hl := @Inv_lev F _ D K c
  have hmw := hl.trans (mayWait c (.reg (sig.barrier 0 rfl)) (dn t) 1 (le_of_eq (lv_bc c ())) (fun x _ => by omega)
    (fun j hj => by rw [sig_before (le_of_eq hte.symm)] at hj; cases hj))
  have e6 : (bigSep ((Rd D).duties (bc c) 0 \ ∅) (fun u => (Rd D).payload (bc c) 0 u) : sProp 𝕄) = bigSep (Finset.range 3) fun k => lease (F := F) c k := by
    rw [Finset.sdiff_empty, duties_bc]
    exact bigSep_congr fun k _ => payload_bc D c 0 k
  unfold St semWaitWord
  iintro ⟨#HI, HA, ⟨%W, HO⟩⟩
  ihave Hp := hP $$ HA
  icases Hp with ⟨⟨⟨Hat, Hcr⟩, Htok, -⟩, Hk⟩
  iapply (Rounds.wp_wait_rest_token 𝒱₀ ER (Rd D) (c : Thread nD τ) none (κ := K (bc c)) (sm := .reg (sig.barrier 0 rfl)) (k' := 3)
      (wpE_semWait_eq 𝒱₀ (c : Thread nD τ) none Set.univ) (Set.mem_univ _) () (O := Ow c (dn t)) (W := W) (R := 0) (m := 0) (T := ∅)
      (by rw [expect_bc])) $$ [Hcr HO Hat]
  · isplitr; · iapply (Inv_bc c) $$ HI
    isplitl [Hcr]; · iexact Hcr
    isplitl [HO]; · iexact HO
    isplitr; · iapply hmw $$ HI
    iexact Hat
  iintro ⟨HO, Hat, -, Hpay⟩
  rw [wp_ret]
  imod (close (K := K) (D := D) (bc c)) $$ [Hat] with Hs0
  · isplitr; · iapply (Inv_bc c) $$ HI
    iexact Hat
  ihave Hpay := (Entails.of_eq e6) $$ Hpay
  imodintro
  isplitr; · iexact HI
  isplitl [Hk Hs0 Hpay Htok]
  · iapply Hk
    isplitl [Hs0]; · iexact Hs0
    isplitl [Htok]; · iexact Htok
    iexact Hpay
  iexists _
  rw [← hO]
  iexact HO

end Cert.KernelIdeal.Talk
-- ==== Proof.Walk.lean ====
module

public import proofs.«01_k».proof.Proof.Signals
public import proofs.«01_k».proof.Proof.Gen.KernelIdeal.Skeleton

/-! The steps in the form in which the body takes them: a load is found by the act that uses it, and a
conditional transfer by whether the device sends the chunk at all. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

variable {D : Data F} {K : GSem nD τ sig → ℕ} {c : Dev nD} {t : ℕ} {off off' : Fin 2 → ℕ}

/-! ## Loads, by the act that uses them -/

/-- Before an eighth is stored, loading its gathered rows reads their contents. -/
theorem see_g {e : Fin 8} (hact : actAt t = .xs e) (ht : t < 275) (hoff : off = ![64 * e.val, 0]) {inb hl} :
    St D K c t ⊢ wp frame (wpE (defs₀ (F := F)) 𝒱₀ c none) Set.univ
      (Prog.lift (.load (Memref.whole cc0_scratch3) (Rect.unit (s := S512x2048) off S64x2048.size inb).toLoadRect hl))
      (fun v => iprop(⌜v = blk (gF D c) (64 * e.val)⌝ ∗ St D K c t)) :=
  ld_g (dn_lt (t_eq hact ht) (by clear * -; revert e; decide)) hoff

/-- Before an eighth is stored, loading its weights reads their values. -/
theorem see_v {e : Fin 8} (_ : actAt t = .xs e) (hoff : off = ![64 * e.val, 0]) {inb hl} :
    St D K c t ⊢ wp frame (wpE (defs₀ (F := F)) 𝒱₀ c none) Set.univ
      (Prog.lift (.load (Memref.whole cc0_stg1_0) (Rect.unit (s := S512x1) off S64x1.size inb).toLoadRect hl))
      (fun v => iprop(⌜v = blk (fun r _ => D.val c r) (64 * e.val)⌝ ∗ St D K c t)) := ld_v _ hoff

/-- Before an eighth is stored, the rows it goes to may be loaded. -/
theorem skip_x {e : Fin 8} (hact : actAt t = .xs e) (ht : t < 275) (hoff : off = ![64 * e.val, 0]) {inb hl} :
    St D K c t ⊢ wp frame (wpE (defs₀ (F := F)) 𝒱₀ c none) Set.univ
      (Prog.lift (.load (Memref.whole cc0_scratch4) (Rect.unit (s := S512x2048) off S64x2048.size inb).toLoadRect hl)) (fun _ => St D K c t) :=
  free_x (does_at hact ht).before hoff

/-- Before a chunk is stored, loading its own part reads the scaled rows. -/
theorem see_x {L : Fin 6} (hact : actAt t = .cs L) (ht : t < 275) (hoff : off = ![64 * L.val + 128 * px c, 0]) {inb hl} :
    St D K c t ⊢ wp frame (wpE (defs₀ (F := F)) 𝒱₀ c none) Set.univ
      (Prog.lift (.load (Memref.whole cc0_scratch4) (Rect.unit (s := S512x2048) off S64x2048.size inb).toLoadRect hl))
      (fun v => iprop(⌜v = blk (xF D c) (64 * L.val + 128 * px c)⌝ ∗ St D K c t)) :=
  ld_x (dn_lt (t_eq hact ht) (by clear * -; revert L c; decide +kernel)) hoff

/-- Before a chunk is stored, loading the other ring's part reads what was received. -/
theorem see_p {L : Fin 6} (hact : actAt t = .cs L) (ht : t < 275) (hoff : off = ![64 * L.val, 0]) {inb hl} :
    St D K c t ⊢ wp frame (wpE (defs₀ (F := F)) 𝒱₀ c none) Set.univ
      (Prog.lift (.load (Memref.whole cc0_scratch2) (Rect.unit (s := S384x2048) off S64x2048.size inb).toLoadRect hl))
      (fun v => iprop(⌜v = blk (pF D c) (64 * L.val)⌝ ∗ St D K c t)) :=
  ld_p (dn_lt (t_eq hact ht) (by clear * -; revert L; decide)) (dn_lt (t_eq hact ht) (by clear * -; revert L; decide)) hoff

/-- Before a chunk is stored, the rows it goes to may be loaded. -/
theorem skip_c {L : Fin 6} (hact : actAt t = .cs L) (ht : t < 275) (hoff : off = ![kRow c L 0, 0]) {inb hl} :
    St D K c t ⊢ wp frame (wpE (defs₀ (F := F)) 𝒱₀ c none) Set.univ
      (Prog.lift (.load (Memref.whole cc0_scratch0) (Rect.unit (s := S4096x2048) off S64x2048.size inb).toLoadRect hl)) (fun _ => St D K c t) :=
  free_c (does_at hact ht).before hoff

/-- Before it is widened, the device's own band is read. -/
theorem see_own (hact : actAt t = .os .own) (ht : t < 275) (hoff : off = ![regRow c .own, 0]) {inb hl} :
    St D K c t ⊢ wp frame (wpE (defs₀ (F := F)) 𝒱₀ c none) Set.univ
      (Prog.lift (.load (Memref.whole cc0_scratch0) (Rect.unit (s := S4096x2048) off S384x2048.size inb).toLoadRect hl))
      (fun v => iprop(⌜v = blk (cF D (px c)) (regRow c .own)⌝ ∗ St D K c t)) :=
  ld_own (fun L => dn_lt (t_eq hact ht) (by clear * -; revert L; decide)) hoff

/-- Before it is widened, the first band of a hop is read. -/
theorem see_a {h : Fin 7} (hact : actAt t = .os (.a h)) (ht : t < 275) (hoff : off = ![regRow c (.a h), 0]) {inb hl} :
    St D K c t ⊢ wp frame (wpE (defs₀ (F := F)) 𝒱₀ c none) Set.univ
      (Prog.lift (.load (Memref.whole cc0_scratch0) (Rect.unit (s := S4096x2048) off S192x2048.size inb).toLoadRect hl))
      (fun v => iprop(⌜v = blk (cF D (px c)) (regRow c (.a h))⌝ ∗ St D K c t)) :=
  ld_a (fun L => dn_lt (t_eq hact ht) (by clear * -; revert L h; decide)) hoff

/-- Before it is widened, the second band of a hop is read. -/
theorem see_b {h : Fin 7} (hact : actAt t = .os (.b h)) (ht : t < 275) (hoff : off = ![regRow c (.b h), 0]) {inb hl} :
    St D K c t ⊢ wp frame (wpE (defs₀ (F := F)) 𝒱₀ c none) Set.univ
      (Prog.lift (.load (Memref.whole cc0_scratch0) (Rect.unit (s := S4096x2048) off S192x2048.size inb).toLoadRect hl))
      (fun v => iprop(⌜v = blk (cF D (px c)) (regRow c (.b h))⌝ ∗ St D K c t)) :=
  ld_b (fun L => dn_lt (t_eq hact ht) (by clear * -; revert L h; decide)) hoff

/-- Before it is widened, a strip's band is read. -/
theorem see_m {s : Fin 8} (hact : actAt t = .os (.m s)) (ht : t < 275) (hoff : off = ![regRow c (.m s), 0]) {inb hl} :
    St D K c t ⊢ wp frame (wpE (defs₀ (F := F)) 𝒱₀ c none) Set.univ
      (Prog.lift (.load (Memref.whole cc0_scratch0) (Rect.unit (s := S4096x2048) off S128x2048.size inb).toLoadRect hl))
      (fun v => iprop(⌜v = blk (cF D (px c)) (regRow c (.m s))⌝ ∗ St D K c t)) :=
  ld_m (dn_lt (t_eq hact ht) (by clear * -; revert s; decide)) (dn_lt (t_eq hact ht) (by clear * -; revert s; decide)) hoff

/-! ## What the stores write -/

/-- A cast to the same shape changes nothing. -/
theorem cast_blk {α : Type} {s : Shape} (x : s.Idx → α) (h : s.ShapeCasts s) : shapeCast s x h = x := by
  funext j
  exact congrArg x (Shape.reshapeEquiv_self _ j)

/-- What is stored of an eighth are the scaled rows. -/
theorem pay_x (e : Fin 8) : k0_pay1 (F := F) (blk (gF D c) (64 * e.val)) (blk (fun r _ => D.val c r) (64 * e.val)) = blk (xF D c) (64 * e.val) := by
  unfold k0_pay1
  simp only [cast_blk]
  rfl

/-- What is stored of a chunk are the summed rows. -/
theorem pay_c (L : Fin 6) : k0_pay10 (F := F) (blk (xF D c) (64 * L.val + 128 * px c)) (blk (pF D c) (64 * L.val)) = blk (cF D (px c)) (kRow c L 0) := by
  unfold k0_pay10
  simp only [cast_blk]
  funext j
  exact sum_rows L _ _ (j 0).isLt

/-- What is stored of the device's own band are the widened rows. -/
theorem pay_own (a : ℕ) : k0_pay16 (F := F) (blk (cF D (px c)) a) = blk (oF D (px c)) a := by
  unfold k0_pay16
  simp only [cast_blk]
  rfl

/-- What is stored of a hop's band are the widened rows. -/
theorem pay_ab (a : ℕ) : k0_pay17 (F := F) (blk (cF D (px c)) a) = blk (oF D (px c)) a := by
  unfold k0_pay17
  simp only [cast_blk]
  rfl

/-- What is stored of a strip's band are the widened rows. -/
theorem pay_m (a : ℕ) : k0_pay19 (F := F) (blk (cF D (px c)) a) = blk (oF D (px c)) a := by
  unfold k0_pay19
  simp only [cast_blk]
  rfl

/-! ## Transfers only some devices make -/

/-- An eighth is sent if it carries a chunk, and passed over if not. -/
theorem cond_p1 {e : Fin 8} (hact : actAt t = .p1 e) (ht : t < 275) {P : Prop} {dec : Decidable P} (hP : P ↔ active c (.p1 e) = true) {α β : Type}
    {p : P → Prog (TpuEff nD τ sig (Elt F) Λ₀ .tc) α} {R : Prog (TpuEff nD τ sig (Elt F) Λ₀ .tc) β} {Q : β → sProp 𝕄}
    (hp : ∀ h : P, ∀ L : Fin 6, e = eOf c L → St D K c t ⊢ wp frame (wpE (defs₀ (F := F)) 𝒱₀ c none) Set.univ (p h) (fun _ => St D K c (t + 1)))
    (hR : St D K c (t + 1) ⊢ wp frame (wpE (defs₀ (F := F)) 𝒱₀ c none) Set.univ R Q) :
    St D K c t ⊢ wp frame (wpE (defs₀ (F := F)) 𝒱₀ c none) Set.univ (if h : P then (p h >>= fun _ => R) else R) Q := by
  by_cases h : P
  · rw [dif_pos h]
    have hL : ∃ L : Fin 6, e = eOf c L := by
      have := hP.mp h
      clear * - this
      revert e c
      decide +kernel
    obtain ⟨L, hL⟩ := hL
    exact seq0 (hp h L hL) fun _ => hR
  · rw [dif_neg h, idle_p1 hact ht (by cases hh : active c (.p1 e) <;> simp_all)]
    exact hR

/-- The wait for an eighth is done if the eighth was sent, and passed over if not. -/
theorem cond_fin {e : Fin 8} (hact : actAt t = .fin (.p1 e)) (ht : t < 275) {P : Prop} {dec : Decidable P} (hP : P ↔ active c (.p1 e) = true) {α β : Type}
    {p : P → Prog (TpuEff nD τ sig (Elt F) Λ₀ .tc) α} {R : Prog (TpuEff nD τ sig (Elt F) Λ₀ .tc) β} {Q : β → sProp 𝕄}
    (hp : ∀ h : P, active c (.p1 e) = true → St D K c t ⊢ wp frame (wpE (defs₀ (F := F)) 𝒱₀ c none) Set.univ (p h) (fun _ => St D K c (t + 1)))
    (hR : St D K c (t + 1) ⊢ wp frame (wpE (defs₀ (F := F)) 𝒱₀ c none) Set.univ R Q) :
    St D K c t ⊢ wp frame (wpE (defs₀ (F := F)) 𝒱₀ c none) Set.univ (if h : P then (p h >>= fun _ => R) else R) Q := by
  by_cases h : P
  · rw [dif_pos h]
    exact seq0 (hp h (hP.mp h)) fun _ => hR
  · rw [dif_neg h, idle_fin hact ht (by cases hh : active c (.p1 e) <;> simp_all)]
    exact hR

/-- Sending an eighth, named by itself, takes a device to its next state. -/
theorem to_p1 {L : Fin 6} {e : Fin 8} (he : e = eOf c L) (hact : actAt t = .p1 e) (ht : t < 275) {c' : Dev nD} {sS sR : DmaSem sig}
    {inb inb' hr hr' hsc h1 h2 h3} (hoff : off = ![64 * e.val, 0]) (hoff' : off' = ![64 * L.val, 0])
    (hc : c' = nb 0 c) (hS : sS = semOf (.s (.p1 e))) (hR : sR = semOf (.r (.p1 L))) :
    St D K c t ⊢ wp frame (wpE (defs₀ (F := F)) 𝒱₀ c none) Set.univ
      (Prog.lift (.enqueueDma ((Memref.whole cc0_scratch4).slice (Rect.unit (s := S512x2048) off S64x2048.size inb) hr)
        (.remote (Dev.tc c') ((Memref.whole cc0_scratch2).slice (Rect.unit (s := S384x2048) off' S64x2048.size inb') hr') (.dma sS) hsc) (.dma sR) h1 h2 h3))
      (fun _ => St D K c (t + 1)) := by
  subst he
  exact step_p1 hact ht hoff hoff' hc hS hR

/-- A semaphore of the transfers between the rings, at a computed place. -/
theorem sem_p1 {o : Fin 1 → ℕ} {L : Fin 6} (h : o = ![L.val]) {inb} {sq : S1.Squeezes S_} :
    ((cc0_scratch7.slice (Rect.unit (s := S6) o S1.size inb)).squeeze S_ sq).sem = semOf (.r (.p1 L)) := by
  subst h
  have key : ∀ (L : Fin 6) (h : ∀ a, (![L.val] : Fin 1 → ℕ) a + S1.size a ≤ S6.size a),
      ((cc0_scratch7.slice (Rect.unit (s := S6) ![L.val] S1.size h)).squeeze S_ squeezes_S1_S_).sem = semOf (.r (.p1 L)) := by decide +kernel
  exact key L inb

/-! ## Gathering -/

/-- A row number below 8192 is a row of the table's block. -/
theorem row_in {o : Fin 2 → ℕ} {v : BitVec 32} (h : o = ![v.toNat, 0]) (hv : v.toNat < 8192) : ∀ a, o a + S1x2048.size a ≤ S8192x2048.size a := by
  subst h
  intro a
  match a with
  | 0 => show v.toNat + 1 ≤ 8192; omega
  | 1 => show 0 + 2048 ≤ 2048; omega

/-! ## Parts of the program -/

/-- A part of the program that takes the device from one step to a later one. -/
theorem part {t' : ℕ} {α β : Type} {p : Prog (TpuEff nD τ sig (Elt F) Λ₀ .tc) α} {k : α → Prog (TpuEff nD τ sig (Elt F) Λ₀ .tc) β} {Q : β → sProp 𝕄}
    (h1 : St D K c t ⊢ wp frame (wpE (defs₀ (F := F)) 𝒱₀ c none) Set.univ p (fun _ => St D K c t'))
    (h2 : ∀ v, St D K c t' ⊢ wp frame (wpE (defs₀ (F := F)) 𝒱₀ c none) Set.univ (k v) Q) :
    St D K c t ⊢ wp frame (wpE (defs₀ (F := F)) 𝒱₀ c none) Set.univ (p >>= k) Q := seq0 h1 h2

/-- What is next to do. -/
theorem next {a : Act} {R : sProp 𝕄} (_ : actAt t = a) (h : St D K c t ⊢ R) : St D K c t ⊢ R := h

/-- A part whose result is known. -/
theorem part_val {t' : ℕ} {α β : Type} {p : Prog (TpuEff nD τ sig (Elt F) Λ₀ .tc) α} {k : α → Prog (TpuEff nD τ sig (Elt F) Λ₀ .tc) β} {Q : β → sProp 𝕄} {v₀ : α}
    (h1 : St D K c t ⊢ wp frame (wpE (defs₀ (F := F)) 𝒱₀ c none) Set.univ p (fun v => iprop(⌜v = v₀⌝ ∗ St D K c t')))
    (h2 : St D K c t' ⊢ wp frame (wpE (defs₀ (F := F)) 𝒱₀ c none) Set.univ (k v₀) Q) :
    St D K c t ⊢ wp frame (wpE (defs₀ (F := F)) 𝒱₀ c none) Set.univ (p >>= k) Q :=
  seq h1 fun v hv => hv ▸ h2

/-- Next is a load from a buffer. -/
theorem on_load {sp : CoreSpace} {s : Shape} {e : EltTy} (m : Memref sig .tc sp s e) {R : LoadRect s} {hl : m.view.LoadsAt R} {β : Type}
    {k : (R.shape.Idx → Elt F e) → Prog (TpuEff nD τ sig (Elt F) Λ₀ .tc) β} {P : sProp 𝕄} {Q : β → sProp 𝕄}
    (h : P ⊢ wp frame (wpE (defs₀ (F := F)) 𝒱₀ c none) Set.univ (Prog.lift (.load m R hl) >>= k) Q) :
    P ⊢ wp frame (wpE (defs₀ (F := F)) 𝒱₀ c none) Set.univ (Prog.lift (.load m R hl) >>= k) Q := h

/-- Next is an operation. -/
theorem on_op {α β : Type} {e : TpuEff nD τ sig (Elt F) Λ₀ .tc α} {k : α → Prog (TpuEff nD τ sig (Elt F) Λ₀ .tc) β} {P : sProp 𝕄} {Q : β → sProp 𝕄}
    (h : P ⊢ wp frame (wpE (defs₀ (F := F)) 𝒱₀ c none) Set.univ (Prog.lift e >>= k) Q) :
    P ⊢ wp frame (wpE (defs₀ (F := F)) 𝒱₀ c none) Set.univ (Prog.lift e >>= k) Q := h

/-- Next is a store to a buffer. -/
theorem on_store {sp : CoreSpace} {s : Shape} {e : EltTy} (m : Memref sig .tc sp s e) {r : Rect s} {w : r.shape.Idx → Elt F e} {M : Finset r.shape.Idx} {hx hm} {β : Type}
    {k : PUnit → Prog (TpuEff nD τ sig (Elt F) Λ₀ .tc) β} {P : sProp 𝕄} {Q : β → sProp 𝕄}
    (h : P ⊢ wp frame (wpE (defs₀ (F := F)) 𝒱₀ c none) Set.univ (Prog.lift (.store m r w M hx hm) >>= k) Q) :
    P ⊢ wp frame (wpE (defs₀ (F := F)) 𝒱₀ c none) Set.univ (Prog.lift (.store m r w M hx hm) >>= k) Q := h

/-- A part may end with an operation. -/
theorem last {α : Type} {p : Prog (TpuEff nD τ sig (Elt F) Λ₀ .tc) α} {P : sProp 𝕄} {Q : α → sProp 𝕄}
    (h : P ⊢ wp frame (wpE (defs₀ (F := F)) 𝒱₀ c none) Set.univ (p >>= fun v => Prog.ret v) Q) :
    P ⊢ wp frame (wpE (defs₀ (F := F)) 𝒱₀ c none) Set.univ p Q := by
  rw [← Prog.bind_pure p]
  exact h

/-- A program that ends with one operation. -/
theorem last_op {α : Type} {e : TpuEff nD τ sig (Elt F) Λ₀ .tc α} {P : sProp 𝕄} {Q : α → sProp 𝕄}
    (h : P ⊢ wp frame (wpE (defs₀ (F := F)) 𝒱₀ c none) Set.univ (Prog.lift e >>= fun v => Prog.ret v) Q) :
    P ⊢ wp frame (wpE (defs₀ (F := F)) 𝒱₀ c none) Set.univ (Prog.lift e) Q := last h

/-- A returned value is the one returned. -/
theorem ret_val {β : Type} {v : β} {P : sProp 𝕄} :
    P ⊢ wp frame (wpE (defs₀ (F := F)) 𝒱₀ c none) Set.univ (Prog.ret v) (fun v' => iprop(⌜v' = v⌝ ∗ P)) := fin_pure rfl

/-- A return asks for nothing more than what holds. -/
theorem ret_any {β : Type} {v : β} {P : sProp 𝕄} :
    P ⊢ wp frame (wpE (defs₀ (F := F)) 𝒱₀ c none) Set.univ (Prog.ret v) (fun _ => P) := fin_pure0

/-- What holds of all pairs holds of each packed pair. -/
theorem all_pair {α : Type} {β : α → Type} {P : PSigma β → Prop} (h : ∀ a b, P ⟨a, b⟩) : ∀ v, P v := fun ⟨a, b⟩ => h a b

/-- The device learns its own number. -/
theorem ask : St D K c t ⊢ wp frame (wpE (defs₀ (F := F)) 𝒱₀ c none) Set.univ (Prog.lift .deviceId : Prog (TpuEff nD τ sig (Elt F) Λ₀ .tc) (Dev nD))
    (fun v => iprop(⌜v = c⌝ ∗ St D K c t)) := by
  rw [show (Prog.lift .deviceId : Prog (TpuEff nD τ sig (Elt F) Λ₀ .tc) (Dev nD)) = .op .deviceId .ret from rfl, wp_deviceId, wp_ret]
  iintro HS
  imodintro
  isplitr
  · ipureintro; rfl
  · iexact HS

end Cert.KernelIdeal.Talk

end

end
-- ==== Proof.Body.lean ====
module

public import proofs.«01_k».proof.Proof.Walk

/-! The whole program of a device, walked through operation by operation. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

variable {D : Data F} {K : GSem nD τ sig → ℕ} {c : Dev nD}

set_option maxRecDepth 65536 in
set_option maxHeartbeats 40000000 in
/-- The program of a device takes it through all its acts, in order. -/
theorem body_steps (hD : ∀ c r, (D.idx c r).toNat < 8192) : ∃ t, (St D K c 0 ⊢ wp frame (wpE (defs₀ (F := F)) 𝒱₀ c none) Set.univ
    (cc0_body (F := F) (Memref.whole main_arg1) (Memref.isWhole_whole _) (Memref.whole cc0_stg0_0) (Memref.isWhole_whole _) (Memref.whole cc0_stg1_0) (Memref.isWhole_whole _)
      (Memref.whole main_v32) (Memref.isWhole_whole _) (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9 cc0_scratch10 cc0_scratch11
      cc0_scratch12 cc0_scratch13 cc0_scratch14) (fun _ => St D K c t)) ∧ t = 275 := by
  apply Exists.intro
  apply And.intro
  rw [cc0_body_eq_skeleton]
  dsimp only [cc0_body_skel]
  apply seq (Φ := fun v => v.1 = c)
  case' h2 =>
    rintro ⟨d, w2, w5, w8, w11, w13, w26, w29, w42, w45, w46, w1955⟩ hd
    obtain rfl : c = d := hd.symm
    dsimp only
  case' h1 =>
    rw [k0_part104_eq_skeleton]
    dsimp only [k0_part104_skel]
    refine seq (Φ := fun v => v.1 = c) (R := St D K c 0) ?one ?others
    case one =>
      rw [k0_part1_eq_skeleton]
      dsimp only [k0_part1_skel]
      refine seq ask ?_
      rintro _ rfl
      exact fin_pure rfl
    rintro ⟨d, w2, w5, w8, w11, w13, w26, w29, w30, w32⟩ hd
    obtain rfl : c = d := hd.symm
    dsimp only
  repeat' first
      | with_reducible exact fin_pure0
      | with_reducible exact fin_pure rfl
      | with_reducible exact ret_any
      | with_reducible exact ret_val
      | (apply part_val; case' h1 => (simp only [k0_part3_eq_skeleton, k0_part5_eq_skeleton, k0_part58_eq_skeleton]; dsimp only [k0_part3_skel, k0_part5_skel, k0_part58_skel]))
      | (apply part; (case' h2 => intro _); case' h1 => (simp only [k0_part2_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part105_eq_skeleton]; dsimp only [k0_part2_skel, k0_part4_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part59_skel, k0_part60_skel, k0_part61_skel, k0_part62_skel, k0_part63_skel, k0_part64_skel, k0_part65_skel, k0_part66_skel, k0_part67_skel, k0_part68_skel, k0_part69_skel, k0_part70_skel, k0_part71_skel, k0_part72_skel, k0_part73_skel, k0_part74_skel, k0_part75_skel, k0_part76_skel, k0_part77_skel, k0_part78_skel, k0_part79_skel, k0_part80_skel, k0_part81_skel, k0_part82_skel, k0_part83_skel, k0_part84_skel, k0_part85_skel, k0_part86_skel, k0_part87_skel, k0_part88_skel, k0_part89_skel, k0_part90_skel, k0_part91_skel, k0_part92_skel, k0_part93_skel, k0_part94_skel, k0_part95_skel, k0_part96_skel, k0_part97_skel, k0_part98_skel, k0_part99_skel, k0_part100_skel, k0_part101_skel, k0_part102_skel, k0_part103_skel, k0_part105_skel]))
      | with_reducible refine last_op ?_
      | (refine next (show actAt _ = Act.gI _ from rfl) ?_; refine seq0 (loop_gI rfl (by decide) hD rfl (by decide +kernel) (by decide +kernel) (fun _ => rfl) (fun _ h => row_in rfl h) rfl) fun _ => ?_)
      | (refine next (show actAt _ = Act.gW _ from rfl) ?_; refine seq0 (loop_gW rfl (by decide) rfl rfl rfl) fun _ => ?_)
      | (refine next (show actAt _ = Act.sig _ from rfl) ?_; refine seq0 (step_sig rfl (by decide) (by clear * - c; revert c; decide +kernel) rfl) fun _ => ?_)
      | (refine next (show actAt _ = Act.bar from rfl) ?_; refine seq0 (step_bar rfl (by decide) rfl) fun _ => ?_)
      | (refine next (show actAt _ = Act.wr (.ring _ _) from rfl) ?_; refine seq0 (step_wr_ring rfl (by decide) rfl rfl) fun _ => ?_)
      | (refine next (show actAt _ = Act.wr (.p1 _) from rfl) ?_; refine seq0 (step_wr_p1 rfl (by decide) rfl rfl) fun _ => ?_)
      | (refine next (show actAt _ = Act.wr (.mir _) from rfl) ?_; refine seq0 (step_wr_mir rfl (by decide) rfl rfl) fun _ => ?_)
      | (refine next (show actAt _ = Act.hop _ _ from rfl) ?_; refine seq0 (step_hop rfl (by decide) (by clear * - c; revert c; decide +kernel) (by clear * - c; revert c; decide +kernel) (by clear * - c; revert c; decide +kernel) rfl rfl) fun _ => ?_)
      | (refine next (show actAt _ = Act.ms _ from rfl) ?_; refine seq0 (step_ms rfl (by decide) (by clear * - c; revert c; decide +kernel) (by clear * - c; revert c; decide +kernel) (by clear * - c; revert c; decide +kernel) rfl rfl) fun _ => ?_)
      | (refine next (show actAt _ = Act.p1 _ from rfl) ?_; refine cond_p1 rfl (by decide) (by clear * - c; revert c; decide +kernel) ?_ ?_; focus (intro h L hL; exact to_p1 hL rfl (by decide) (by decide +kernel) (by clear * - c L hL; revert c L; decide +kernel) (by clear * - c h; revert c; decide +kernel) rfl (sem_p1 (by clear * - c L hL; revert c L; decide +kernel))))
      | (refine next (show actAt _ = Act.xs _ from rfl) ?_; first
          | (with_reducible refine on_load (Memref.whole cc0_scratch3) ?_; refine seq (see_g rfl (by decide) (by decide +kernel)) ?_; rintro _ rfl)
          | (with_reducible refine on_load (Memref.whole cc0_stg1_0) ?_; refine seq (see_v rfl (by decide +kernel)) ?_; rintro _ rfl)
          | (with_reducible refine on_load (Memref.whole cc0_scratch4) ?_; refine seq0 (skip_x rfl (by decide) (by decide +kernel)) fun _ => ?_)
          | (with_reducible refine on_store (Memref.whole cc0_scratch4) ?_; refine seq0 (step_xs rfl (by decide) (by decide +kernel) (pay_x _)) fun _ => ?_))
      | (refine next (show actAt _ = Act.cs _ from rfl) ?_; first
          | (with_reducible refine on_load (Memref.whole cc0_scratch4) ?_; refine seq (see_x rfl (by decide) (by clear * - c; revert c; decide +kernel)) ?_; rintro _ rfl)
          | (with_reducible refine on_load (Memref.whole cc0_scratch2) ?_; refine seq (see_p rfl (by decide) (by clear * - c; revert c; decide +kernel)) ?_; rintro _ rfl)
          | (with_reducible refine on_load (Memref.whole cc0_scratch0) ?_; refine seq0 (skip_c rfl (by decide) (by clear * - c; revert c; decide +kernel)) fun _ => ?_)
          | (with_reducible refine on_store (Memref.whole cc0_scratch0) ?_; refine seq0 (step_cs rfl (by decide) (by clear * - c; revert c; decide +kernel) (pay_c _)) fun _ => ?_))
      | (refine next (show actAt _ = Act.os .own from rfl) ?_; first
          | (with_reducible refine on_load (Memref.whole cc0_scratch0) ?_; refine seq (see_own rfl (by decide) (by clear * - c; revert c; decide +kernel)) ?_; rintro _ rfl)
          | (with_reducible refine on_load (Memref.whole cc0_scratch1) ?_; refine seq0 (free_o (r := .own) rfl (by decide) rfl (by clear * - c; revert c; decide +kernel)) fun _ => ?_)
          | (with_reducible refine on_store (Memref.whole cc0_scratch1) ?_; refine seq0 (step_os (r := .own) rfl (by decide) rfl (by clear * - c; revert c; decide +kernel) (pay_own _)) fun _ => ?_))
      | (refine next (show actAt _ = Act.os (.a _) from rfl) ?_; first
          | (with_reducible refine on_load (Memref.whole cc0_scratch0) ?_; refine seq (see_a rfl (by decide) (by clear * - c; revert c; decide +kernel)) ?_; rintro _ rfl)
          | (with_reducible refine on_load (Memref.whole cc0_scratch1) ?_; refine seq0 (free_o (r := .a _) rfl (by decide) rfl (by clear * - c; revert c; decide +kernel)) fun _ => ?_)
          | (with_reducible refine on_store (Memref.whole cc0_scratch1) ?_; refine seq0 (step_os (r := .a _) rfl (by decide) rfl (by clear * - c; revert c; decide +kernel) (pay_ab _)) fun _ => ?_))
      | (refine next (show actAt _ = Act.os (.b _) from rfl) ?_; first
          | (with_reducible refine on_load (Memref.whole cc0_scratch0) ?_; refine seq (see_b rfl (by decide) (by clear * - c; revert c; decide +kernel)) ?_; rintro _ rfl)
          | (with_reducible refine on_load (Memref.whole cc0_scratch1) ?_; refine seq0 (free_o (r := .b _) rfl (by decide) rfl (by clear * - c; revert c; decide +kernel)) fun _ => ?_)
          | (with_reducible refine on_store (Memref.whole cc0_scratch1) ?_; refine seq0 (step_os (r := .b _) rfl (by decide) rfl (by clear * - c; revert c; decide +kernel) (pay_ab _)) fun _ => ?_))
      | (refine next (show actAt _ = Act.os (.m _) from rfl) ?_; first
          | (with_reducible refine on_load (Memref.whole cc0_scratch0) ?_; refine seq (see_m rfl (by decide) (by clear * - c; revert c; decide +kernel)) ?_; rintro _ rfl)
          | (with_reducible refine on_load (Memref.whole cc0_scratch1) ?_; refine seq0 (free_o (r := .m _) rfl (by decide) rfl (by clear * - c; revert c; decide +kernel)) fun _ => ?_)
          | (with_reducible refine on_store (Memref.whole cc0_scratch1) ?_; refine seq0 (step_os (r := .m _) rfl (by decide) rfl (by clear * - c; revert c; decide +kernel) (pay_m _)) fun _ => ?_))
      | (refine next (show actAt _ = Act.oe .own from rfl) ?_; refine seq0 (step_oe (r := .own) rfl (by decide) rfl (by clear * - c; revert c; decide +kernel) (by clear * - c; revert c; decide +kernel) rfl rfl) fun _ => ?_)
      | (refine next (show actAt _ = Act.oe (.a _) from rfl) ?_; refine seq0 (step_oe (r := .a _) rfl (by decide) rfl (by clear * - c; revert c; decide +kernel) (by clear * - c; revert c; decide +kernel) rfl rfl) fun _ => ?_)
      | (refine next (show actAt _ = Act.oe (.b _) from rfl) ?_; refine seq0 (step_oe (r := .b _) rfl (by decide) rfl (by clear * - c; revert c; decide +kernel) (by clear * - c; revert c; decide +kernel) rfl rfl) fun _ => ?_)
      | (refine next (show actAt _ = Act.oe (.m _) from rfl) ?_; refine seq0 (step_oe (r := .m _) rfl (by decide) rfl (by clear * - c; revert c; decide +kernel) (by clear * - c; revert c; decide +kernel) rfl rfl) fun _ => ?_)
      | (refine next (show actAt _ = Act.fin (.ring _ _) from rfl) ?_; refine seq0 (step_fin_ring rfl (by decide) rfl rfl) fun _ => ?_)
      | (refine next (show actAt _ = Act.fin (.mir _) from rfl) ?_; refine seq0 (step_fin_mir rfl (by decide) rfl rfl) fun _ => ?_)
      | (refine next (show actAt _ = Act.fin (.out _) from rfl) ?_; refine seq0 (step_fin_out rfl (by decide) rfl rfl) fun _ => ?_)
      | (refine next (show actAt _ = Act.fin (.p1 _) from rfl) ?_; refine cond_fin rfl (by decide) (by clear * - c; revert c; decide +kernel) ?_ ?_; focus (intro h ha; exact step_fin_p1 ha rfl (by decide) rfl rfl))
  rfl

end Cert.KernelIdeal.Talk

end

end
-- ==== Proof.Parts.lean ====
module

public import proofs.«01_k».proof.Proof.Body

/-! The bands a device's buffers are cut in, and put together from, at the two ends of the program. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

variable {D : Data F} {c : Dev nD}

/-! ## Bands -/

/-- Bands that meet nowhere and reach everywhere are the whole buffer. -/
theorem rows_cover {ι : Type} [Fintype ι] [DecidableEq ι] {R W : ℕ} (T : ℕ) (hT : R = 64 * T) (a n : ι → ℕ)
    (hc : ∀ t : Fin T, ∃ i, a i ≤ 64 * t.val ∧ 64 * t.val + 64 ≤ a i + n i) :
    (Finset.univ : Finset (Shape.Idx ⟨2, ![R, W]⟩)) = Finset.univ.biUnion fun i => rows R W (a i) (n i) := by
  ext x
  simp only [Finset.mem_univ, Finset.mem_biUnion, mem_rows, true_and, true_iff]
  have h0 : (x 0).val < R := by have := (x 0).isLt; simpa using this
  obtain ⟨i, h1, h2⟩ := hc ⟨(x 0).val / 64, by omega⟩
  dsimp only at h1 h2
  exact ⟨i, by omega, by omega⟩

/-- Bands that do not overlap share no element. -/
theorem rows_apart {ι : Type} [Fintype ι] {R W : ℕ} (a n : ι → ℕ)
    (hd : ∀ i j, i ≠ j → a i + n i ≤ a j ∨ a j + n j ≤ a i) :
    ∀ i ∈ (Finset.univ : Finset ι), ∀ j ∈ (Finset.univ : Finset ι), i ≠ j → Disjoint (rows R W (a i) (n i)) (rows R W (a j) (n j)) :=
  fun i _ j _ h => rows_disjoint (hd i j h)

/-- The chunks and strips as a device starts: its own chunks, what comes around its ring, what comes from the other. -/
abbrev Start : Type := Fin 6 ⊕ (Fin 6 × Fin 7) ⊕ Fin 8
/-- The first row of a part, as a device starts. -/
def stA (c : Dev nD) : Start → ℕ
  | .inl L => kRow c L 0
  | .inr (.inl p) => kRow c p.1 (p.2.val + 1)
  | .inr (.inr s) => mRow (nb 0 c) s.val
/-- How many rows a part has, as a device starts. -/
def stN : Start → ℕ
  | .inl _ => 64
  | .inr (.inl _) => 64
  | .inr (.inr _) => 128

/-- The chunks and strips as a device ends. -/
abbrev Done : Type := (Fin 6 × Fin 8) ⊕ Fin 8
/-- The first row of a part, as a device ends. -/
def doA (c : Dev nD) : Done → ℕ
  | .inl p => kRow c p.1 p.2.val
  | .inr s => mRow (nb 0 c) s.val
/-- How many rows a part has, as a device ends. -/
def doN : Done → ℕ
  | .inl _ => 64
  | .inr _ => 128

/-- The parts at the start do not overlap. -/
theorem start_apart : ∀ (c : Dev nD) (i j : Start), i ≠ j → stA c i + stN i ≤ stA c j ∨ stA c j + stN j ≤ stA c i := by decide +kernel
/-- The parts at the start cover all rows. -/
theorem start_cover : ∀ (c : Dev nD) (t : Fin 64), ∃ i, stA c i ≤ 64 * t.val ∧ 64 * t.val + 64 ≤ stA c i + stN i := by decide +kernel
/-- The parts at the end do not overlap. -/
theorem done_apart : ∀ (c : Dev nD) (i j : Done), i ≠ j → doA c i + doN i ≤ doA c j ∨ doA c j + doN j ≤ doA c i := by decide +kernel
/-- The parts at the end cover all rows. -/
theorem done_cover : ∀ (c : Dev nD) (t : Fin 64), ∃ i, doA c i ≤ 64 * t.val ∧ 64 * t.val + 64 ≤ doA c i + doN i := by decide +kernel
/-- The bands of the result do not overlap. -/
theorem reg_apart : ∀ (c : Dev nD) (i j : Reg), i ≠ j → regRow c i + regLen i ≤ regRow c j ∨ regRow c j + regLen j ≤ regRow c i := by decide +kernel
/-- The bands of the result cover all rows. -/
theorem reg_cover : ∀ (c : Dev nD) (t : Fin 64), ∃ i, regRow c i ≤ 64 * t.val ∧ 64 * t.val + 64 ≤ regRow c i + regLen i := by decide +kernel

section Buffers

variable (c : Dev nD) (q : PosShare TreeShare)

/-- The summed rows, cut into the parts at the start. -/
theorem c_start (f : ℕ → ℕ → Elt F .bf16) : ((((c : Thread nD τ).loc cc0_scratch0) ↦{q} grid f : sProp 𝕄))
    = bigSep Finset.univ fun i : Start => cP c (stA c i) (stN i) q f :=
  (congrArg (fun S => (((c : Thread nD τ).loc cc0_scratch0) ↦[S]{q} grid f : sProp 𝕄))
    (rows_cover 64 rfl (stA c) stN (start_cover c))).trans (pointsTo_biUnion _ _ (rows_apart _ _ (start_apart c)))
/-- The summed rows, cut into the parts at the end. -/
theorem c_done (f : ℕ → ℕ → Elt F .bf16) : ((((c : Thread nD τ).loc cc0_scratch0) ↦{q} grid f : sProp 𝕄))
    = bigSep Finset.univ fun i : Done => cP c (doA c i) (doN i) q f :=
  (congrArg (fun S => (((c : Thread nD τ).loc cc0_scratch0) ↦[S]{q} grid f : sProp 𝕄))
    (rows_cover 64 rfl (doA c) doN (done_cover c))).trans (pointsTo_biUnion _ _ (rows_apart _ _ (done_apart c)))
/-- The widened rows, cut into bands. -/
theorem o_regs (f : ℕ → ℕ → Elt F .f32) : ((((c : Thread nD τ).loc cc0_scratch1) ↦{q} grid f : sProp 𝕄))
    = bigSep Finset.univ fun r : Reg => oP c (regRow c r) (regLen r) q f :=
  (congrArg (fun S => (((c : Thread nD τ).loc cc0_scratch1) ↦[S]{q} grid f : sProp 𝕄))
    (rows_cover 64 rfl (regRow c) regLen (reg_cover c))).trans (pointsTo_biUnion _ _ (rows_apart _ _ (reg_apart c)))
/-- The result, cut into bands. -/
theorem h_regs (f : ℕ → ℕ → Elt F .f32) : ((((c : Thread nD τ).loc main_v32) ↦{q} grid f : sProp 𝕄))
    = bigSep Finset.univ fun r : Reg => hP c (regRow c r) (regLen r) q f :=
  (congrArg (fun S => (((c : Thread nD τ).loc main_v32) ↦[S]{q} grid f : sProp 𝕄))
    (rows_cover 64 rfl (regRow c) regLen (reg_cover c))).trans (pointsTo_biUnion _ _ (rows_apart _ _ (reg_apart c)))
/-- The rows from the other ring, cut into eighths. -/
theorem p_parts (f : ℕ → ℕ → Elt F .bf16) : ((((c : Thread nD τ).loc cc0_scratch2) ↦{q} grid f : sProp 𝕄))
    = bigSep Finset.univ fun L : Fin 6 => pP c (64 * L.val) 64 q f :=
  (congrArg (fun S => (((c : Thread nD τ).loc cc0_scratch2) ↦[S]{q} grid f : sProp 𝕄))
    (rows_cover 6 rfl (fun L : Fin 6 => 64 * L.val) (fun _ => 64) (by decide))).trans
    (pointsTo_biUnion _ _ (rows_apart (fun L : Fin 6 => 64 * L.val) (fun _ => 64) (by decide)))
/-- The gathered rows, cut into eighths. -/
theorem g_parts (f : ℕ → ℕ → Elt F .f32) : ((((c : Thread nD τ).loc cc0_scratch3) ↦{q} grid f : sProp 𝕄))
    = bigSep Finset.univ fun e : Fin 8 => gP c (64 * e.val) 64 q f :=
  (congrArg (fun S => (((c : Thread nD τ).loc cc0_scratch3) ↦[S]{q} grid f : sProp 𝕄))
    (rows_cover 8 rfl (fun e : Fin 8 => 64 * e.val) (fun _ => 64) (by decide))).trans
    (pointsTo_biUnion _ _ (rows_apart (fun e : Fin 8 => 64 * e.val) (fun _ => 64) (by decide)))
/-- The scaled rows, cut into eighths. -/
theorem x_parts (f : ℕ → ℕ → Elt F .bf16) : ((((c : Thread nD τ).loc cc0_scratch4) ↦{q} grid f : sProp 𝕄))
    = bigSep Finset.univ fun e : Fin 8 => xP c (64 * e.val) 64 q f :=
  (congrArg (fun S => (((c : Thread nD τ).loc cc0_scratch4) ↦[S]{q} grid f : sProp 𝕄))
    (rows_cover 8 rfl (fun e : Fin 8 => 64 * e.val) (fun _ => 64) (by decide))).trans
    (pointsTo_biUnion _ _ (rows_apart (fun e : Fin 8 => 64 * e.val) (fun _ => 64) (by decide)))

/-- The table, whole, is the shares the copies of its rows read under. -/
theorem e_parts (f : ℕ → ℕ → Elt F .f32) : ((((c : Thread nD τ).loc main_arg1) ↦{fullShare} grid f : sProp 𝕄))
    = bigSep Finset.univ fun e : Fin 8 => bigSep (Finset.range 64) fun i => eP c 0 8192 (qE e i) f := by
  have h0 : ((((c : Thread nD τ).loc main_arg1) ↦{fullShare} grid f : sProp 𝕄)) = eP c 0 8192 fullShare f := by
    unfold eP
    exact congrArg (fun S => (((c : Thread nD τ).loc main_arg1) ↦[S]{fullShare} grid f : sProp 𝕄)) (rows_all 8192 2048).symm
  rw [h0]
  refine (pointsTo_leaves (ℓ := (c : Thread nD τ).loc main_arg1) (rows 8192 2048 0 8192) (grid f) 3 fullShare).trans ?_
  refine bigSep_congr fun e _ => ?_
  refine (pointsTo_leaves (ℓ := (c : Thread nD τ).loc main_arg1) (rows 8192 2048 0 8192) (grid f) 6 (leaf 3 fullShare e)).trans ?_
  rw [show (Finset.range 64) = (Finset.univ : Finset (Fin (2 ^ 6))).map Fin.valEmbedding from by
    rw [Fin.map_valEmbedding_univ, Nat.Iio_eq_range]; rfl, bigSep_map]
  refine bigSep_congr fun i _ => ?_
  show _ = eP c 0 8192 (leaf 6 (leaf 3 fullShare e) (Fin.ofNat 64 i.val)) f
  rw [show (Fin.ofNat 64 i.val : Fin 64) = i from Fin.ext (Nat.mod_eq_of_lt i.isLt)]

end Buffers

/-! ## The kinds of pieces -/

/-- The pieces, kind by kind. -/
def itemEquiv : (Cell ⊕ RC ⊕ RC ⊕ (Fin 6 × Fin 8) ⊕ Fin 8 ⊕ Reg ⊕ Fin 8 ⊕ Fin 3 ⊕ Unit ⊕ Unit) ≃ Item where
  toFun := Sum.elim .cell (Sum.elim .to (Sum.elim .inn (Sum.elim (fun p => .k p.1 p.2) (Sum.elim .x (Sum.elim .o (Sum.elim .gb
    (Sum.elim .sg (Sum.elim (fun _ => .cst) fun _ => .barr))))))))
  invFun
    | .cell x => .inl x | .to x => .inr (.inl x) | .inn x => .inr (.inr (.inl x)) | .k L h => .inr (.inr (.inr (.inl (L, h))))
    | .x e => .inr (.inr (.inr (.inr (.inl e)))) | .o r => .inr (.inr (.inr (.inr (.inr (.inl r)))))
    | .gb e => .inr (.inr (.inr (.inr (.inr (.inr (.inl e)))))) | .sg j => .inr (.inr (.inr (.inr (.inr (.inr (.inr (.inl j)))))))
    | .cst => .inr (.inr (.inr (.inr (.inr (.inr (.inr (.inr (.inl ()))))))))
    | .barr => .inr (.inr (.inr (.inr (.inr (.inr (.inr (.inr (.inr ()))))))))
  left_inv := by rintro (_ | _ | _ | _ | _ | _ | _ | _ | _ | _) <;> rfl
  right_inv := by rintro (_ | _ | _ | _ | _ | _ | _ | _ | _ | _) <;> rfl

/-- The semaphores, kind by kind. -/
def cellEquiv : (Fin 8 ⊕ SC ⊕ RC) ≃ Cell where
  toFun := Sum.elim .g (Sum.elim .s .r)
  invFun | .g e => .inl e | .s x => .inr (.inl x) | .r x => .inr (.inr x)
  left_inv := by rintro (_ | _ | _) <;> rfl
  right_inv := by rintro (_ | _ | _) <;> rfl

/-- The received transfers, kind by kind. -/
def rcEquiv : (Fin 6 ⊕ (Fin 6 × Fin 7) ⊕ Fin 8) ≃ RC where
  toFun := Sum.elim .p1 (Sum.elim (fun p => .ring p.1 p.2) .mir)
  invFun | .p1 L => .inl L | .ring L h => .inr (.inl (L, h)) | .mir s => .inr (.inr s)
  left_inv := by rintro (_ | _ | _) <;> rfl
  right_inv := by rintro (_ | _ | _) <;> rfl

/-- A single piece is all there is. -/
theorem one_piece (Φ : Unit → sProp 𝕄) : bigSep Finset.univ Φ = Φ () := bigSep_univ_of_subsingleton ()

/-- All pieces are those of each kind. -/
theorem all_items (Φ : Item → sProp 𝕄) : bigSep Finset.univ Φ
    = iprop((bigSep Finset.univ fun x => Φ (.cell x)) ∗ (bigSep Finset.univ fun x => Φ (.to x)) ∗ (bigSep Finset.univ fun x => Φ (.inn x))
      ∗ (bigSep Finset.univ fun p : Fin 6 × Fin 8 => Φ (.k p.1 p.2)) ∗ (bigSep Finset.univ fun e => Φ (.x e)) ∗ (bigSep Finset.univ fun r => Φ (.o r))
      ∗ (bigSep Finset.univ fun e => Φ (.gb e)) ∗ (bigSep Finset.univ fun j => Φ (.sg j)) ∗ Φ .cst ∗ Φ .barr) := by
  rw [bigSep_univ_equiv itemEquiv Φ]
  simp only [bigSep_univ_sum, one_piece]
  rfl

/-- All semaphores are those of each kind. -/
theorem all_cells (Φ : Cell → sProp 𝕄) : bigSep Finset.univ Φ
    = iprop((bigSep Finset.univ fun e => Φ (.g e)) ∗ (bigSep Finset.univ fun x => Φ (.s x)) ∗ (bigSep Finset.univ fun x => Φ (.r x))) := by
  rw [bigSep_univ_equiv cellEquiv Φ]
  simp only [bigSep_univ_sum]
  rfl

/-- All received transfers are those of each kind. -/
theorem all_rcs (Φ : RC → sProp 𝕄) : bigSep Finset.univ Φ
    = iprop((bigSep Finset.univ fun L => Φ (.p1 L)) ∗ (bigSep Finset.univ fun p : Fin 6 × Fin 7 => Φ (.ring p.1 p.2))
      ∗ (bigSep Finset.univ fun s => Φ (.mir s))) := by
  rw [bigSep_univ_equiv rcEquiv Φ]
  simp only [bigSep_univ_sum]
  rfl

end Cert.KernelIdeal.Talk
end
end
-- ==== Proof.Ends.lean ====
module

public import proofs.«01_k».proof.Proof.Parts

/-! What a device starts the program with and what it ends it with, as its buffers and semaphores. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]

local notation "𝕄" => MT nD τ sig Unit (Elt F) ℕ UU ℕ

/-- Any contents are given by row and column numbers. -/
theorem exists_grid {α : Type} [h : Nonempty α] {R W : ℕ} (f : Shape.Idx ⟨2, ![R, W]⟩ → α) : ∃ g : ℕ → ℕ → α, grid g = f := by
  haveI : Inhabited α := ⟨h.some⟩
  exact ⟨ungrid f, grid_ungrid f⟩

/-- At the start nothing has been done. -/
theorem dn_zero (a : Act) : dn 0 a = false := by simp [dn]

/-- At the end everything has been done. -/
theorem dn_end {a : Act} (h : a ≠ .none) : dn 275 a = true := by
  unfold dn
  rw [decide_eq_true_eq]
  rcases a with e | j | _ | e | e | e | L | ⟨L, k⟩ | s | (_ | k | k | s) | (_ | k | k | s) | (L | ⟨L, k⟩ | s)
    | (e | ⟨L, k⟩ | s | (_ | k | k | s)) | _
  all_goals first
    | exact absurd rfl h
    | (clear h; decide)
    | (clear h; revert e; decide)
    | (clear h; revert j; decide)
    | (clear h; revert L; decide)
    | (clear h; revert s; decide)
    | (clear h; revert k; decide)
    | (clear h; revert L k; decide)

variable (D : Data F) (c : Dev nD)

/-- What a device holds, but for the rows it is given and their factors. -/
def Rest (d : Act → Bool) : sProp 𝕄 :=
  iprop((bigSep Finset.univ fun x => st D c d (.cell x)) ∗ (bigSep Finset.univ fun x => st D c d (.to x)) ∗ (bigSep Finset.univ fun x => st D c d (.inn x))
      ∗ (bigSep Finset.univ fun p : Fin 6 × Fin 8 => st D c d (.k p.1 p.2)) ∗ (bigSep Finset.univ fun e => st D c d (.x e))
      ∗ (bigSep Finset.univ fun r => st D c d (.o r)) ∗ (bigSep Finset.univ fun e => st D c d (.gb e)) ∗ (bigSep Finset.univ fun j => st D c d (.sg j))
      ∗ st D c d .barr)

/-- What a device holds: the two staged arrays, and the rest. -/
theorem all_rest (d : Act → Bool) : (All D c d : sProp 𝕄) ⊣⊢ iprop(Rest D c d ∗ st D c d .cst) := by
  unfold All Rest
  rw [all_items]
  isplit
  · iintro ⟨H1, H2, H3, H4, H5, H6, H7, H8, H9, H10⟩
    isplitr [H9]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H10
    · iexact H9
  · iintro ⟨⟨H1, H2, H3, H4, H5, H6, H7, H8, H10⟩, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-! ## The start -/

/-- The tokens and credits a device starts with. -/
def Seeds : sProp 𝕄 :=
  iprop((bigSep Finset.univ fun e : Fin 8 => iprop(atPos ER (gc c (.g e)) 0 ∅ 0 ∗ bigSep (Finset.range 64) fun i => dutyTok ER (gc c (.g e)) 0 i))
    ∗ (bigSep Finset.univ fun y : SC => if active c y then iprop(atPos ER (gc c (.s y)) 0 ∅ 0 ∗ dutyTok ER (gc c (.s y)) 0 0) else semVal (gc c (.s y)) 0)
    ∗ (bigSep Finset.univ fun y : RC => iprop(atPos ER (gc c (.r y)) 0 ∅ 0 ∗ cred (tallyAt (gc c (.r y)) () (amt (.r y)))))
    ∗ (bigSep Finset.univ fun y : RC => dutyTok ER (gc (tgt y c) (.r y)) 0 0)
    ∗ (bigSep Finset.univ fun j : Fin 3 => dutyTok ER (bc (nb j c)) 0 (opp j))
    ∗ atPos ER (bc c) 0 ∅ 0 ∗ cred (tallyAt (bc c) () 3))

/-- The scratch buffers of a device, at contents not chosen. -/
def Scr : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ ∃ f, ((c : Thread nD τ).loc cc0_scratch4) ↦{fullShare} f)

/-- At the start, the rows a transfer will land in are the device's own. -/
theorem rc_inn0 (y : RC) : st D c (dn 0) (.inn y) = spare (F := F) c y := by
  simp only [st, dn_zero, Bool.false_eq_true, ↓reduceIte]

/-- The buffers of summed and received rows make up the pieces of the transfers and the chunks. -/
theorem c_spare (f : ℕ → ℕ → Elt F .bf16) : iprop((((c : Thread nD τ).loc cc0_scratch0) ↦{fullShare} grid f) ∗ (∃ g, ((c : Thread nD τ).loc cc0_scratch2) ↦{fullShare} (grid g : Shape.Idx ⟨2, ![384, 2048]⟩ → Elt F .bf16)))
    ⊢ (iprop((bigSep Finset.univ fun x => st D c (dn 0) (.inn x)) ∗ bigSep Finset.univ fun p : Fin 6 × Fin 8 => st D c (dn 0) (.k p.1 p.2)) : sProp 𝕄) := by
  have hk : (bigSep Finset.univ fun L : Fin 6 => cP c (kRow c L 0) 64 fullShare f)
      ⊢ (bigSep Finset.univ fun p : Fin 6 × Fin 8 => st D c (dn 0) (.k p.1 p.2) : sProp 𝕄) := by
    rw [bigSep_univ_prod]
    refine bigSep_mono fun L _ => ?_
    rw [bigSep_univ_at _ (0 : Fin 8)]
    show BIBase.Entails (PROP := sProp 𝕄) _ _
    refine BIBase.Entails.trans (Q := iprop(cP c (kRow c L 0) 64 fullShare f ∗ emp)) Laws.sep_emp.2 (BI.sep_mono ?_ ?_)
    · simp only [st, dn_zero, Bool.false_eq_true, ↓reduceIte]
      rw [if_pos (by decide)]
      show BIBase.Entails (PROP := sProp 𝕄) _ _
      iintro H; iexists f; iexact H
    · show BIBase.Entails (PROP := sProp 𝕄) _ _
      refine BIBase.Entails.trans (Entails.of_eq (BI.bigSep_emp_const (M := 𝕄) (Finset.univ.erase (0 : Fin 8))).symm) (bigSep_mono (s := Finset.univ.erase (0 : Fin 8)) fun h hh => ?_)
      simp only [st, dn_zero, Bool.false_eq_true, ↓reduceIte]
      rw [if_neg (fun (h0 : h.val = 0) => (Finset.mem_erase.mp hh).1 (Fin.ext h0))]
      exact BI.Entails.refl _
  have hp0 (g : ℕ → ℕ → Elt F .bf16) : (bigSep Finset.univ fun L : Fin 6 => pP c (64 * L.val) 64 fullShare g)
      ⊢ (bigSep Finset.univ fun L : Fin 6 => st D c (dn 0) (.inn (.p1 L)) : sProp 𝕄) :=
    bigSep_mono fun L _ => (exists_intro (Φ := fun f => pP c (64 * L.val) 64 fullShare f) g).trans (Entails.of_eq (rc_inn0 D c (.p1 L)).symm)
  have hp : iprop(∃ g, ((c : Thread nD τ).loc cc0_scratch2) ↦{fullShare} (grid g : Shape.Idx ⟨2, ![384, 2048]⟩ → Elt F .bf16))
      ⊢ (bigSep Finset.univ fun L : Fin 6 => st D c (dn 0) (.inn (.p1 L)) : sProp 𝕄) := by
    iintro ⟨%g, H⟩
    ihave H := (Entails.of_eq (p_parts c fullShare g)) $$ H
    iapply (hp0 g) $$ H
  have hr : (bigSep Finset.univ fun p : Fin 6 × Fin 7 => cP c (kRow c p.1 (p.2.val + 1)) 64 fullShare f)
      ⊢ (bigSep Finset.univ fun p : Fin 6 × Fin 7 => st D c (dn 0) (.inn (.ring p.1 p.2)) : sProp 𝕄) :=
    bigSep_mono fun p _ => (exists_intro (Φ := fun f => cP c (kRow c p.1 (p.2.val + 1)) 64 fullShare f) f).trans (Entails.of_eq (rc_inn0 D c (.ring p.1 p.2)).symm)
  have hm : (bigSep Finset.univ fun s : Fin 8 => cP c (mRow (nb 0 c) s.val) 128 fullShare f)
      ⊢ (bigSep Finset.univ fun s : Fin 8 => st D c (dn 0) (.inn (.mir s)) : sProp 𝕄) :=
    bigSep_mono fun s _ => (exists_intro (Φ := fun f => cP c (mRow (nb 0 c) s.val) 128 fullShare f) f).trans (Entails.of_eq (rc_inn0 D c (.mir s)).symm)
  have e1 : ((((c : Thread nD τ).loc cc0_scratch0) ↦{fullShare} grid f : sProp 𝕄))
      = iprop((bigSep Finset.univ fun L : Fin 6 => cP c (kRow c L 0) 64 fullShare f)
        ∗ (bigSep Finset.univ fun p : Fin 6 × Fin 7 => cP c (kRow c p.1 (p.2.val + 1)) 64 fullShare f)
        ∗ bigSep Finset.univ fun s : Fin 8 => cP c (mRow (nb 0 c) s.val) 128 fullShare f) := by
    rw [c_start, bigSep_univ_sum, bigSep_univ_sum]; rfl
  rw [e1, all_rcs]
  iintro ⟨⟨H1, H2, H3⟩, H4⟩
  isplitr [H1]
  · isplitl [H4]; · iapply hp $$ H4
    isplitl [H2]; · iapply hr $$ H2
    iapply hm $$ H3
  · iapply hk $$ H1

/-- The buffers of widened rows and of the result make up the pieces of the bands. -/
theorem o_spare (f g : ℕ → ℕ → Elt F .f32) : iprop((((c : Thread nD τ).loc main_v32) ↦{fullShare} (grid f : Shape.Idx ⟨2, ![4096, 2048]⟩ → Elt F .f32)) ∗ (((c : Thread nD τ).loc cc0_scratch1) ↦{fullShare} (grid g : Shape.Idx ⟨2, ![4096, 2048]⟩ → Elt F .f32)))
    ⊢ (bigSep Finset.univ fun r => st D c (dn 0) (.o r) : sProp 𝕄) := by
  rw [h_regs, o_regs, ← bigSep_sep']
  refine bigSep_mono fun r _ => ?_
  simp only [st, dn_zero, Bool.false_eq_true, ↓reduceIte]
  show BIBase.Entails (PROP := sProp 𝕄) _ _
  iintro ⟨H1, H2⟩
  isplitl [H1]
  · iexists f; iexact H1
  · iexists g; iexact H2

/-- The buffer of scaled rows makes up its pieces. -/
theorem x_spare (f : ℕ → ℕ → Elt F .bf16) : (((c : Thread nD τ).loc cc0_scratch4) ↦{fullShare} (grid f : Shape.Idx ⟨2, ![512, 2048]⟩ → Elt F .bf16))
    ⊢ (bigSep Finset.univ fun e => st D c (dn 0) (.x e) : sProp 𝕄) := by
  rw [x_parts]
  refine bigSep_mono fun e _ => ?_
  simp only [st, dn_zero, Bool.false_eq_true, ↓reduceIte]
  show BIBase.Entails (PROP := sProp 𝕄) _ _
  iintro H
  iexists f; iexact H

/-- The buffer of gathered rows and the table's block make up the pieces of the row copies. -/
theorem g_spare (f : ℕ → ℕ → Elt F .f32) : iprop((((c : Thread nD τ).loc cc0_scratch3) ↦{fullShare} (grid f : Shape.Idx ⟨2, ![512, 2048]⟩ → Elt F .f32)) ∗ (((c : Thread nD τ).loc main_arg1) ↦{fullShare} (grid (D.tab c) : Shape.Idx ⟨2, ![8192, 2048]⟩ → Elt F .f32)))
    ⊢ (bigSep Finset.univ fun e => st D c (dn 0) (.gb e) : sProp 𝕄) := by
  rw [g_parts, e_parts, ← bigSep_sep']
  refine bigSep_mono fun e _ => ?_
  simp only [st, dn_zero, Bool.false_eq_true, ↓reduceIte]
  show BIBase.Entails (PROP := sProp 𝕄) _ _
  iintro ⟨H1, H2⟩
  isplitl [H1]
  · iexists f; iexact H1
  · iexact H2

/-- The tokens and credits make up the pieces of the semaphores. -/
theorem seed_cells : iprop((bigSep Finset.univ fun e : Fin 8 => iprop(atPos ER (gc c (.g e)) 0 ∅ 0 ∗ bigSep (Finset.range 64) fun i => dutyTok ER (gc c (.g e)) 0 i))
    ∗ (bigSep Finset.univ fun y : SC => if active c y then iprop(atPos ER (gc c (.s y)) 0 ∅ 0 ∗ dutyTok ER (gc c (.s y)) 0 0) else semVal (gc c (.s y)) 0)
    ∗ (bigSep Finset.univ fun y : RC => iprop(atPos ER (gc c (.r y)) 0 ∅ 0 ∗ cred (tallyAt (gc c (.r y)) () (amt (.r y))))))
    ⊢ (bigSep Finset.univ fun x => st D c (dn 0) (.cell x) : sProp 𝕄) := by
  rw [all_cells]
  refine sep_mono (bigSep_mono fun e _ => ?_) (sep_mono (bigSep_mono fun y _ => ?_) (bigSep_mono fun y _ => ?_))
  · simp only [st, dn_zero, Bool.false_eq_true, ↓reduceIte]
    exact BI.Entails.refl _
  · simp only [st, dn_zero, Bool.false_eq_true, ↓reduceIte]
    exact BI.Entails.refl _
  · simp only [st, dn_zero, Bool.false_eq_true, ↓reduceIte]
    exact BI.Entails.refl _

/-- The tokens of the transfers to send make up their pieces. -/
theorem seed_to : (bigSep Finset.univ fun y : RC => dutyTok ER (gc (tgt y c) (.r y)) 0 0)
    ⊢ (bigSep Finset.univ fun x => st D c (dn 0) (.to x) : sProp 𝕄) := by
  refine bigSep_mono fun y _ => ?_
  simp only [st, dn_zero, Bool.false_eq_true, ↓reduceIte]
  show BIBase.Entails (PROP := sProp 𝕄) _ _
  exact Laws.sep_emp.2

/-- The tokens of the signals make up their pieces. -/
theorem seed_sg : (bigSep Finset.univ fun j : Fin 3 => dutyTok ER (bc (nb j c)) 0 (opp j))
    ⊢ (bigSep Finset.univ fun j => st D c (dn 0) (.sg j) : sProp 𝕄) := by
  refine bigSep_mono fun j _ => ?_
  simp only [st, dn_zero, Bool.false_eq_true, ↓reduceIte]
  exact BI.Entails.refl _

/-- The barrier's position and credit make up its piece. -/
theorem seed_bar : iprop(atPos ER (bc c) 0 ∅ 0 ∗ cred (tallyAt (bc c) () 3)) ⊢ (st D c (dn 0) .barr : sProp 𝕄) := by
  simp only [st, dn_zero, Bool.false_eq_true, ↓reduceIte]
  exact BI.Entails.refl _

/-- A device's buffers and tokens are what it starts with. -/
theorem rest_start [∀ e, Nonempty (Elt F e)] (tab : Buf (Elt F) ((c : Thread nD τ).loc main_arg1)) (htab : grid (D.tab c) = tab) :
    iprop(Seeds c ∗ Scr c ∗ (((c : Thread nD τ).loc main_arg1) ↦{fullShare} tab) ∗ ∃ f, ((c : Thread nD τ).loc main_v32) ↦{fullShare} f)
      ⊢ Rest D c (dn 0) := by
  unfold Seeds Scr Rest
  iintro ⟨⟨Hg, Hs, Hr, Ht, Hj, Hb⟩, ⟨⟨%f0, H0⟩, ⟨%f1, H1⟩, ⟨%f2, H2⟩, ⟨%f3, H3⟩, ⟨%f4, H4⟩⟩, He, ⟨%fh, Hh⟩⟩
  obtain ⟨g0, rfl⟩ := exists_grid (α := Elt F .bf16) (R := 4096) (W := 2048) f0
  obtain ⟨g1, rfl⟩ := exists_grid (α := Elt F .f32) (R := 4096) (W := 2048) f1
  obtain ⟨g2, rfl⟩ := exists_grid (α := Elt F .bf16) (R := 384) (W := 2048) f2
  obtain ⟨g3, rfl⟩ := exists_grid (α := Elt F .f32) (R := 512) (W := 2048) f3
  obtain ⟨g4, rfl⟩ := exists_grid (α := Elt F .bf16) (R := 512) (W := 2048) f4
  obtain ⟨gh, rfl⟩ := exists_grid (α := Elt F .f32) (R := 4096) (W := 2048) fh
  subst htab
  ihave Hk := (c_spare D c g0) $$ [H0 H2]
  · isplitl [H0]; · iexact H0
    iexists g2; iexact H2
  icases Hk with ⟨Hi, Hk⟩
  isplitl [Hg Hs Hr]
  · iapply (seed_cells D c)
    isplitl [Hg]; · iexact Hg
    isplitl [Hs]; · iexact Hs
    iexact Hr
  isplitl [Ht]; · iapply (seed_to D c) $$ Ht
  isplitl [Hi]; · iexact Hi
  isplitl [Hk]; · iexact Hk
  isplitl [H4]; · iapply (x_spare D c g4) $$ H4
  isplitl [Hh H1]
  · iapply (o_spare D c gh g1)
    isplitl [Hh] <;> iassumption
  isplitl [H3 He]
  · iapply (g_spare D c g3)
    isplitl [H3] <;> iassumption
  isplitl [Hj]; · iapply (seed_sg D c) $$ Hj
  iapply (seed_bar D c) $$ Hb

/-! ## The end -/

/-- The three shares of a band are the whole of it. -/
theorem c_shares (a n : ℕ) (f : ℕ → ℕ → Elt F .bf16) :
    iprop(cP c a n qA f ∗ cP c a n qB f ∗ cP c a n qC f) ⊢ (cP c a n fullShare f : sProp 𝕄) := by
  iintro ⟨H1, H2, H3⟩
  iapply (pointsTo_share (PosShare.mem_left_op_right fullShare)).2
  isplitl [H1]; · iexact H1
  iapply (pointsTo_share (PosShare.mem_left_op_right fullShare.right)).2
  isplitl [H2] <;> iassumption

/-- At the end each chunk is whole again. -/
theorem k_end (L : Fin 6) (h : Fin 8) : st D c (dn 275) (.k L h) ⊢ (cP c (kRow c L h.val) 64 fullShare (cF D (px c)) : sProp 𝕄) := by
  have h1 : dn 275 (kA L h) = true := dn_end (by unfold kA; split <;> simp)
  have h2 : (dn 275 (kH L h) && !dn 275 (kF L h)) = false := by
    unfold kH kF
    by_cases hh : h.val < 7
    · rw [dif_pos hh, dif_pos hh, dn_end (by simp), dn_end (by simp)]; rfl
    · rw [dif_neg hh]; rfl
  have h3 : (inStrip c L && (dn 275 (.ms h) && !dn 275 (.fin (.mir h)))) = false := by
    rw [dn_end (by simp), dn_end (by simp)]; simp
  simp only [st, h1, h2, h3, Bool.false_eq_true, ↓reduceIte]
  exact c_shares c _ _ _

/-- At the end the chunks and strips make up the whole buffer. -/
theorem c_join : iprop((bigSep Finset.univ fun p : Fin 6 × Fin 8 => cP c (doA c (.inl p)) (doN (.inl p)) fullShare (cF D (px c)))
      ∗ bigSep Finset.univ fun s : Fin 8 => cP c (doA c (.inr s)) (doN (.inr s)) fullShare (cF D (px c)))
    ⊢ (((c : Thread nD τ).loc cc0_scratch0) ↦{fullShare} (grid (cF D (px c)) : Shape.Idx ⟨2, ![4096, 2048]⟩ → Elt F .bf16) : sProp 𝕄) := by
  rw [c_done, bigSep_univ_sum]
  exact BI.Entails.refl _

/-- What a device ends with is its buffers, the result made, and its semaphores at zero. -/
theorem rest_end : Rest D c (dn 275)
    ⊢ iprop((bigSep Finset.univ fun x : Cell => semVal (gc c x) 0) ∗ semVal (bc c) 0 ∗ Scr c
      ∗ (((c : Thread nD τ).loc main_arg1) ↦{fullShare} (grid (D.tab c) : Shape.Idx ⟨2, ![8192, 2048]⟩ → Elt F .f32))
      ∗ (((c : Thread nD τ).loc main_v32) ↦{fullShare} (grid (oF D (px c)) : Shape.Idx ⟨2, ![4096, 2048]⟩ → Elt F .f32))) := by
  have hcell : (bigSep Finset.univ fun x => st D c (dn 275) (.cell x)) ⊢ (bigSep Finset.univ fun x : Cell => semVal (gc c x) 0 : sProp 𝕄) := by
    refine bigSep_mono fun x _ => ?_
    rcases x with e | y | y
    · simp only [st, dn_end (a := .gW e) (by simp), Bool.false_eq_true, ↓reduceIte]; exact BI.Entails.refl _
    · simp only [st, dn_end (a := .fin y) (by simp), Bool.false_eq_true, ↓reduceIte]
      split <;> exact BI.Entails.refl _
    · simp only [st, dn_end (a := .wr y) (by simp), Bool.false_eq_true, ↓reduceIte]; exact BI.Entails.refl _
  have hbar : st D c (dn 275) .barr ⊢ (semVal (bc c) 0 : sProp 𝕄) := by
    simp only [st, dn_end (a := .bar) (by simp), Bool.false_eq_true, ↓reduceIte]; exact BI.Entails.refl _
  have hinn : (bigSep Finset.univ fun x => st D c (dn 275) (.inn x))
      ⊢ (iprop((bigSep Finset.univ fun L : Fin 6 => pP c (64 * L.val) 64 fullShare (pF D c))
        ∗ bigSep Finset.univ fun s : Fin 8 => cP c (doA c (.inr s)) (doN (.inr s)) fullShare (cF D (px c))) : sProp 𝕄) := by
    have h1 : (bigSep Finset.univ fun L : Fin 6 => st D c (dn 275) (.inn (.p1 L)))
        ⊢ (bigSep Finset.univ fun L : Fin 6 => pP c (64 * L.val) 64 fullShare (pF D c) : sProp 𝕄) := by
      refine bigSep_mono fun L _ => ?_
      simp only [st, dn_end (a := .sig _) (by simp), dn_end (a := .wr _) (by simp), ↓reduceIte]
      exact BI.Entails.refl _
    have h3 : (bigSep Finset.univ fun s : Fin 8 => st D c (dn 275) (.inn (.mir s)))
        ⊢ (bigSep Finset.univ fun s : Fin 8 => cP c (doA c (.inr s)) (doN (.inr s)) fullShare (cF D (px c)) : sProp 𝕄) := by
      refine bigSep_mono fun s _ => ?_
      simp only [st, dn_end (a := .sig _) (by simp), dn_end (a := .wr _) (by simp), ↓reduceIte]
      exact BI.Entails.refl _
    rw [all_rcs]
    iintro ⟨H1, -, H3⟩
    isplitl [H1]
    · iapply h1 $$ H1
    · iapply h3 $$ H3
  have hx : (bigSep Finset.univ fun e => st D c (dn 275) (.x e))
      ⊢ (((c : Thread nD τ).loc cc0_scratch4) ↦{fullShare} (grid (xF D c) : Shape.Idx ⟨2, ![512, 2048]⟩ → Elt F .bf16) : sProp 𝕄) := by
    rw [x_parts]
    refine bigSep_mono fun e _ => ?_
    simp only [st, dn_end (a := .xs e) (by simp), dn_end (a := .p1 e) (by simp), dn_end (a := .fin (.p1 e)) (by simp), Bool.false_eq_true, ↓reduceIte]
    rw [if_neg (by simp)]
    show BIBase.Entails (PROP := sProp 𝕄) _ _
    iintro ⟨H1, H2⟩
    iapply (pointsTo_share (PosShare.mem_left_op_right fullShare)).2
    isplitl [H2] <;> iassumption
  have ho : (bigSep Finset.univ fun r => st D c (dn 275) (.o r))
      ⊢ (iprop((((c : Thread nD τ).loc main_v32) ↦{fullShare} (grid (oF D (px c)) : Shape.Idx ⟨2, ![4096, 2048]⟩ → Elt F .f32))
        ∗ (((c : Thread nD τ).loc cc0_scratch1) ↦{fullShare} (grid (oF D (px c)) : Shape.Idx ⟨2, ![4096, 2048]⟩ → Elt F .f32))) : sProp 𝕄) := by
    rw [h_regs, o_regs, ← bigSep_sep']
    refine bigSep_mono fun r _ => ?_
    simp only [st, dn_end (a := .fin (.out r)) (by simp), Bool.false_eq_true, ↓reduceIte]
    exact BI.Entails.refl _
  have hg : (bigSep Finset.univ fun e => st D c (dn 275) (.gb e))
      ⊢ (iprop((((c : Thread nD τ).loc cc0_scratch3) ↦{fullShare} (grid (gF D c) : Shape.Idx ⟨2, ![512, 2048]⟩ → Elt F .f32))
        ∗ (((c : Thread nD τ).loc main_arg1) ↦{fullShare} (grid (D.tab c) : Shape.Idx ⟨2, ![8192, 2048]⟩ → Elt F .f32))) : sProp 𝕄) := by
    rw [g_parts, e_parts, ← bigSep_sep']
    refine bigSep_mono fun e _ => ?_
    simp only [st, dn_end (a := .gW e) (by simp), Bool.false_eq_true, ↓reduceIte]
    exact BI.Entails.refl _
  have hk : (bigSep Finset.univ fun p : Fin 6 × Fin 8 => st D c (dn 275) (.k p.1 p.2))
      ⊢ (bigSep Finset.univ fun p : Fin 6 × Fin 8 => cP c (doA c (.inl p)) (doN (.inl p)) fullShare (cF D (px c)) : sProp 𝕄) :=
    bigSep_mono fun p _ => k_end D c p.1 p.2
  unfold Rest Scr
  iintro ⟨H1, -, H3, H4, H5, H6, H7, -, H9⟩
  ihave H3 := hinn $$ H3
  icases H3 with ⟨Hp, Hm⟩
  ihave H4 := hk $$ H4
  ihave H6 := ho $$ H6
  icases H6 with ⟨Hh, Ho⟩
  ihave H7 := hg $$ H7
  icases H7 with ⟨Hg, He⟩
  isplitl [H1]; · iapply hcell $$ H1
  isplitl [H9]; · iapply hbar $$ H9
  isplitr [He Hh]
  · isplitl [Hm H4]
    · iexists (grid (cF D (px c)))
      iapply (c_join D c)
      isplitl [H4] <;> iassumption
    isplitl [Ho]; · iexists _; iexact Ho
    isplitl [Hp]
    · iexists (grid (pF D c))
      iapply (Entails.of_eq (p_parts c fullShare (pF D c)).symm) $$ Hp
    isplitl [Hg]; · iexists _; iexact Hg
    iexists _; iapply hx $$ H5
  · isplitl [He] <;> iassumption

end Cert.KernelIdeal.Talk
end
end
-- ==== Proof.Cells.lean ====
module

public import proofs.«01_k».proof.Proof.Ends

/-! What the launch makes of the semaphores: the record of every semaphore, the tokens of what is owed on them, and
the credit each device gets, dealt out to the devices. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen

variable {F : FTy → Type} [FloatOps F]
local notation "𝕄" => MT nD τ sig Unit (Elt F) ℕ UU ℕ

variable (D : Data F)

/-- The kernel's own semaphores, by what they stand for. -/
abbrev osem (x : Cell) : SemLoc sig := .dma (semOf x)

/-- Different transfers have different semaphores. -/
theorem osem_inj : Function.Injective osem := fun x y h => semOf_inj (by injection h)

/-- The same semaphore is on the same device. -/
theorem dev_of_eq {c c' : Dev nD} {a b : SemLoc sig} (h : (((c : Thread nD τ), a) : GSem nD τ sig) = ((c' : Thread nD τ), b)) : c = c' :=
  congrArg (fun g : GSem nD τ sig => g.1.1) h

/-- The barrier semaphores of the devices. -/
def barEmb : Dev nD ↪ GSem nD τ sig := ⟨fun c => bc c, fun _ _ h => dev_of_eq h⟩
/-- The transfer semaphores of the devices. -/
def ownEmb : Dev nD × Cell ↪ GSem nD τ sig :=
  ⟨fun p => gc p.1 p.2, fun _ _ h => Prod.ext (dev_of_eq h) (osem_inj (congrArg Prod.snd h))⟩

/-- The barriers of all devices. -/
abbrev barCells : Finset (GSem nD τ sig) := Finset.univ.map barEmb
/-- The transfer semaphores of all devices. -/
abbrev ownCells : Finset (GSem nD τ sig) := Finset.univ.map ownEmb

/-- No barrier is a transfer's semaphore. -/
theorem cells_apart : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  have h2 : osem p.2 = SemLoc.reg (sig.barrier 0 rfl) := congrArg Prod.snd h
  cases h2

/-- The tokens of a device: three of its barrier, sixty-four of each eighth, one of each transfer. -/
abbrev Tok : Type := Fin 3 ⊕ (Fin 8 × Fin 64) ⊕ SC ⊕ RC

/-- The semaphore and the number of a token. -/
def tokAt : Tok → SemLoc sig × ℕ
  | .inl j => (.reg (sig.barrier 0 rfl), j.val)
  | .inr (.inl (e, i)) => (osem (.g e), i.val)
  | .inr (.inr (.inl y)) => (osem (.s y), 0)
  | .inr (.inr (.inr y)) => (osem (.r y), 0)

/-- Different tokens have different semaphores or numbers. -/
theorem tokAt_inj : Function.Injective tokAt := by
  rintro (j | ⟨e, i⟩ | y | y) (j' | ⟨e', i'⟩ | y' | y') h
  all_goals
    have h1 := congrArg Prod.fst h
    have h2 := congrArg Prod.snd h
    dsimp only [tokAt] at h1 h2
    first
      | (cases h1; done)
      | (have := osem_inj h1; cases this; done)
      | (rw [Fin.ext h2]; done)
      | (have h3 := osem_inj h1; cases h3; rw [Fin.ext h2]; done)
      | (have h3 := osem_inj h1; cases h3; rfl)

/-- All the tokens. -/
def tokSet : Finset (GSem nD τ sig × ℕ × ℕ) :=
  Finset.univ.map ⟨fun p : Dev nD × Tok => (((p.1 : Thread nD τ), (tokAt p.2).1), 0, (tokAt p.2).2), fun _ _ h =>
    Prod.ext (congrArg (fun t : GSem nD τ sig × ℕ × ℕ => t.1.1.1) h)
      (tokAt_inj (Prod.ext (congrArg (fun t : GSem nD τ sig × ℕ × ℕ => t.1.2) h) (congrArg (fun t : GSem nD τ sig × ℕ × ℕ => t.2.2) h)))⟩

/-- The tokens of a device's own semaphores. -/
def HomeToks (c : Dev nD) : sProp 𝕄 :=
  iprop((bigSep Finset.univ fun j : Fin 3 => dutyTok ER (bc c) 0 j.val)
    ∗ (bigSep Finset.univ fun p : Fin 8 × Fin 64 => dutyTok ER (gc c (.g p.1)) 0 p.2.val)
    ∗ (bigSep Finset.univ fun y : SC => dutyTok ER (gc c (.s y)) 0 0)
    ∗ (bigSep Finset.univ fun y : RC => dutyTok ER (gc c (.r y)) 0 0))

/-- All tokens, device by device. -/
theorem toks_home : bigSep tokSet (fun x => (dutyTok ER x.1 x.2.1 x.2.2 : sProp 𝕄)) = bigSep Finset.univ fun c : Dev nD => HomeToks c := by
  unfold tokSet
  rw [bigSep_map, bigSep_univ_prod]
  refine bigSep_congr fun c _ => ?_
  unfold HomeToks
  simp only [bigSep_univ_sum]
  rfl

/-- The tokens a device uses: of its neighbours' barriers, of its own semaphores, and of the transfers it sends. -/
def AwayToks (c : Dev nD) : sProp 𝕄 :=
  iprop((bigSep Finset.univ fun j : Fin 3 => dutyTok ER (bc (nb j c)) 0 (opp j))
    ∗ (bigSep Finset.univ fun p : Fin 8 × Fin 64 => dutyTok ER (gc c (.g p.1)) 0 p.2.val)
    ∗ (bigSep Finset.univ fun y : SC => dutyTok ER (gc c (.s y)) 0 0)
    ∗ (bigSep Finset.univ fun y : RC => dutyTok ER (gc (tgt y c) (.r y)) 0 0))

/-- The way back, as one of the three. -/
def oppF (j : Fin 3) : Fin 3 := ⟨opp j.val, by revert j; decide⟩

/-- A device and one of its neighbours, seen from the neighbour. -/
def turn : (Dev nD × Fin 3) ≃ (Dev nD × Fin 3) where
  toFun p := (nb p.2 p.1, oppF p.2)
  invFun p := (nb p.2 p.1, oppF p.2)
  left_inv := by decide
  right_inv := by decide

/-- A device and a transfer, at the device the transfer goes to. -/
def ship : (Dev nD × RC) ≃ (Dev nD × RC) where
  toFun p := (tgt p.2 p.1, p.2)
  invFun p := (src p.2 p.1, p.2)
  left_inv p := Prod.ext (src_tgt _ _) rfl
  right_inv p := Prod.ext (tgt_src _ _) rfl

/-- The barriers' tokens, handed to the neighbours that signal. -/
theorem bar_around : (bigSep Finset.univ fun c : Dev nD => bigSep Finset.univ fun j : Fin 3 => (dutyTok ER (bc c) 0 j.val : sProp 𝕄))
    = bigSep Finset.univ fun c : Dev nD => bigSep Finset.univ fun j : Fin 3 => dutyTok ER (bc (nb j c)) 0 (opp j) := by
  have h := bigSep_univ_equiv (M := 𝕄) turn (fun p : Dev nD × Fin 3 => dutyTok ER (bc p.1) 0 p.2.val)
  rw [bigSep_univ_prod, bigSep_univ_prod] at h
  exact h

/-- The received transfers' tokens, handed to the devices that send. -/
theorem ship_around : (bigSep Finset.univ fun c : Dev nD => bigSep Finset.univ fun y : RC => (dutyTok ER (gc c (.r y)) 0 0 : sProp 𝕄))
    = bigSep Finset.univ fun c : Dev nD => bigSep Finset.univ fun y : RC => dutyTok ER (gc (tgt y c) (.r y)) 0 0 := by
  have h := bigSep_univ_equiv (M := 𝕄) ship (fun p : Dev nD × RC => dutyTok ER (gc p.1 (.r p.2)) 0 0)
  rw [bigSep_univ_prod, bigSep_univ_prod] at h
  exact h

/-- The tokens of the devices' semaphores become the tokens the devices use. -/
theorem toks_away : (bigSep Finset.univ fun c : Dev nD => (HomeToks c : sProp 𝕄)) ⊢ bigSep Finset.univ fun c : Dev nD => AwayToks c := by
  unfold HomeToks AwayToks
  rw [bigSep_sep', bigSep_sep', bigSep_sep', bigSep_sep', bigSep_sep', bigSep_sep', bar_around, ship_around]

/-! ## The credit -/

/-- A sum of tallies, read at one place. -/
theorem sum_at {ι : Type} (s : Finset ι) (f : ι → CellTallies nD τ sig Unit) (g : GSem nD τ sig) (u : Unit) :
    (∑ i ∈ s, f i) g u = ∑ i ∈ s, f i g u := by
  rw [Finset.sum_apply, Finsupp.finset_sum_apply]

/-- A tally counts at its own semaphore only. -/
theorem tally_if (g g' : GSem nD τ sig) (n : ℕ) : (tallyAt g' () n : CellTallies nD τ sig Unit) g () = if g = g' then n else 0 := by
  rw [tallyAt_apply]
  exact if_congr ⟨fun h => h.1, fun h => ⟨h, rfl⟩⟩ rfl rfl

/-- What a device owes at the launch, at one semaphore. -/
theorem due_apply (d c : Dev nD) (sm : SemLoc sig) : Ow d (dn 0) ((c : Thread nD τ), sm) ()
    = (∑ x : RC, if ((c : Thread nD τ), sm) = gc (tgt x d) (.r x) then amt (.r x) else 0)
      + ∑ j : Fin 3, if ((c : Thread nD τ), sm) = bc (nb j d) then 1 else 0 := by
  unfold Ow
  rw [Pi.add_apply, Finsupp.add_apply, sum_at, sum_at]
  refine congrArg₂ (· + ·) (Finset.sum_congr rfl fun x _ => ?_) (Finset.sum_congr rfl fun j _ => ?_)
  · rw [dn_zero, if_neg Bool.false_ne_true, tally_if]
  · rw [dn_zero, if_neg Bool.false_ne_true, tally_if]

/-- Only its sender owes a transfer. -/
theorem due_r (d c : Dev nD) (y : RC) : Ow d (dn 0) (gc c (.r y)) () = if d = src y c then amt (.r y) else 0 := by
  refine (due_apply d c (osem (.r y))).trans ?_
  rw [Finset.sum_eq_single y, Finset.sum_eq_zero (s := (Finset.univ : Finset (Fin 3))), Nat.add_zero]
  · refine if_congr ⟨fun h => ?_, fun h => ?_⟩ rfl rfl
    · rw [dev_of_eq h, src_tgt]
    · rw [h, tgt_src]
  · intro j _
    refine if_neg fun h => ?_
    have h2 : osem (.r y) = SemLoc.reg (sig.barrier 0 rfl) := congrArg Prod.snd h
    cases h2
  · intro x _ hx
    refine if_neg fun h => hx ?_
    have h2 := osem_inj (congrArg Prod.snd h : osem (.r y) = osem (.r x))
    cases h2; rfl
  · intro h; exact absurd (Finset.mem_univ _) h

/-- Three devices signal each barrier. -/
theorem bar_count (c : Dev nD) : (∑ d : Dev nD, ∑ j : Fin 3, if c = nb j d then 1 else 0) = 3 := by revert c; decide +kernel

/-- What a device owes a barrier: one unit for each way it is the neighbour. -/
theorem due_b (d c : Dev nD) : Ow d (dn 0) (bc c) () = ∑ j : Fin 3, if c = nb j d then 1 else 0 := by
  refine (due_apply d c (.reg (sig.barrier 0 rfl))).trans ?_
  rw [Finset.sum_eq_zero (s := (Finset.univ : Finset RC)), Nat.zero_add]
  · refine Finset.sum_congr rfl fun j _ => if_congr ⟨fun h => dev_of_eq h, fun h => ?_⟩ rfl rfl
    exact congrArg (fun c : Dev nD => (((c : Thread nD τ), SemLoc.reg (sig.barrier 0 rfl)) : GSem nD τ sig)) h
  · intro x _
    refine if_neg fun h => ?_
    have h2 : SemLoc.reg (sig.barrier 0 rfl) = osem (.r x) := congrArg Prod.snd h
    cases h2

/-- What the devices owe at the launch. -/
abbrev due0 (c : Dev nD) : CellTallies nD τ sig Unit := Ow c (dn 0)

/-- The launch's credit at a received transfer. -/
theorem launch_r (c : Dev nD) (y : RC) : tallyOn (gc c (.r y)) (launchCredit (Pipeline.owing due0) 0 (gc c (.r y)))
    = (tallyAt (gc c (.r y)) () (amt (.r y)) : CellTallies nD τ sig Unit) := by
  unfold tallyAt; refine congrArg _ (Finsupp.ext fun u => ?_); cases u
  rw [Pipeline.launchCredit_owing, Finsupp.single_eq_same, Finset.sum_congr rfl fun d _ => due_r d c y,
    Finset.sum_ite_eq' Finset.univ (src y c) fun _ => amt (.r y), if_pos (Finset.mem_univ _)]

/-- The launch's credit at a barrier. -/
theorem launch_b (c : Dev nD) : tallyOn (bc c) (launchCredit (Pipeline.owing due0) 0 (bc c))
    = (tallyAt (bc c) () 3 : CellTallies nD τ sig Unit) := by
  unfold tallyAt; refine congrArg _ (Finsupp.ext fun u => ?_); cases u
  rw [Pipeline.launchCredit_owing, Finsupp.single_eq_same, Finset.sum_congr rfl fun d _ => due_b d c, bar_count]

/-- The semaphores of the transfers a device receives. -/
def recvEmb : RC ↪ SemLoc sig := ⟨fun y => osem (.r y), fun _ _ h => by cases osem_inj h; rfl⟩

/-- A device's credit: three units at its barrier, and each transfer it receives. -/
theorem creds (c : Dev nD) : (Pipeline.launchCred due0 c : sProp 𝕄)
    ⊢ iprop(cred (tallyAt (bc c) () 3) ∗ bigSep Finset.univ fun y : RC => cred (tallyAt (gc c (.r y)) () (amt (.r y)))) := by
  unfold Pipeline.launchCred
  rw [bigSep_univ_at _ (SemLoc.reg (sig.barrier 0 rfl)), launch_b]
  refine sep_mono_right ?_
  have hs : Finset.univ.map recvEmb ⊆ (Finset.univ : Finset (SemLoc sig)).erase (SemLoc.reg (sig.barrier 0 rfl)) := fun sm h => by
    obtain ⟨y, -, rfl⟩ := Finset.mem_map.mp h
    refine Finset.mem_erase.mpr ⟨fun h2 => ?_, Finset.mem_univ _⟩
    cases h2
  refine BI.Entails.trans (BI.bigSep_subset hs) ?_
  rw [bigSep_map]
  refine bigSep_mono fun y _ => ?_
  show BIBase.Entails (PROP := sProp 𝕄) _ _
  exact Entails.of_eq (congrArg cred (launch_r c y))

/-- Two families, as one of pairs. -/
theorem zip {ι : Type} [Fintype ι] {Φ Ψ : ι → sProp 𝕄} :
    iprop(bigSep Finset.univ Φ ∗ bigSep Finset.univ Ψ) ⊢ bigSep Finset.univ (fun i => iprop(Φ i ∗ Ψ i)) :=
  Entails.of_eq (bigSep_sep' (s := Finset.univ) (Φ := Φ) (Ψ := Ψ)).symm

/-- One family of pairs, as two. -/
theorem unzip {ι : Type} [Fintype ι] {Φ Ψ : ι → sProp 𝕄} :
    bigSep Finset.univ (fun i => iprop(Φ i ∗ Ψ i)) ⊢ iprop(bigSep Finset.univ Φ ∗ bigSep Finset.univ Ψ) :=
  Entails.of_eq (bigSep_sep' (s := Finset.univ) (Φ := Φ) (Ψ := Ψ))

/-! ## What a device holds between the launch and the kernel -/

/-- The records every device may consult. -/
def Recs (κ : GSem nD τ sig → ℕ) : sProp 𝕄 :=
  iprop((bigSep (barCells ∪ ownCells) fun g => cellInv ER (Rd D) (κ g) g) ∗ bigSep barCells fun g => reached ER g 0)

instance Recs_persistent (κ : GSem nD τ sig → ℕ) : BI.Persistent (Recs D κ) := by unfold Recs; infer_instance

/-- What a device alone holds. -/
def Lin (c : Dev nD) : sProp 𝕄 :=
  iprop(atPos ER (bc c) 0 ∅ 0 ∗ (bigSep Finset.univ fun x : Cell => openTok ER (gc c x)) ∗ AwayToks c)

/-- What a device holds before the kernel. -/
def Tk (c : Dev nD) : sProp 𝕄 :=
  iprop((∃ κ, Recs D κ ∗ Lin c) ∗ cred (tallyAt (bc c) () 3) ∗ bigSep Finset.univ fun y : RC => cred (tallyAt (gc c (.r y)) () (amt (.r y))))

/-- What a device holds when the kernel starts. -/
def Xk (c : Dev nD) : sProp 𝕄 := iprop(∃ K, Inv D K c ∗ Seeds c)

/-- The records hold the invariant of every transfer's semaphore. -/
theorem rec_gc (κ : GSem nD τ sig → ℕ) (c : Dev nD) (x : Cell) : Recs D κ ⊢ cellInv ER (Rd D) (κ (gc c x)) (gc c x) := by
  have h : gc c x ∈ (barCells ∪ ownCells : Finset (GSem nD τ sig)) :=
    Finset.mem_union_right _ (Finset.mem_map_of_mem ownEmb (Finset.mem_univ (c, x)))
  unfold Recs
  iintro ⟨H, -⟩
  have hh : (bigSep (barCells ∪ ownCells) fun g => (cellInv ER (Rd D) (κ g) g : sProp 𝕄)) ⊢ cellInv ER (Rd D) (κ (gc c x)) (gc c x) := bigSep_elim h
  iapply hh $$ H

/-- The records hold every barrier's invariant and round. -/
theorem rec_bc (κ : GSem nD τ sig → ℕ) (c : Dev nD) : Recs D κ ⊢ iprop(cellInv ER (Rd D) (κ (bc c)) (bc c) ∗ reached ER (bc c) 0) := by
  have h : bc c ∈ (barCells : Finset (GSem nD τ sig)) := Finset.mem_map_of_mem barEmb (Finset.mem_univ c)
  unfold Recs
  iintro ⟨H, H2⟩
  have hh : (bigSep (barCells ∪ ownCells) fun g => (cellInv ER (Rd D) (κ g) g : sProp 𝕄)) ⊢ cellInv ER (Rd D) (κ (bc c)) (bc c) :=
    bigSep_elim (Finset.mem_union_left _ h)
  have hr : (bigSep barCells fun g => (reached ER g 0 : sProp 𝕄)) ⊢ reached ER (bc c) 0 := bigSep_elim h
  isplitl [H]
  · iapply hh $$ H
  · iapply hr $$ H2

/-- A semaphore opened and, where nothing is ever due on it, closed again. -/
theorem open_s (κ : GSem nD τ sig → ℕ) (c : Dev nD) (y : SC) :
    iprop(Recs D κ ∗ (atPos ER (gc c (.s y)) 0 ∅ 0 ∗ dutyTok ER (gc c (.s y)) 0 0))
      ⊢ |={Set.univ}=> (if active c y then iprop(atPos ER (gc c (.s y)) 0 ∅ 0 ∗ dutyTok ER (gc c (.s y)) 0 0) else semVal (gc c (.s y)) 0 : sProp 𝕄) := by
  by_cases h : active c y = true
  · rw [if_pos h]
    iintro ⟨-, H⟩
    imodintro
    iexact H
  · rw [if_neg h]
    iintro ⟨#HR, Ha, -⟩
    have hR : ∀ r, 0 ≤ r → (Rd D).duties (gc c (.s y)) r = ∅ := fun r _ => by
      rcases Nat.eq_zero_or_pos r with rfl | hr
      · rw [duties_gc]; dsimp only [dutiesOf]; rw [if_neg h]
      · exact duties_later D _ r hr
    iapply (Rounds.cell_close ER (Rd D) (g := gc c (.s y)) (κ := κ (gc c (.s y))) (Set.mem_univ _) (fun h => h) hR)
    isplitr
    · iapply (rec_gc D κ c (.s y)); iexact HR
    · iexact Ha

/-- A device opens the first round of all its transfers' semaphores. -/
theorem open_all (κ : GSem nD τ sig → ℕ) (c : Dev nD) :
    iprop(Recs D κ ∗ (bigSep Finset.univ fun x : Cell => iprop(openTok ER (gc c x) ∗ semVal (gc c x) 0)))
      ⊢ |={Set.univ}=> (bigSep Finset.univ fun x : Cell => iprop(atPos ER (gc c x) 0 ∅ 0 ∗ reached ER (gc c x) 0) : sProp 𝕄) := by
  have h1 : iprop(Recs D κ ∗ (bigSep Finset.univ fun x : Cell => iprop(openTok ER (gc c x) ∗ semVal (gc c x) 0)))
      ⊢ (bigSep Finset.univ fun x : Cell => iprop(|={Set.univ}=> (atPos ER (gc c x) 0 ∅ 0 ∗ reached ER (gc c x) 0)) : sProp 𝕄) := by
    refine bigSep_with_persistent fun x _ => ?_
    show BIBase.Entails (PROP := sProp 𝕄) _ _
    iintro ⟨#HR, Ho, Hv⟩
    iapply (Rounds.cell_open ER (Rd D) (g := gc c x) (κ := κ (gc c x)) (Set.mem_univ _))
    isplitr
    · iapply (rec_gc D κ c x); iexact HR
    isplitl [Ho] <;> iassumption
  exact BIBase.Entails.trans h1 (bigSep_fupd _ _)

/-- The semaphores of eighths that are not sent are closed again at once. -/
theorem open_ss (κ : GSem nD τ sig → ℕ) (c : Dev nD) :
    iprop(Recs D κ ∗ (bigSep Finset.univ fun y : SC => iprop(atPos ER (gc c (.s y)) 0 ∅ 0 ∗ dutyTok ER (gc c (.s y)) 0 0)))
      ⊢ |={Set.univ}=> (bigSep Finset.univ fun y : SC => if active c y then iprop(atPos ER (gc c (.s y)) 0 ∅ 0 ∗ dutyTok ER (gc c (.s y)) 0 0) else semVal (gc c (.s y)) 0 : sProp 𝕄) :=
  BIBase.Entails.trans (bigSep_with_persistent fun y _ => open_s D κ c y) (bigSep_fupd _ _)

/-- The row copies' tokens, eighth by eighth. -/
theorem eighth_toks (c : Dev nD) : (bigSep Finset.univ fun p : Fin 8 × Fin 64 => (dutyTok ER (gc c (.g p.1)) 0 p.2.val : sProp 𝕄))
    ⊢ bigSep Finset.univ fun e : Fin 8 => bigSep (Finset.range 64) fun i => dutyTok ER (gc c (.g e)) 0 i := by
  rw [bigSep_univ_prod]
  refine bigSep_mono fun e _ => ?_
  show BIBase.Entails (PROP := sProp 𝕄) _ _
  refine Entails.of_eq ?_
  rw [← Nat.Iio_eq_range, ← Fin.map_valEmbedding_univ, bigSep_map]
  rfl

/-- The kernel's semaphores opened, and all dealt in the form the kernel takes it in. -/
theorem open_kernel (c : Dev nD) : iprop(Tk D c ∗ Pipeline.ownSems0 osem c ∗ levAts Lx lv) ⊢ (|={Set.univ}=> Xk D c : sProp 𝕄) := by
  unfold Tk Xk Pipeline.ownSems0 Lin AwayToks
  iintro ⟨⟨⟨%κ, #HR, HatB, Hop, Htb, Htg, Hts, Htr⟩, HcB, HcR⟩, Hsv, #HL⟩
  imod (open_all D κ c) $$ [Hop Hsv] with Hall
  · isplitr; · iexact HR
    iapply zip
    isplitl [Hop]; · iexact Hop
    iexact Hsv
  ihave Hall2 := unzip $$ Hall
  icases Hall2 with ⟨Hat, #Hre⟩
  ihave Hat2 := (Entails.of_eq (all_cells (F := F) fun x => atPos ER (gc c x) 0 ∅ 0)) $$ Hat
  icases Hat2 with ⟨Hg, Hs, Hr⟩
  imod (open_ss D κ c) $$ [Hs Hts] with Hs
  · isplitr; · iexact HR
    iapply zip
    isplitl [Hs] <;> iassumption
  imodintro
  iexists κ
  isplitr
  · unfold Inv
    have hi : Recs D κ ⊢ (bigSep Finset.univ fun p : Dev nD × Cell => cellInv ER (Rd D) (κ (gc p.1 p.2)) (gc p.1 p.2) : sProp 𝕄) :=
      bigSep_intro_persistent fun p _ => rec_gc D κ p.1 p.2
    have hb : Recs D κ ⊢ (bigSep Finset.univ fun c' : Dev nD => iprop(cellInv ER (Rd D) (κ (bc c')) (bc c') ∗ reached ER (bc c') 0) : sProp 𝕄) :=
      bigSep_intro_persistent fun c' _ => rec_bc D κ c'
    ihave Hb := hb $$ HR
    ihave Hb2 := unzip $$ Hb
    icases Hb2 with ⟨#Hb1, #Hb2⟩
    isplitr
    · iapply hi; iexact HR
    isplitr; · iexact Hb1
    isplitr; · iexact Hre
    isplitr; · iexact Hb2
    iexact HL
  unfold Seeds
  isplitl [Hg Htg]
  · iapply zip
    isplitl [Hg]; · iexact Hg
    iapply (eighth_toks c) $$ Htg
  isplitl [Hs]; · iexact Hs
  isplitl [Hr HcR]
  · iapply zip
    isplitl [Hr] <;> iassumption
  isplitl [Htr]; · iexact Htr
  isplitl [Htb]; · iexact Htb
  isplitl [HatB] <;> iassumption

end Cert.KernelIdeal.Talk
end
end
-- ==== Proof.Region.lean ====
module

public import proofs.«01_k».proof.Proof.Cells
public import proofs.«01_k».proof.Proof.Gen.KernelIdeal.Points
public import proofs.«01_k».proof.Proof.Gen.KernelIdeal.Regions

/-! The kernel as one step of the whole program: what the memory holds when it starts and when it ends. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen
open Idealize.ShloMosaic.Pipeline (Dat BodyObligation)

variable {F : FTy → Type} [FloatOps F]
local notation "𝕄" => MT nD τ sig Unit (Elt F) ℕ UU ℕ

variable (D : Data F)

/-- The generator's register, at a value not chosen. -/
def Rng (c : Dev nD) : sProp 𝕄 := iprop(∃ r, prngReg c r)

/-- What a device holds when the kernel starts, but for the two staged arrays. -/
def Pre (c : Dev nD) : sProp 𝕄 := iprop((∃ K, Inv D K c ∗ Rest D c (dn 0)) ∗ Rng (F := F) c)

/-- What a device holds when the kernel has ended, but for the two staged arrays. -/
def Post (c : Dev nD) : sProp 𝕄 := iprop(Rest D c (dn 275) ∗ Rng (F := F) c)

/-- The weights of the rows, as a column. -/
abbrev colF (c : Dev nD) : Shape.Idx ⟨2, ![512, 1]⟩ → Elt F .f32 := grid fun r _ => D.val c r

/-- The two staged arrays: the row numbers and the weights. -/
def stagedA (c : Dev nD) : (w : Fin cfg0.W) → Buf (Elt F) ((cfg0.win w).arr.view.loc (c.tc : Thread nD τ))
  | 0 => idxF D c
  | 1 => colF D c
  | ⟨_ + 2, h⟩ => absurd h (Nat.not_lt.2 (Nat.le_add_left _ _))

/-- Their staging buffers, which the kernel leaves as it finds them. -/
def stagedB (c : Dev nD) : (w : Fin cfg0.W) → Fin cfg0.N → (cfg0.win w).block.Idx → Elt F (cfg0.win w).elt
  | 0 => fun _ => idxF D c
  | 1 => fun _ => colF D c
  | ⟨_ + 2, h⟩ => absurd h (Nat.not_lt.2 (Nat.le_add_left _ _))

/-- The record of the kernel's one point. -/
def kdat (c : Dev nD) : Dat τ (Elt F) Unit ℕ UU ℕ cfg0 c where
  A := stagedA D c
  after := stagedB D c
  Φ t := if t.val = 0 then Pre D c else Post D c
  q _ := fullShare
  owed t := if t.val = 0 then Ow c (dn 0) else 0

/-- The records of the program's one kernel. -/
def kdats (p : Fin 1) (c : Dev nD) : Dat τ (Elt F) Unit ℕ UU ℕ (cfgs p) c := kdat D c

/-- The row numbers' staging buffer holds the row numbers. -/
theorem found0 (c : Dev nD) (t : Fin cfg0.N) (d : (cfg0.win 0).block.Idx → Elt F (cfg0.win 0).elt) : (kdat D c).before 0 t d = idxF D c := by
  rw [Dat.before, if_pos (fetch0_0 t)]
  unfold Dat.fetched Dat.blockOf
  dsimp only [kdat]
  funext j
  refine Eq.trans (b := idxF D c (((win0 0).rect t).emb j)) rfl (congrArg (idxF D c) (funext fun i => Fin.ext ?_))
  show 0 * _ + 1 * (j i).val = (j i).val
  rw [Nat.zero_mul, Nat.zero_add, Nat.one_mul]

/-- The weights' staging buffer holds the weights. -/
theorem found1 (c : Dev nD) (t : Fin cfg0.N) (d : (cfg0.win 1).block.Idx → Elt F (cfg0.win 1).elt) : (kdat D c).before 1 t d = colF D c := by
  rw [Dat.before, if_pos (fetch0_1 t)]
  unfold Dat.fetched Dat.blockOf
  dsimp only [kdat]
  funext j
  refine Eq.trans (b := colF D c (((win0 1).rect t).emb j)) rfl (congrArg (colF D c) (funext fun i => Fin.ext ?_))
  show 0 * _ + 1 * (j i).val = (j i).val
  rw [Nat.zero_mul, Nat.zero_add, Nat.one_mul]

/-- At the end a device owes nothing. -/
theorem ow_end (c : Dev nD) : Ow c (dn 275) = 0 := by
  unfold Ow
  rw [Finset.sum_eq_zero, Finset.sum_eq_zero, add_zero]
  · intro j _; rw [dn_end (by simp), if_pos rfl]
  · intro x _; rw [dn_end (by cases x <;> simp [sendAct]), if_pos rfl]

/-- What is owed as the kernel starts. -/
theorem kowed_first (c : Dev nD) : (kdat D c).owed t0_0.castSucc = Ow c (dn 0) := by
  show (if (t0_0.castSucc : Fin (cfg0.N + 1)).val = 0 then Ow c (dn 0) else 0) = _; exact if_pos rfl
/-- Nothing is owed as the kernel ends. -/
theorem kowed_last (c : Dev nD) : (kdat D c).owed (Fin.last cfg0.N) = 0 := by
  show (if (Fin.last cfg0.N).val = 0 then Ow c (dn 0) else 0) = 0
  rw [Fin.val_last, if_neg (by rw [show cfg0.N = 1 from N_0]; decide)]

/-- What a device owes, as the record says it. -/
theorem owesAt_of {c : Dev nD} (t : Fin (cfg0.N + 1)) (O : CellTallies nD τ sig Unit) (h0 : (kdat D c).owed t = O) (W : Waits sig Unit) :
    (owes (c : Thread nD τ) O W : sProp 𝕄) ⊢ ((kdat D c).owesAt () t : sProp 𝕄) := by
  unfold Dat.owesAt Pipeline.owesWithin Dat.bound
  rw [h0, show (kdat D c).recorded t = Set.univ from rfl]
  iintro HO
  iexists W
  isplitr
  · ipureintro; exact fun _ _ => Or.inl trivial
  iexact HO
/-- What the record says is owed, as a device owes it. -/
theorem of_owesAt {c : Dev nD} (t : Fin (cfg0.N + 1)) (O : CellTallies nD τ sig Unit) (h0 : (kdat D c).owed t = O) :
    ((kdat D c).owesAt () t : sProp 𝕄) ⊢ iprop(∃ W, owes (c : Thread nD τ) O W) := by
  unfold Dat.owesAt Pipeline.owesWithin; rw [h0]
  iintro ⟨%W, -, HO⟩; iexists W; iexact HO

/-- What a device holds as the kernel starts. -/
theorem kΦ_first (c : Dev nD) : (kdat D c).Φ t0_0.castSucc = Pre D c := by
  show (if (t0_0.castSucc : Fin (cfg0.N + 1)).val = 0 then Pre D c else Post D c) = _; exact if_pos rfl
/-- What a device holds as the kernel ends. -/
theorem kΦ_last (c : Dev nD) : (kdat D c).Φ (Fin.last cfg0.N) = Post D c := by
  show (if (Fin.last cfg0.N).val = 0 then Pre D c else Post D c) = _
  rw [Fin.val_last, if_neg (by rw [show cfg0.N = 1 from N_0]; decide)]
/-- The kernel's one point is its last. -/
theorem succ_last : t0_0.succ = Fin.last cfg0.N := Fin.ext (by rw [Fin.val_last, show cfg0.N = 1 from N_0]; rfl)

/-- The two staged arrays, as a piece. -/
theorem cst_eq (c : Dev nD) (d : Act → Bool) : st D c d .cst
    = iprop((((c : Thread nD τ).loc cc0_stg0_0) ↦{fullShare} idxF D c) ∗ (((c : Thread nD τ).loc cc0_stg1_0) ↦{fullShare} colF D c)) := rfl

/-- The kernel's point: from what the launch makes to what the program leaves. -/
theorem kbody (hD : ∀ c r, (D.idx c r).toNat < 8192) (c : Dev nD) : BodyObligation (kdat D c) defs₀ 𝒱₀ () Set.univ := fun t => by
  obtain rfl := fin_N0 t
  have hb (K : GSem nD τ sig → ℕ) : St D K c 0 ⊢ wp frame (wpE (defs₀ (F := F)) 𝒱₀ c.tc none) Set.univ (defs₀ .tc cfg0.body (cfg0.bodyArgs t0_0 (cfg0.slots t0_0))) (fun _ => St D K c 275) := by
    obtain ⟨_, h, rfl⟩ := body_steps (F := F) (D := D) (K := K) (c := c) hD
    exact h
  rw [bigSep_W0, bigSep_W0]
  rw [kΦ_first, succ_last, kΦ_last]
  have h0 (d) : (owns (c : Thread nD τ) (Memref.whole cc0_stg0_0) fullShare ((kdat D c).before 0 t0_0 d) : sProp 𝕄) ⊢ ((c : Thread nD τ).loc cc0_stg0_0) ↦{fullShare} idxF D c := by
    rw [found0]; exact Entails.of_eq (owns_whole _ _ _ _)
  have h1 (d) : (owns (c : Thread nD τ) (Memref.whole cc0_stg1_0) fullShare ((kdat D c).before 1 t0_0 d) : sProp 𝕄) ⊢ ((c : Thread nD τ).loc cc0_stg1_0) ↦{fullShare} colF D c := by
    rw [found1]; exact Entails.of_eq (owns_whole _ _ _ _)
  have e0 : (((c : Thread nD τ).loc cc0_stg0_0) ↦{fullShare} idxF D c : sProp 𝕄) ⊢ owns (c : Thread nD τ) (Memref.whole cc0_stg0_0) fullShare (idxF D c) :=
    Entails.of_eq (owns_whole _ _ _ _).symm
  have e1 : (((c : Thread nD τ).loc cc0_stg1_0) ↦{fullShare} colF D c : sProp 𝕄) ⊢ owns (c : Thread nD τ) (Memref.whole cc0_stg1_0) fullShare (colF D c) :=
    Entails.of_eq (owns_whole _ _ _ _).symm
  have ha : iprop(Rest D c (dn 0) ∗ (((c : Thread nD τ).loc cc0_stg0_0) ↦{fullShare} idxF D c) ∗ (((c : Thread nD τ).loc cc0_stg1_0) ↦{fullShare} colF D c)) ⊢ (All D c (dn 0) : sProp 𝕄) :=
    (all_rest D c (dn 0)).2
  have hz : (All D c (dn 275) : sProp 𝕄) ⊢ iprop(Rest D c (dn 275) ∗ (((c : Thread nD τ).loc cc0_stg0_0) ↦{fullShare} idxF D c) ∗ (((c : Thread nD τ).loc cc0_stg1_0) ↦{fullShare} colF D c)) :=
    (all_rest D c (dn 275)).1
  have hO := of_owesAt D (c := c) t0_0.castSucc _ (kowed_first D c)
  have hO' := fun W => owesAt_of D (c := c) (Fin.last cfg0.N) 0 (kowed_last D c) W
  unfold Pre Post
  iintro ⟨⟨⟨%K, #HI, HR⟩, Hrng⟩, HO, ⟨⟨%d0, H0⟩, ⟨%d1, H1⟩⟩⟩
  ihave H0 := (h0 d0) $$ H0
  ihave H1 := (h1 d1) $$ H1
  ihave HO := hO $$ HO
  ihave HA := ha $$ [HR H0 H1]
  · isplitl [HR]; · iexact HR
    isplitl [H0] <;> iassumption
  icases HO with ⟨%W, HO⟩
  have hfull (K : GSem nD τ sig → ℕ) (W : Waits sig Unit) : iprop(Inv D K c ∗ All D c (dn 0) ∗ owes (c : Thread nD τ) (Ow c (dn 0)) W ∗ Rng (F := F) c)
      ⊢ (wp frame (wpE (defs₀ (F := F)) 𝒱₀ c.tc none) Set.univ (defs₀ .tc cfg0.body (cfg0.bodyArgs t0_0 (cfg0.slots t0_0)))
        (fun _ => iprop(St D K c 275 ∗ Rng (F := F) c)) : sProp 𝕄) := by
    refine BIBase.Entails.trans ?_ (wp_frame_r frame _ _)
    iintro ⟨#HI, HA, HO, Hr⟩
    isplitr [Hr]
    · iapply (hb K)
      unfold St
      isplitr; · iexact HI
      isplitl [HA]; · iexact HA
      iexists W; iexact HO
    iexact Hr
  have hpost (K : GSem nD τ sig → ℕ) : iprop(St D K c 275 ∗ Rng (F := F) c)
      ⊢ (iprop((Rest D c (dn 275) ∗ Rng (F := F) c) ∗ (kdat D c).owesAt () (Fin.last cfg0.N)
        ∗ owns (c : Thread nD τ) (Memref.whole cc0_stg0_0) fullShare (idxF D c) ∗ owns (c : Thread nD τ) (Memref.whole cc0_stg1_0) fullShare (colF D c)) : sProp 𝕄) := by
    unfold St
    rw [ow_end]
    iintro ⟨⟨-, HA, ⟨%W, HO⟩⟩, Hr⟩
    ihave H := hz $$ HA
    icases H with ⟨HR, H0, H1⟩
    isplitl [HR Hr]
    · isplitl [HR] <;> iassumption
    isplitl [HO]
    · iapply (hO' W); iexact HO
    isplitl [H0]
    · iapply e0; iexact H0
    iapply e1; iexact H1
  iapply (wp_mono frame (wpE (defs₀ (F := F)) 𝒱₀ c.tc none) Set.univ fun _ => hpost K)
  iapply (hfull K W)
  isplitr; · iexact HI
  isplitl [HA]; · iexact HA
  isplitl [HO] <;> iassumption

end Cert.KernelIdeal.Talk
end
end
-- ==== Proof.Enter.lean ====
module

public import proofs.«01_k».proof.Proof.Region

/-! The kernel's place among the steps of the whole program: what it takes from the host operations and what it gives back. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen
open Idealize.ShloMosaic.Pipeline (Dat BodyObligation)

variable {F : FTy → Type} [FloatOps F]
local notation "𝕄" => MT nD τ sig Unit (Elt F) ℕ UU ℕ

/-- The data the proof speaks of is what the memory holds when the kernel starts, and the result what it holds after. -/
structure Fits (m : (ℓ : Loc nD τ sig) → Buf (Elt F) ℓ) (outs : Outs (F := F)) (D : Data F) : Prop where
  idx (c : Dev nD) : V5 m c main_v29 = idxF D c
  val (c : Dev nD) : V5 m c main_v31 = colF D c
  tab (c : Dev nD) : (grid (D.tab c) : Shape.Idx ⟨2, ![8192, 2048]⟩ → Elt F .f32) = V5 m c main_arg1
  res (c : Dev nD) : outs 6 main_v32 c = (grid (oF D (px c)) : Shape.Idx ⟨2, ![4096, 2048]⟩ → Elt F .f32)
  small (c : Dev nD) (r : ℕ) : (D.idx c r).toNat < 8192

/-- The barrier's counter, back at zero. -/
abbrev Yk (c : Dev nD) : sProp 𝕄 := semVal (bc c) 0

/-- The two arrays the kernel addresses itself: the table's block and the result. -/
abbrev Hs : Finset (DevRef τ sig) := {Proc.devRef .tc main_arg1, Proc.devRef .tc main_v32}

/-- The arrays that are not staged. -/
abbrev Sr : Finset (DevRef τ sig) := Pipeline.ucRefs τ sig \ Pipeline.arrRefs (τ := τ) spec0

/-- The two arrays the kernel addresses are not staged. -/
theorem Hs_sub : Hs ⊆ Sr := by decide +kernel
/-- The staged arrays are among the arrays. -/
theorem arr_sub : Pipeline.arrRefs (τ := τ) spec0 ⊆ Pipeline.ucRefs τ sig := by decide +kernel

/-- The two arrays the kernel addresses, one by one. -/
theorem held_Hs (c : Dev nD) (W : Valuation τ sig (Elt F)) : (StableHlo.held (c.tc : Thread nD τ) Hs W : sProp 𝕄)
    = iprop((((c : Thread nD τ).loc main_arg1) ↦{fullShare} W main_arg1) ∗ (((c : Thread nD τ).loc main_v32) ↦{fullShare} W main_v32)) := by
  unfold StableHlo.held
  rw [bigSep_insert (by decide), bigSep_singleton]
  rfl

/-- The kernel's own semaphores are in its scope, each once. -/
theorem own_facts : Pipeline.OwnSemFacts spec0 osem :=
  ⟨by decide +kernel, osem_inj, by decide +kernel⟩

/-- The facts about the launch that the staging asks for. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

variable (m : (ℓ : Loc nD τ sig) → Buf (Elt F) ℓ) (outs : Outs (F := F)) (D : Data F)

/-- What a device has before the kernel makes up what the kernel starts with. -/
theorem enter [∀ e, Nonempty (Elt F e)] (h : Fits m outs D) (c : Dev nD) :
    iprop(Pipeline.scopedRest (Pipeline.pin (pcfgs (F := F)) adm 0).spec c ∗ (∃ r, prngReg c r) ∗ StableHlo.held (c.tc : Thread nD τ) Hs (V5 m c) ∗ Xk D c)
      ⊢ ((kdats D 0 c).Φ 0 : sProp 𝕄) := by
  refine BIBase.Entails.trans ?_ (Entails.of_eq (kΦ_first D c).symm)
  have hs : (Pipeline.scopedRest (Pipeline.pin (pcfgs (F := F)) adm 0).spec c : sProp 𝕄) ⊢ Scr (F := F) c := Entails.of_eq (scopedRest0_eq c)
  have hr := rest_start D c _ (h.tab c)
  rw [held_Hs]
  unfold Pre Xk Rng
  iintro ⟨Hs, Hp, ⟨Ha, Ho⟩, ⟨%K, #HI, Hse⟩⟩
  isplitr [Hp]
  · iexists K
    isplitr; · iexact HI
    iapply hr
    isplitl [Hse]; · iexact Hse
    isplitl [Hs]; · iapply hs; iexact Hs
    isplitl [Ha]; · iexact Ha
    iexists _; iexact Ho
  iexact Hp

/-- What the kernel ends with gives back what it was lent. -/
theorem leave (h : Fits m outs D) (c : Dev nD) :
    ((kdats D 0 c).Φ (Fin.last (Pipeline.pin (pcfgs (F := F)) adm 0).N) : sProp 𝕄)
      ⊢ iprop(Pipeline.scopedRest (Pipeline.pin (pcfgs (F := F)) adm 0).spec c ∗ (∃ r, prngReg c r) ∗ StableHlo.held (c.tc : Thread nD τ) Hs (V6 m outs c)
        ∗ Pipeline.ownSems0 osem c ∗ Yk (F := F) c) := by
  refine BIBase.Entails.trans (Entails.of_eq (kΦ_last D c)) ?_
  have hs : Scr (F := F) c ⊢ (Pipeline.scopedRest (Pipeline.pin (pcfgs (F := F)) adm 0).spec c : sProp 𝕄) := Entails.of_eq (scopedRest0_eq c).symm
  have e1 : V6 m outs c main_arg1 = (grid (D.tab c) : Shape.Idx ⟨2, ![8192, 2048]⟩ → Elt F .f32) := by
    rw [V6_of m outs c main_arg1 (by decide)]; exact (h.tab c).symm
  have e2 : V6 m outs c main_v32 = (grid (oF D (px c)) : Shape.Idx ⟨2, ![4096, 2048]⟩ → Elt F .f32) := by
    rw [← h.res c]; exact Function.update_self _ _ _
  have hr := rest_end D c
  rw [held_Hs, e1, e2]
  unfold Post Rng Pipeline.ownSems0
  iintro ⟨HR, Hp⟩
  ihave H := hr $$ HR
  icases H with ⟨Hc, Hb, Hsc, Ha, Ho⟩
  isplitl [Hsc]; · iapply hs; iexact Hsc
  isplitl [Hp]; · iexact Hp
  isplitl [Ha Ho]; · isplitl [Ha] <;> iassumption
  isplitl [Hc]; · iexact Hc
  iexact Hb

/-- What the kernel owes is above the lowest level. -/
theorem cut_owed (c : Dev nD) (t : Fin ((Pipeline.pin (pcfgs (F := F)) adm 0).N + 1)) (g : GSem nD τ sig) (i : Unit)
    (h : 0 < (kdats D 0 c).owed t g i) : i ∈ Lx g ∧ (0 : ℕ) < lv g i := by
  have e : (kdats D 0 c).owed t = if t.val = 0 then Ow c (dn 0) else 0 := rfl
  rw [e] at h
  split at h
  · rcases owed_of_pos c (dn 0) g i h with ⟨x, _, rfl⟩ | ⟨j, _, rfl⟩
    · exact ⟨by rw [Lx_tc]; exact Finset.mem_singleton_self _, by rw [lv_r]; exact Nat.succ_pos _⟩
    · exact ⟨by rw [Lx_tc]; exact Finset.mem_singleton_self _, by rw [lv_bc]; exact Nat.one_pos⟩
  · exact absurd h (Nat.lt_irrefl 0)

/-- The staging's semaphores are at the lowest level. -/
theorem stage_low (c : Dev nD) : ∀ (w : Fin 2) (s : Fin (spec0 w).nbuf), lv ((c : Thread nD τ), .dma ((spec0 w).sem s)) () ≤ 0 := by
  revert c; decide +kernel

/-- The staged arrays before the kernel. -/
theorem staged_before (h : Fits m outs D) (c : Dev nD) (w : Fin cfg0.W) (n : ℕ) :
    (kdat D c).arrAt w n = V5 m c (Proc.devRef .tc (Pipeline.arrRef cfg0.spec w)) := by
  match w with
  | 0 => exact (Dat.arrAt_in _ 0 rfl n).trans (h.idx c).symm
  | 1 => exact (Dat.arrAt_in _ 1 rfl n).trans (h.val c).symm

/-- The staged arrays after the kernel. -/
theorem staged_after (h : Fits m outs D) (c : Dev nD) (w : Fin cfg0.W) (n : ℕ) :
    (kdat D c).arrAt w n = V6 m outs c (Proc.devRef .tc (Pipeline.arrRef cfg0.spec w)) := by
  rw [staged_before m outs D h c w n]
  match w with
  | 0 => exact (V6_of m outs c main_v29 (by decide)).symm
  | 1 => exact (V6_of m outs c main_v31 (by decide)).symm

/-- The kernel changes no array beside those it addresses. -/
theorem rest_same (c : Dev nD) : ∀ b ∈ Sr \ Hs, V6 m outs c b = V5 m c b := fun b hb => by
  have hne : b ≠ Proc.devRef .tc main_v32 := fun e => (Finset.mem_sdiff.mp hb).2 (by rw [e]; decide)
  exact Function.update_of_ne hne _ _

set_option backward.isDefEq.respectTransparency.types false in
/-- The kernel among the program's steps. -/
def reg [∀ e, Nonempty (Elt F e)] (h : Fits m outs D) : Pipeline.RegionSeg (pcfgs (F := F)) adm (kdats D) () defs₀ 𝒱₀ Lx lv 0 :=
  Pipeline.RegionSeg.ofTalk (pcfgs (F := F)) adm (kdats D) () defs₀ 𝒱₀ Lx lv 0 osem own_facts
    Hs Sr Hs_sub kit rfl (fun c => (kbody D h.small c).loose)
    (fun _ => 0) due0 (fun c => (kowed_first D c).trans (zero_add _).symm) (kowed_last D) (fun _ => rfl) (fun _ _ => by unfold Dat.share; split <;> rfl)
    (V5 m) (V6 m outs) (rest_same m outs)
    (Tk D) Yk (Xk D) Yk (open_kernel D) (enter m outs D h) (leave m outs D h)
    (fun c => by iintro H; imodintro; iexact H)
    (fun _ => 0)
    ⟨fun c w s => by rw [Lx_tc]; exact Finset.mem_singleton_self _, fun c w s => stage_low c w s, fun c t g i hg => cut_owed D c t g i hg⟩
    (fun _ => iprop(emp))
    (fun c w => staged_before m outs D h c w 0) (fun c w => staged_after m outs D h c w _)

/-- What rides along before the kernel, and after it. -/
def Along (i : Fin 2) (c : Dev nD) : sProp 𝕄 :=
  if i.val = 0 then iprop(Tk D c ∗ (∃ r, prngReg c r) ∗ ∃ W, owes (c : Thread nD τ) (due0 c) W)
  else iprop(Yk c ∗ ∃ W, owes (c : Thread nD τ) (0 : CellTallies nD τ sig Unit) W)

/-- The arrays: those staged, those addressed, and the others. -/
theorem held_parts (c : Dev nD) (W : Valuation τ sig (Elt F)) : (StableHlo.held (c.tc : Thread nD τ) (Pipeline.ucRefs τ sig) W : sProp 𝕄)
    = iprop(StableHlo.held (c.tc : Thread nD τ) (Pipeline.arrRefs (τ := τ) spec0) W ∗ StableHlo.held (c.tc : Thread nD τ) Sr W) :=
  StableHlo.held_sub_split _ arr_sub W

/-- What the steps before leave is what the kernel asks for. -/
theorem reg_pre [∀ e, Nonempty (Elt F e)] (h : Fits m outs D) (c : Dev nD) :
    iprop(StableHlo.held (c : Thread nD τ) (Pipeline.ucRefs τ sig) (V5 m c) ∗ Along D 0 c) ⊢ (reg m outs D h).pre c := by
  show _ ⊢ iprop(StableHlo.held (c.tc : Thread nD τ) (Pipeline.arrRefs (τ := τ) spec0) (V5 m c) ∗ (∃ r, prngReg c r)
    ∗ (StableHlo.held (c.tc : Thread nD τ) Sr (V5 m c) ∗ emp) ∗ Tk D c ∗ ∃ Wd, owes (c : Thread nD τ) (0 + due0 c) Wd)
  rw [zero_add, show Along D 0 c = iprop(Tk D c ∗ (∃ r, prngReg c r) ∗ ∃ W, owes (c : Thread nD τ) (due0 c) W) from rfl, held_parts]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What the kernel leaves is what the steps after ask for. -/
theorem reg_post [∀ e, Nonempty (Elt F e)] (h : Fits m outs D) (c : Dev nD) :
    (reg m outs D h).post c ⊢ iprop(StableHlo.held (c : Thread nD τ) (Pipeline.ucRefs τ sig) (V6 m outs c) ∗ Along D 1 c) := by
  show iprop(StableHlo.held (c.tc : Thread nD τ) (Pipeline.arrRefs (τ := τ) spec0) (V6 m outs c) ∗ (∃ r, prngReg c r)
    ∗ (StableHlo.held (c.tc : Thread nD τ) Sr (V6 m outs c) ∗ emp) ∗ Yk c ∗ ∃ Wd, owes (c : Thread nD τ) (0 : CellTallies nD τ sig Unit) Wd) ⊢ _
  rw [show Along D 1 c = iprop(Yk c ∗ ∃ W, owes (c : Thread nD τ) (0 : CellTallies nD τ sig Unit) W) from rfl, held_parts]
  iintro ⟨Ha, -, ⟨Hr, -⟩, Hb, HO⟩
  isplitl [Ha Hr]; · isplitl [Ha] <;> iassumption
  isplitl [Hb] <;> iassumption

end Cert.KernelIdeal.Talk
end
end
-- ==== Proof.Run.lean ====
module

public import proofs.«01_k».proof.Proof.Enter

/-! The run of the whole program on all the devices. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen
open Idealize.ShloMosaic.Pipeline (Dat BodyObligation Seg)

variable {F : FTy → Type} [FloatOps F]
local notation "𝕄" => MT nD τ sig Unit (Elt F) ℕ UU ℕ

variable (m : (ℓ : Loc nD τ sig) → Buf (Elt F) ℓ) (ρ : Dev nD → PrngReg) (outs : Outs (F := F)) (D : Data F)

/-- What the launch makes: the staging's part, and the talk's. -/
def start₀ : UU :=
  (initOf (Pipeline.cells cfgs cellOf_inj) (Pipeline.launchToks cfgs cellOf_inj), launchOf barCells ownCells tokSet)

/-- The talk's part, whole. -/
abbrev whole₀ : sProp 𝕄 := BI.own (ER (launchOf barCells ownCells tokSet))

/-- The talk's part, parked on the first device until it is dealt out. -/
def parked (c : Dev nD) : sProp 𝕄 := if c = 0 then whole₀ else iprop(emp)

/-- What is parked is the talk's part, whole. -/
theorem unpark : (bigSep Finset.univ parked : sProp 𝕄) = whole₀ := by
  have h : bigSep ((Finset.univ : Finset (Dev nD)).erase 0) (parked (F := F)) = bigSep ((Finset.univ : Finset (Dev nD)).erase 0) fun _ => (BI.emp : sProp 𝕄) :=
    bigSep_congr fun c hc => if_neg (Finset.ne_of_mem_erase hc)
  rw [bigSep_univ_at _ (0 : Dev nD), h, BI.bigSep_emp_const (M := 𝕄)]
  unfold parked
  rw [if_pos rfl]
  exact BI.equiv_iff.mp sep_emp

/-- Of the semaphores outside the kernel's scope a device has its barrier only. -/
theorem only_barrier (c : Dev nD) : (unscopedSems0 c : sProp 𝕄) = semVal (bc c) 0 := by
  unfold unscopedSems0
  rw [show (Finset.univ.filter fun sm : SemLoc sig => ¬ sm.isScoped .tc) = {SemLoc.reg (sig.barrier 0 rfl)} from by decide, BI.bigSep_singleton]

/-- What a device has at the launch beside the talk's part. -/
def bundle (c : Dev nD) : sProp 𝕄 :=
  iprop((cred (tallyAt (bc c) () 3) ∗ bigSep Finset.univ fun y : RC => cred (tallyAt (gc c (.r y)) () (amt (.r y))))
    ∗ owes (c : Thread nD τ) (due0 c) ∅ ∗ ∃ r, prngReg c r)

/-- What is dealt to a device at the launch rides along to the kernel. -/
theorem along_intro (κ : GSem nD τ sig → ℕ) (c : Dev nD) : iprop(Recs D κ ∗ (Lin c ∗ bundle c)) ⊢ (Along D 0 c : sProp 𝕄) := by
  rw [show Along D 0 c = iprop(Tk D c ∗ (∃ r, prngReg c r) ∗ ∃ W, owes (c : Thread nD τ) (due0 c) W) from rfl]
  unfold bundle Tk
  iintro ⟨#HR, Hl, ⟨Hc, HO, Hp⟩⟩
  isplitl [Hl Hc]
  · isplitl [Hl]
    · iexists κ
      isplitr; · iexact HR
      iexact Hl
    iexact Hc
  isplitl [Hp]; · iexact Hp
  iexists ∅; iexact HO

/-- The launch, dealt out to the devices. -/
theorem deal :
    iprop((bigSep Finset.univ fun c : Dev nD => iprop(unscopedSems0 c ∗ owes (c : Thread nD τ) (due0 c) ∅ ∗ Pipeline.launchCred due0 c ∗ prngReg c (ρ c) ∗ parked c)) ∗ levAts Lx lv)
      ⊢ (|={Set.univ}=> bigSep Finset.univ (Along D 0) : sProp 𝕄) := by
  have hcore (c : Dev nD) : iprop(unscopedSems0 c ∗ owes (c : Thread nD τ) (due0 c) ∅ ∗ Pipeline.launchCred due0 c ∗ prngReg c (ρ c) ∗ parked c)
      ⊢ (iprop(bundle c ∗ (semVal (bc c) 0 ∗ parked c)) : sProp 𝕄) := by
    rw [only_barrier]
    unfold bundle
    iintro ⟨Hv, HO, Hcr, Hp, HG⟩
    ihave Hc := (creds (F := F) c) $$ Hcr
    isplitl [HO Hc Hp]
    · isplitl [Hc]; · iexact Hc
      isplitl [HO]; · iexact HO
      iexists (ρ c); iexact Hp
    isplitl [Hv] <;> iassumption
  have hv : bigSep Finset.univ (fun c : Dev nD => (semVal (bc c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bc c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun x : Cell => (openTok ER (gc c x) : sProp 𝕄)) :=
    Entails.of_eq (by rw [bigSep_map, bigSep_univ_prod]; rfl)
  have hall : (bigSep Finset.univ fun c : Dev nD => iprop(unscopedSems0 c ∗ owes (c : Thread nD τ) (due0 c) ∅ ∗ Pipeline.launchCred due0 c ∗ prngReg c (ρ c) ∗ parked c))
      ⊢ (bigSep Finset.univ fun c : Dev nD => iprop(bundle c ∗ (semVal (bc c) 0 ∗ parked c)) : sProp 𝕄) := bigSep_mono fun c _ => hcore c
  have hwhole : (bigSep Finset.univ parked : sProp 𝕄) ⊢ whole₀ := Entails.of_eq unpark
  have hhome : bigSep tokSet (fun x => (dutyTok ER x.1 x.2.1 x.2.2 : sProp 𝕄)) ⊢ bigSep Finset.univ fun c : Dev nD => HomeToks c := Entails.of_eq toks_home
  iintro ⟨H, -⟩
  ihave H1 := hall $$ H
  ihave H2 := unzip $$ H1
  icases H2 with ⟨HB, H3⟩
  ihave H4 := unzip $$ H3
  icases H4 with ⟨Hv, HG⟩
  ihave Hu := hwhole $$ HG
  imod (Rounds.fund_launch ER (Rd D) cells_apart (fun g _ h => h) tokSet) $$ [Hv Hu] with ⟨%κ, -, #Hinv, #Hr, Hat, Hopen, Htok⟩
  · isplitl [Hv]
    · iapply hv; iexact Hv
    · iexact Hu
  imodintro
  iapply (bigSep_with_persistent (R := Recs D κ) (Φ := fun c => iprop(Lin c ∗ bundle c)) fun c _ => along_intro D κ c)
  isplitr
  · unfold Recs
    isplitr; · iexact Hinv
    iexact Hr
  iapply zip
  isplitr [HB]
  · unfold Lin
    iapply zip
    isplitl [Hat]; · iapply hat; iexact Hat
    iapply zip
    isplitl [Hopen]; · iapply hop; iexact Hopen
    iapply toks_away
    iapply hhome; iexact Htok
  iexact HB

/-- The one semaphore outside the kernel's scope is the barrier. -/
theorem unscoped_only : ∀ sm : SemLoc sig, sm.isScoped .tc = false → sm = .reg (sig.barrier 0 rfl) := by decide

set_option backward.isDefEq.respectTransparency.types false in
/-- The run: every device ends, its result as the data says, its arguments unchanged, and every counter at zero. -/
theorem run_main [∀ e, Nonempty (Elt F e)] (h : Fits m outs D) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v32) = (grid (oF D (px c)) : Shape.Idx ⟨2, ![4096, 2048]⟩ → Elt F .f32))
      ∧ r.2.sem = fun _ => 0) := by
  refine Pipeline.θ_run_regions_kit_dev_sems (pcfgs (F := F)) adm (kdats D) () cellOf_inj EP defs₀ 𝒱₀ Lx lv m ρ main
    (segs m 𝒱₀ Lx lv (Along D) () (kdats D) (reg m outs D h))
    (fun c Q => by
      rewrite [main_chain c, Seg.run_eq_chain,
        show (segs m 𝒱₀ Lx lv (Along D) () (kdats D) (reg m outs D h) c).map Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Seg.pipes_host, Seg.pipes_region, Seg.pipes_nil]; decide)
    due0 Lx_of_ne parked start₀
    (by
      unfold start₀
      iintro Hu
      ihave H := (ownU_pair _ _) $$ Hu
      icases H with ⟨HP, HX⟩
      imodintro
      isplitl [HP]; · iexact HP
      rw [unpark]; iexact HX)
    (T₀ := fun c => iprop(StableHlo.held (c : Thread nD τ) (Pipeline.ucRefs τ sig) (V0 m c) ∗ Along D 0 c))
    (Tₙ := fun c => iprop(StableHlo.held (c : Thread nD τ) (Pipeline.ucRefs τ sig) (V6 m outs c) ∗ Yk c))
    (hch := fun c => ⟨.rfl, .rfl, .rfl, .rfl, .rfl, reg_pre m outs D h c, (reg_post m outs D h c).trans ?_⟩)
    (hinit := ?_)
    (QY := fun c s => ((s.mem ((c.tc : Thread nD τ).loc main_arg0) = m ((c.tc : Thread nD τ).loc main_arg0) ∧ s.mem ((c.tc : Thread nD τ).loc main_arg1) = m ((c.tc : Thread nD τ).loc main_arg1))
      ∧ s.mem ((c.tc : Thread nD τ).loc main_v32) = (grid (oF D (px c)) : Shape.Idx ⟨2, ![4096, 2048]⟩ → Elt F .f32)) ∧ s.sem (bc c) = 0)
    (hfin := fun c s' => ?_)
    (hQ := fun s hq hs => ⟨fun c => (hq c).1, sem_eq_zero hs fun c sm hsm => by
      obtain rfl := unscoped_only sm hsm
      exact (hq c).2⟩)
  · rw [show Along D 1 c = iprop(Yk c ∗ ∃ W, owes (c : Thread nD τ) (0 : CellTallies nD τ sig Unit) W) from rfl]
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (due0 c) ∅ ∗ Pipeline.launchCred due0 c ∗ prngReg c (ρ c) ∗ parked c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (due0 c) ∅ ∗ Pipeline.launchCred due0 c ∗ prngReg c (ρ c) ∗ parked c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    have hd := deal ρ D
    iintro ⟨H, Hla⟩
    ihave H' := hsplit $$ H
    icases H' with ⟨Hh, Hr⟩
    imod hd $$ [Hr Hla] with HE
    · isplitl [Hr] <;> iassumption
    imodintro
    rw [bigSep_sep']
    isplitl [Hh] <;> iassumption
  · unfold StableHlo.held
    iintro ⟨⟨Hh, Hb⟩, HSI⟩
    ihave Hr := (pointsTo_read_all (Pipeline.ucRefs τ sig) (fun b => ((c : Thread nD τ).1, b)) (V6 m outs c) s') $$ [Hh HSI]
    · isplitl [Hh] <;> iassumption
    icases Hr with ⟨%hr, HSI⟩
    icombine HSI Hb gives %hb
    imodintro
    isplitr
    · ipureintro
      have hu (r : Ref sig .tc) (hr' : ¬ (Proc.devRef (τ := τ) .tc r).isScoped) := hr (Proc.devRef .tc r) (Finset.mem_filter.mpr ⟨StableHlo.devRef_mem_tcRefs r, hr'⟩)
      refine ⟨⟨⟨(hu main_arg0 (by decide)).trans (V6_main_arg0 m outs c), (hu main_arg1 (by decide)).trans (V6_main_arg1 m outs c)⟩, ?_⟩, by simpa using hb⟩
      refine (hu main_v32 (by decide)).trans ?_
      rw [← h.res c]; exact Function.update_self _ _ _
    · iexact HSI

end Cert.KernelIdeal.Talk
end
end
-- ==== Proof.Host.lean ====
module

public import proofs.«01_k».proof.Proof.Run
public import Idealize.ShloMosaic.Lib.StableHlo.Run

/-! What the host operations before the kernel hand it: the row numbers, the weights and the table's block. -/

@[expose] public section

noncomputable section

namespace Cert.KernelIdeal.Talk

open Idealize.ShloMosaic Idealize.ShloMosaic.TcCoe Idealize.ShloMosaic.Rounds Idealize.ShloMosaic.ShareLeaves
open Idealize.SL Idealize.SL.Sem Idealize.SL.RA Idealize.SL.BI
open scoped Idealize.SL.BI
open Idealize.SL.BI.BIBase Idealize.SL.BI.Laws Idealize.SL.ProofMode
open Cert.KernelIdeal.Gen
open Idealize.ShloMosaic.Pipeline (Dat BodyObligation Seg)

variable {F : FTy → Type} [FloatOps F]
local notation "𝕄" => MT nD τ sig Unit (Elt F) ℕ UU ℕ

variable (m : (ℓ : Loc nD τ sig) → Buf (Elt F) ℓ)

/-- The row numbers handed to the kernel, cut to the block. -/
theorem host_rows (c : Dev nD) : V5 m c main_v29 = minsi (broadcastInDim S512 ![] bcast_S_S512 (constantI S_ 32 8191#32))
    (maxsi (broadcastInDim S512 ![] bcast_S_S512 (constantI S_ 32 0#32)) (V3 m c main_v23)) := by
  have h3 (V : Valuation τ sig (Elt F)) : StableHlo.after hostOps0_3 V main_v29 = minsi (broadcastInDim S512 ![] bcast_S_S512 (V main_c_14))
      (maxsi (broadcastInDim S512 ![] bcast_S_S512 (V main_c_13)) (V main_v23)) := by
    after_results_simp; rfl
  have ha (V : Valuation τ sig (Elt F)) : StableHlo.after hostOps0_2 V main_c_14 = constantI S_ 32 8191#32 := by after_results_simp
  have hb (V : Valuation τ sig (Elt F)) : StableHlo.after hostOps0_2 V main_c_13 = constantI S_ 32 0#32 := by after_results_simp
  rw [V5_of m c main_v29 (by decide)]
  refine (h3 (V3 m c)).trans ?_
  rw [show V3 m c main_c_14 = _ from ha (V2 m c), show V3 m c main_c_13 = _ from hb (V2 m c)]

/-- The weights handed to the kernel. -/
theorem host_weights (c : Dev nD) : V5 m c main_v31 = broadcastInDim S512x1 ![0] bcast_S512_S512x1_0 (uitofp .f32
    (andi (cmpi .sge (V3 m c main_v23) (broadcastInDim S512 ![] bcast_S_S512 (constantI S_ 32 0#32)))
      (cmpi .slt (V3 m c main_v23) (broadcastInDim S512 ![] bcast_S_S512 (constantI S_ 32 8192#32))))) := by
  have h4 (V : Valuation τ sig (Elt F)) : StableHlo.after hostOps0_4 V main_v31 = broadcastInDim S512x1 ![0] bcast_S512_S512x1_0 (uitofp .f32 (V main_v28)) := by
    after_results_simp
  have h2 (V : Valuation τ sig (Elt F)) : StableHlo.after hostOps0_2 V main_v28
      = andi (cmpi .sge (StableHlo.after hostOps0_2 V main_v23) (broadcastInDim S512 ![] bcast_S_S512 (constantI S_ 32 0#32)))
        (cmpi .slt (StableHlo.after hostOps0_2 V main_v23) (broadcastInDim S512 ![] bcast_S_S512 (constantI S_ 32 8192#32))) := by
    after_results_simp
  refine (h4 (V4 m c)).trans ?_
  rw [V4_of m c main_v28 (by decide), show V3 m c main_v28 = _ from h2 (V2 m c)]

/-- A row number cut to the block lies in it. -/
theorem cut_small (x : BitVec 32) : (IntOp.minsi 8191#32 (IntOp.maxsi 0#32 x)).toNat < 8192 := by
  unfold IntOp.minsi IntOp.maxsi
  split
  · decide
  · next h =>
    split
    · decide
    · next h2 =>
      rw [Bool.not_eq_true, BitVec.slt, decide_eq_false_iff_not, BitVec.toInt_eq_toNat_cond, BitVec.toInt_eq_toNat_cond] at h
      rw [Bool.not_eq_true, BitVec.slt, decide_eq_false_iff_not, BitVec.toInt_eq_toNat_cond, BitVec.toInt_eq_toNat_cond] at h2
      have := x.isLt
      simp at h h2
      split at h <;> split at h2 <;> omega

/-- An index of a list of rows. -/
def rowIx (r : ℕ) : S512.Idx
  | 0 => (⟨r % 512, Nat.mod_lt _ (by decide)⟩ : Fin 512)

/-- An index of a column of rows. -/
def colIx (r : ℕ) : S512x1.Idx
  | 0 => (⟨r % 512, Nat.mod_lt _ (by decide)⟩ : Fin 512)
  | 1 => (⟨0, by decide⟩ : Fin 1)

/-- An index of the table's block. -/
def tabIx (r k : ℕ) : S8192x2048.Idx
  | 0 => (⟨r % 8192, Nat.mod_lt _ (by decide)⟩ : Fin 8192)
  | 1 => (⟨k % 2048, Nat.mod_lt _ (by decide)⟩ : Fin 2048)

/-- The data of what the devices' arrays hold when the kernel is called. -/
def dataBy (V : Dev nD → Valuation τ sig (Elt F)) : Data F where
  idx c r := V c main_v29 (rowIx r)
  val c r := V c main_v31 (colIx r)
  tab c r k := V c main_arg1 (tabIx r k)

/-- The data of a memory. -/
def dataOf : Data F := dataBy (V5 m)

/-- The kernel's results from a memory; other buffers as they are. -/
def outsOf : Outs (F := F) := fun _ r c =>
  if h : main_v32 = r then h ▸ (grid (oF (dataOf m) (px c)) : Shape.Idx ⟨2, ![4096, 2048]⟩ → Elt F .f32) else m ((c : Thread nD τ).loc r)

/-- An index of a list of rows is that of its number. -/
theorem rowIx_val (i : S512.Idx) : rowIx (i 0).val = i := funext fun a =>
  match a with
  | 0 => Fin.ext (Nat.mod_eq_of_lt (i 0).isLt)

/-- An index of a column of rows is that of its number. -/
theorem colIx_val (i : S512x1.Idx) : colIx (i 0).val = i := funext fun a =>
  match a with
  | 0 => Fin.ext (Nat.mod_eq_of_lt (i 0).isLt)
  | 1 => Fin.ext (Nat.lt_one_iff.mp (i 1).isLt).symm

/-- An index of the table's block is that of its row and column. -/
theorem tabIx_val (i : S8192x2048.Idx) : tabIx (i 0).val (i 1).val = i := funext fun a =>
  match a with
  | 0 => Fin.ext (Nat.mod_eq_of_lt (i 0).isLt)
  | 1 => Fin.ext (Nat.mod_eq_of_lt (i 1).isLt)

/-- The row numbers the host hands the kernel are rows of the table's block. -/
theorem rows_small (c : Dev nD) (i : S512.Idx) : BitVec.toNat (V5 m c main_v29 i) < 8192 := by
  rw [host_rows]
  exact cut_small _

/-- The rows are read back from the data. -/
theorem idx_of (f : Dev nD → S512.Idx → BitVec 32) (D : Data F) (h : D.idx = fun c r => f c (rowIx r)) (c : Dev nD) : f c = idxF D c := by
  funext i
  show _ = D.idx c (i 0).val
  rw [h]
  show _ = f c (rowIx (i 0).val)
  rw [rowIx_val]

/-- So are the factors. -/
theorem val_of (f : Dev nD → S512x1.Idx → Elt F .f32) (D : Data F) (h : D.val = fun c r => f c (colIx r)) (c : Dev nD) : f c = colF D c := by
  funext i
  show _ = D.val c (i 0).val
  rw [h]
  show _ = f c (colIx (i 0).val)
  rw [colIx_val]

/-- So is the table. -/
theorem tab_of (f : Dev nD → S8192x2048.Idx → Elt F .f32) (D : Data F) (h : D.tab = fun c r k => f c (tabIx r k)) (c : Dev nD) :
    (grid (D.tab c) : Shape.Idx ⟨2, ![8192, 2048]⟩ → Elt F .f32) = f c := by
  funext i
  show D.tab c (i 0).val (i 1).val = _
  rw [h]
  show f c (tabIx (i 0).val (i 1).val) = _
  rw [tabIx_val]

/-- The data's row numbers are those in the devices' arrays. -/
theorem fits_idx (V : Dev nD → Valuation τ sig (Elt F)) (c : Dev nD) : V c main_v29 = idxF (dataBy V) c :=
  idx_of (fun c => V c main_v29) (dataBy V) rfl c
/-- The data's weights are those in the devices' arrays. -/
theorem fits_val (V : Dev nD → Valuation τ sig (Elt F)) (c : Dev nD) : V c main_v31 = colF (dataBy V) c :=
  val_of (fun c => V c main_v31) (dataBy V) rfl c
/-- The data's table is that in the devices' arrays. -/
theorem fits_tab (V : Dev nD → Valuation τ sig (Elt F)) (c : Dev nD) :
    (grid ((dataBy V).tab c) : Shape.Idx ⟨2, ![8192, 2048]⟩ → Elt F .f32) = V c main_arg1 :=
  tab_of (fun c => V c main_arg1) (dataBy V) rfl c
/-- Row numbers below 8192 in the arrays are so in the data. -/
theorem fits_small (V : Dev nD → Valuation τ sig (Elt F)) (h : ∀ c (i : S512.Idx), BitVec.toNat (V c main_v29 i) < 8192) (c : Dev nD) (r : ℕ) :
    ((dataBy V).idx c r).toNat < 8192 := h c (rowIx r)
/-- The kernel's result is the widened result of the data. -/
theorem fits_res (c : Dev nD) : outsOf m 6 main_v32 c = (grid (oF (dataOf m) (px c)) : Shape.Idx ⟨2, ![4096, 2048]⟩ → Elt F .f32) := by
  unfold outsOf
  exact dif_pos rfl
/-- The data of a memory fits it. -/
theorem fits : Fits m (outsOf m) (dataOf m) := ⟨fits_idx (V5 m), fits_val (V5 m), fits_tab (V5 m), fits_res m, fits_small (V5 m) (rows_small m)⟩

/-- The run from any memory. -/
theorem run_any [∀ e, Nonempty (Elt F e)] (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v32) = (grid (oF (dataOf m) (px c)) : Shape.Idx ⟨2, ![4096, 2048]⟩ → Elt F .f32))
      ∧ r.2.sem = fun _ => 0) :=
  run_main m ρ (outsOf m) (dataOf m) (fits m)

end Cert.KernelIdeal.Talk
end
end
-- ==== Proof.Same.lean ====
module

public import proofs.«01_k».proof.Defs

/-! The kernel's program and its idealization: no operation was replaced, so the two tables of bodies agree. -/

@[expose] public section
noncomputable section

open Idealize.ShloMosaic Idealize.ShloMosaic.TcCoe Idealize.SL.Sem

namespace Cert

variable {F : FTy → Type} [FloatOps F] [Kernel.Facts] [KernelIdeal.Facts]

set_option maxHeartbeats 0
set_option maxRecDepth 100000

/-- The kernels' own bodies are the same in both. -/
theorem s_defs0 : Kernel.defs₀ (F := F) = KernelIdeal.defs₀ (F := F) := by
  unfold Kernel.defs₀ KernelIdeal.defs₀
  refine congrArg (Defs.onTc (nD := KernelIdeal.nD) (τ := KernelIdeal.τ) (sig := KernelIdeal.sig) (Val := Elt F) (Λ := KernelIdeal.Λ₀)) ?_
  funext l x
  revert x
  refine Fin.cases ?_ (fun i => i.elim0) l
  rintro ⟨t, s⟩
  rfl

/-- So are the bodies with the pipelines about them. -/
theorem s_defs : Kernel.defs (F := F) = KernelIdeal.defs (F := F) :=
  congrArg (Pipeline.defs (KernelIdeal.pcfgs (F := F))) s_defs0

/-- So is the host's program. -/
theorem s_main : Kernel.main (F := F) = KernelIdeal.main (F := F) := rfl

end Cert
end
end
-- ==== Proof.Frames.lean ====
module

public import proofs.«01_k».proof.Proof.Gen.Kernel
public import proofs.«01_k».proof.Proof.Gen.ReferenceIdeal.Run
public import proofs.«01_k».proof.Proof.Host
public import proofs.«01_k».proof.Proof.Same

/-! The program, its idealization and the reference run to the end from every memory, with their arguments as they were
and every semaphore back at zero. -/

@[expose] public section
noncomputable section

namespace Cert

open Idealize.ShloMosaic Idealize.ShloMosaic.TcCoe Idealize.SL.Sem

/-- Every element type has a value, in bits. -/
theorem bits_inhabited : ∀ e, Nonempty (Elt Bits e) := fun e => by cases e <;> exact inferInstance
/-- Every element type has a value, idealized. -/
theorem ideal_inhabited : ∀ e, Nonempty (Elt Ideal e) := fun e => by cases e <;> exact inferInstance

/-- The idealization's frame. -/
theorem frame_ideal : quiescent_KernelIdeal (hKernelIdeal := KernelIdeal.Gen.facts) := fun m g _ =>
  haveI := ideal_inhabited
  (θ_run (KernelIdeal.defs (F := Ideal)) _ _).mono (fun _ h => ⟨fun c => (h.1 c).1, h.2⟩) (KernelIdeal.Talk.run_any (F := Ideal) m g)

/-- The program's frame, by way of the idealization's text, which is its own. -/
theorem frame_bits : quiescent_Kernel (hKernel := Kernel.Gen.facts) := by
  letI := KernelIdeal.Gen.facts
  letI := Kernel.Gen.facts
  intro m g _
  haveI := bits_inhabited
  have h := KernelIdeal.Talk.run_any (F := Bits) m g
  rw [← s_main, ← s_defs] at h
  exact (θ_run (Kernel.defs (F := Bits)) _ _).mono (fun _ h => ⟨fun c => (h.1 c).1, h.2⟩) h

/-- The reference's frame: it declares no semaphore. -/
theorem frame_reference : quiescent_ReferenceIdeal (hReferenceIdeal := ReferenceIdeal.Gen.facts) := fun m g _ =>
  (θ_run (ReferenceIdeal.defs (F := Ideal)) _ _).mono (fun r h => ⟨fun c => (h c).2, sem_eq_zero_of_no_sems (by decide) r.2⟩)
    (ReferenceIdeal.Value.run (F := Ideal) m g)

end Cert
end
end
-- ==== Proof.Stripe.lean ====
module

public import proofs.«01_k».proof.Proof.Host
public import Idealize.ShloMosaic.Lib.DynamicIndex

/-! The row numbers a device's host operations pick: its stripe of the list, less the first row of its block. -/

@[expose] public section

noncomputable section

namespace Cert.KernelIdeal.Talk

open Idealize.ShloMosaic Idealize.ShloMosaic.TcCoe
open Idealize.SL Idealize.SL.Sem
open Cert.KernelIdeal.Gen

variable {F : FTy → Type} [FloatOps F]

variable (m : (ℓ : Loc nD τ sig) → Buf (Elt F) ℓ)

/-- A start, moved by the list's length where it is negative. -/
def startOf (w : IVec S_ 32) : IVec S_ 32 :=
  select (cmpi .slt (muli w (constantI S_ 32 512#32)) (constantI S_ 32 0#32))
    (addi (muli w (constantI S_ 32 512#32)) (constantI S_ 32 4096#32)) (muli w (constantI S_ 32 512#32))

/-- The host cuts a device's stripe from the list and takes off the first row of its half. -/
theorem cut_rows (V : Valuation τ sig (Elt F)) : StableHlo.after hostOps0_2 V main_v23
    = subi (Host.dynamicSlice S512 (V main_arg0) (fun _ => BitVec.toInt (startOf (V main_v15) (Shape.Idx.first h_S_))) sliceFits_S4096_S512)
      (broadcastInDim S512 ![] bcast_S_S512 (muli (V main_v4) (constantI S_ 32 8192#32))) := by
  after_results_simp
  congr 2
  funext k
  fin_cases k
  after_results_simp
  rfl

/-- The half the host computes is the device's. -/
theorem half_num : ∀ c : Dev nD, IntOp.remui .host (IntOp.divui .host c.word 8#32) 2#32 = BitVec.ofNat 32 (px c) := by decide +kernel

/-- The place the host computes is the device's. -/
theorem place_num : ∀ c : Dev nD, Scalar.select (IntOp.cmpi .eq (IntOp.remui .host (IntOp.divui .host c.word 4#32) 2#32) 0#32)
    (IntOp.remui .host (IntOp.divui .host c.word 1#32) 4#32)
    (IntOp.subi 7#32 (IntOp.remui .host (IntOp.divui .host c.word 1#32) 4#32)) = BitVec.ofNat 32 (pz c) := by decide +kernel

/-- The stripe's start the host computes is 512 times the place. -/
theorem start_num : ∀ (c : Dev nD) (i : S_.Idx), BitVec.toInt (startOf (fun _ => BitVec.ofNat 32 (pz c)) i) = ((512 * pz c : ℕ) : ℤ) := by
  have h : ∀ z : Fin 8, BitVec.toInt (Scalar.select (IntOp.cmpi .slt (IntOp.muli (BitVec.ofNat 32 z.val) 512#32) 0#32)
      (IntOp.addi (IntOp.muli (BitVec.ofNat 32 z.val) 512#32) 4096#32) (IntOp.muli (BitVec.ofNat 32 z.val) 512#32)) = ((512 * z.val : ℕ) : ℤ) := by decide +kernel
  exact fun c _ => h ⟨pz c, pz_lt c⟩

/-- The half of a device, as its host operations count it. -/
theorem half_word (c : Dev nD) : V2 m c main_v4 = fun _ => BitVec.ofNat 32 (px c) := by
  have h (V : Valuation τ sig (Elt F)) : StableHlo.after (hostOps0 c) V main_v4 = fun _ => BitVec.ofNat 32 (px c) := by
    after_results_simp
    exact funext fun i => half_num c
  rw [V2_of m c main_v4 (by decide)]
  exact h (V0 m c)

/-- The place of a device on its ring, as its host operations count it. -/
theorem place_word (c : Dev nD) : V2 m c main_v15 = fun _ => BitVec.ofNat 32 (pz c) := by
  have h (V : Valuation τ sig (Elt F)) : StableHlo.after hostOps0_1 (StableHlo.after (hostOps0 c) V) main_v15 = fun _ => BitVec.ofNat 32 (pz c) := by
    after_results_simp
    exact funext fun i => place_num c
  exact h (V0 m c)

/-- An index of the list. -/
def listIx (n : ℕ) : S4096.Idx
  | 0 => (⟨n % 4096, Nat.mod_lt _ (by decide)⟩ : Fin 4096)

/-- A stripe of the list, row by row. -/
theorem stripe_pick {α : Type} (x : S4096.Idx → α) (st : Fin S4096.rank → ℤ) {z q : ℕ} (hz : z < 8) (hq : q < 512)
    (h : ∀ a, st a = ((512 * z : ℕ) : ℤ)) : Host.dynamicSlice S512 x st sliceFits_S4096_S512 (rowIx q) = x (listIx (512 * z + q)) := by
  have hs : S4096.Slices (fun _ => 512 * z) S512 := ⟨rfl, fun a => by
    fin_cases a
    show 512 * z + 512 ≤ 4096
    omega⟩
  rw [Host.dynamicSlice_eq_extractStridedSlice S512 x st (fun _ => 512 * z) sliceFits_S4096_S512 hs h]
  refine congrArg x (funext fun a => ?_)
  match a with
  | 0 =>
    refine Fin.ext ?_
    show 512 * z + q % 512 = (512 * z + q) % 4096
    omega

/-- What a device's host operations make of a row of its stripe. -/
theorem stripe_word (c : Dev nD) {q : ℕ} (hq : q < 512) : V3 m c main_v23 (rowIx q)
    = IntOp.subi (m ((c : Thread nD τ).loc main_arg0) (listIx (512 * pz c + q))) (IntOp.muli (BitVec.ofNat 32 (px c)) 8192#32) := by
  have e : V3 m c main_v23 = _ := cut_rows (V2 m c)
  rw [e, half_word, place_word, V2_of m c main_arg0 (by decide), V1_of m c main_arg0 (by decide)]
  exact congrArg (IntOp.subi · _) (stripe_pick (m ((c : Thread nD τ).loc main_arg0)) _ (pz_lt c) hq fun _ => start_num c _)

end Cert.KernelIdeal.Talk
end
end
-- ==== Proof.Lookup.lean ====
module

public import proofs.«01_k».proof.Defs
public import proofs.«01_k».proof.Proof.Gen.ReferenceIdeal.Run
public import proofs.«01_k».proof.Proof.Stripe
public import Idealize.ShloMosaic.Lib.ReduceAll
public import Idealize.ShloMosaic.Lib.StableHlo.Predicate
public import Idealize.ShloMosaic.Lib.Routing.Ops

/-! The value claim. Of a row number within the table exactly one half of the mesh holds the row; the other half adds
zero. So each row of the result is the row of the table that the list names. -/

@[expose] public section

noncomputable section

namespace Cert.Pre_in_table_KernelIdeal

open Idealize.ShloMosaic

/-- The side conditions of the precondition. -/
theorem stated : Facts where
  bcast_S_S4096 := by decide
  reducesTo_S4096_S_d0 := by decide
  h_S_ := by decide

/-- The precondition: every row number lies in the table. -/
theorem rows_in [Facts] (x : IVec S4096 32) (y : FVec Ideal S8192x2048 .f32) (h : fn (F := Ideal) x y = fun _ => 1#1) (i : S4096.Idx) :
    (x i).toNat < 16384 := by
  have hj := congrFun h (Shape.Idx.first Facts.h_S_)
  unfold fn at hj
  have hb : IntOp.andi (IntOp.cmpi .sge (x i) 0#32) (IntOp.cmpi .slt (x i) 16384#32) = 1#1 := Host.reduce_andi_all _ _ _ _ _ hj i
  have hboth : ∀ a b : BitVec 1, IntOp.andi a b = 1#1 → a = 1#1 ∧ b = 1#1 := by decide
  obtain ⟨h0, h1⟩ := hboth _ _ hb
  have h0' := of_decide_eq_true ((StableHlo.Predicate.ofBool_eq_one_iff _).mp h0)
  have h1' := of_decide_eq_true ((StableHlo.Predicate.ofBool_eq_one_iff _).mp h1)
  have e0 : (0#32 : BitVec 32).toInt = 0 := by decide
  have e1 : (16384#32 : BitVec 32).toInt = 16384 := by decide
  rw [e0] at h0'
  rw [e1] at h1'
  rw [BitVec.toInt_eq_toNat_cond] at h0' h1'
  have := (x i).isLt
  split at h0' <;> omega

end Cert.Pre_in_table_KernelIdeal

namespace Cert.KernelIdeal.Talk

open Idealize.ShloMosaic Idealize.ShloMosaic.TcCoe
open Idealize.SL Idealize.SL.Sem
open Cert.KernelIdeal.Gen

/-- The two halves a row number may fall into. -/
theorem sub_half {w : BitVec 32} (hw : w.toNat < 16384) {p : ℕ} (hp : p < 2) :
    (IntOp.subi w (IntOp.muli (BitVec.ofNat 32 p) 8192#32)).toInt = (w.toNat : ℤ) - 8192 * p := by
  have h : p = 0 ∨ p = 1 := by omega
  unfold IntOp.subi IntOp.muli
  rw [BitVec.toInt_eq_toNat_cond]
  rcases h with rfl | rfl
  · simp
    omega
  · simp [BitVec.toNat_sub]
    split <;> omega

/-- A row number is a half's own when it lies in its block. -/
theorem own_bit {w : BitVec 32} (hw : w.toNat < 16384) {p : ℕ} (hp : p < 2) :
    IntOp.andi (IntOp.cmpi .sge (IntOp.subi w (IntOp.muli (BitVec.ofNat 32 p) 8192#32)) 0#32)
      (IntOp.cmpi .slt (IntOp.subi w (IntOp.muli (BitVec.ofNat 32 p) 8192#32)) 8192#32) = if w.toNat / 8192 = p then 1#1 else 0#1 := by
  have h := sub_half hw hp
  generalize IntOp.subi w (IntOp.muli (BitVec.ofNat 32 p) 8192#32) = x at h ⊢
  unfold IntOp.andi IntOp.cmpi
  simp only [BitVec.sle, BitVec.slt, h]
  have e0 : (0#32 : BitVec 32).toInt = 0 := by decide
  have e1 : (8192#32 : BitVec 32).toInt = 8192 := by decide
  rw [e0, e1]
  split
  · rw [decide_eq_true (by omega), decide_eq_true (by omega)]; rfl
  · by_cases hlt : (0 : ℤ) ≤ (w.toNat : ℤ) - 8192 * p
    · rw [decide_eq_true hlt, decide_eq_false (by omega)]; rfl
    · rw [decide_eq_false hlt]
      rcases BitVec.eq_zero_or_eq_one (BitVec.ofBool (decide ((w.toNat : ℤ) - 8192 * p < 8192))) with h | h <;> rw [h] <;> rfl

/-- A half's own row number, cut to the block, is the row within it. -/
theorem own_row {w : BitVec 32} {p : ℕ} (h : w.toNat / 8192 = p) (hp : p < 2) :
    (IntOp.minsi 8191#32 (IntOp.maxsi 0#32 (IntOp.subi w (IntOp.muli (BitVec.ofNat 32 p) 8192#32)))).toNat = w.toNat % 8192 := by
  have hw : w.toNat < 16384 := by omega
  have hx := sub_half hw hp
  generalize IntOp.subi w (IntOp.muli (BitVec.ofNat 32 p) 8192#32) = x at hx ⊢
  have e0 : (0#32 : BitVec 32).toInt = 0 := by decide
  have e1 : (8191#32 : BitVec 32).toInt = 8191 := by decide
  have hm : IntOp.maxsi 0#32 x = x := by
    unfold IntOp.maxsi
    simp only [BitVec.slt, hx, e0]
    rw [if_neg (by simp; omega)]
  have hn : IntOp.minsi 8191#32 x = x := by
    unfold IntOp.minsi
    simp only [BitVec.slt, hx, e1]
    split
    · next h => exact absurd (of_decide_eq_true h) (by omega)
    · rfl
  rw [hm, hn]
  rw [BitVec.toInt_eq_toNat_cond] at hx
  split at hx <;> omega

/-- The factor of a row: one where the half holds it, else zero. -/
theorem own_factor (m : (ℓ : Loc nD τ sig) → Buf (Elt Ideal) ℓ) (c : Dev nD) {q : ℕ} (hq : q < 512)
    (hw : BitVec.toNat (m ((c : Thread nD τ).loc main_arg0) (listIx (512 * pz c + q))) < 16384) :
    (dataOf m).val c q = if BitVec.toNat (m ((c : Thread nD τ).loc main_arg0) (listIx (512 * pz c + q))) / 8192 = px c then (1 : EReal) else 0 := by
  have e : (dataOf m).val c q = _ := congrFun (host_weights m c) (colIx q)
  have hb (v : FVec Ideal S512 .f32) : broadcastInDim S512x1 ![0] bcast_S512_S512x1_0 v (colIx q) = v (rowIx q) := by
    refine congrArg v (funext fun a => ?_)
    match a with
    | 0 => rfl
  rw [e, hb]
  have hx := stripe_word m c hq
  have hbit := own_bit hw (px_lt c)
  rw [← hx] at hbit
  have hu : ∀ b : BitVec 1, (FloatOps.uitofp (F := Ideal) .f32 b : EReal) = if b = 1#1 then 1 else 0 := by
    intro b
    show ((b.toNat : ℝ) : EReal) = _
    rcases BitVec.eq_zero_or_eq_one b with rfl | rfl <;> simp
  refine (hu _).trans ?_
  refine (congrArg (fun b : BitVec 1 => if b = 1#1 then (1 : EReal) else 0) hbit).trans ?_
  by_cases h : BitVec.toNat (m ((c : Thread nD τ).loc main_arg0) (listIx (512 * pz c + q))) / 8192 = px c
  · rw [if_pos h, if_pos h, if_pos rfl]
  · rw [if_neg h, if_neg h, if_neg (by decide)]

/-- The table a device reads is its block as it was given. -/
theorem table_kept {F : FTy → Type} [FloatOps F] (m : (ℓ : Loc nD τ sig) → Buf (Elt F) ℓ) (c : Dev nD) (r k : ℕ) :
    (dataOf m).tab c r k = m ((c : Thread nD τ).loc main_arg1) (tabIx r k) := by
  have e : V5 m c main_arg1 = m ((c : Thread nD τ).loc main_arg1) := by
    rw [V5_of m c main_arg1 (by decide), V4_of m c main_arg1 (by decide), V3_of m c main_arg1 (by decide), V2_of m c main_arg1 (by decide),
      V1_of m c main_arg1 (by decide)]
  exact congrFun e (tabIx r k)

/-- The data's row number is read off the device's array. -/
theorem idx_read {F : FTy → Type} [FloatOps F] (V : Dev nD → Valuation τ sig (Elt F)) (c : Dev nD) (q : ℕ) :
    (dataBy V).idx c q = V c main_v29 (rowIx q) := rfl

/-- The row of its block that a device reads. -/
theorem own_index {F : FTy → Type} [FloatOps F] (m : (ℓ : Loc nD τ sig) → Buf (Elt F) ℓ) (c : Dev nD) (q : ℕ) :
    (dataOf m).idx c q = IntOp.minsi 8191#32 (IntOp.maxsi 0#32 (V3 m c main_v23 (rowIx q))) := by
  unfold dataOf
  rw [idx_read, host_rows]
  rfl

/-- A device's part of a row: the row where its half holds it, else zero. -/
theorem own_part (m : (ℓ : Loc nD τ sig) → Buf (Elt Ideal) ℓ) (c : Dev nD) {q : ℕ} (hq : q < 512) (k : ℕ) (w : BitVec 32)
    (e : m ((c : Thread nD τ).loc main_arg0) (listIx (512 * pz c + q)) = w) (hw : w.toNat < 16384) :
    xF (dataOf m) c q k = if w.toNat / 8192 = px c then (m ((c : Thread nD τ).loc main_arg1) (tabIx (w.toNat % 8192) k) : EReal) else (0 : EReal) := by
  subst e
  show (gF (dataOf m) c q k : EReal) * (dataOf m).val c q = _
  rw [own_factor m c hq hw]
  split
  · next h =>
    rw [mul_one]
    unfold gF
    rw [own_index, stripe_word m c hq, own_row h (px_lt c), table_kept]
  · rw [mul_zero]

/-- A device holds the block of rows of its half. -/
theorem half_lin : ∀ c : Dev nD, ((Layout.meshBlock [2, 2, 4] ![[0], []] c : (b : Fin 2) → Fin (Layout.cutSize [2, 2, 4] ((![[0], []] : Fin 2 → List ℕ) b))) 0).val = px c := by decide
/-- A device holds all columns. -/
theorem half_lin' : ∀ c : Dev nD, ((Layout.meshBlock [2, 2, 4] ![[0], []] c : (b : Fin 2) → Fin (Layout.cutSize [2, 2, 4] ((![[0], []] : Fin 2 → List ℕ) b))) 1).val = 0 := by decide

/-- An index of the whole table. -/
def wholeIx (r k : ℕ) : Shape.Idx ⟨2, ![16384, 2048]⟩
  | 0 => (⟨r % 16384, Nat.mod_lt _ (by decide)⟩ : Fin 16384)
  | 1 => (⟨k % 2048, Nat.mod_lt _ (by decide)⟩ : Fin 2048)

/-- A row of a device's block is a row of the table. -/
theorem block_row (E : Shape.Idx ⟨2, ![16384, 2048]⟩ → EReal) (c : Dev nD) {w : ℕ} (hw : w < 16384) (h : w / 8192 = px c) (k : ℕ) :
    (Layout.blockN ⟨2, ![8192, 2048]⟩ ⟨2, ![16384, 2048]⟩ (Layout.meshBlock [2, 2, 4] ![[0], []] c) E : S8192x2048.Idx → EReal)
      (tabIx (w % 8192) k) = E (wholeIx w k) := by
  rw [Layout.blockN_apply]
  refine congrArg E (funext fun a => Fin.ext ?_)
  have h0 := half_lin c
  have h1 := half_lin' c
  match a with
  | 0 =>
    refine (congrArg (fun n => n * 8192 + w % 8192 % 8192) h0).trans ?_
    show px c * 8192 + w % 8192 % 8192 = w % 16384
    omega
  | 1 =>
    refine (congrArg (fun n => n * 2048 + k % 2048) h1).trans ?_
    show 0 * 2048 + k % 2048 = k % 2048
    omega

/-- The half that comes first is one of the two. -/
theorem sideOf_lt (p q : ℕ) : sideOf p q < 2 := by
  unfold sideOf
  split <;> split <;> decide

/-- Each row of the result is the row of the table that the list names. -/
theorem whole_row (m : (ℓ : Loc nD τ sig) → Buf (Elt Ideal) ℓ) (ids : S4096.Idx → BitVec 32) (E : Shape.Idx ⟨2, ![16384, 2048]⟩ → EReal)
    (hi : ∀ c : Dev nD, m ((c : Thread nD τ).loc main_arg0) = ids)
    (hE : ∀ c : Dev nD, m ((c : Thread nD τ).loc main_arg1)
      = Layout.blockN ⟨2, ![8192, 2048]⟩ ⟨2, ![16384, 2048]⟩ (Layout.meshBlock [2, 2, 4] ![[0], []] c) E)
    (hin : ∀ i, (ids i).toNat < 16384) (p i k : ℕ) (hi4 : i < 4096) :
    oF (dataOf m) p i k = E (wholeIx (ids (listIx i)).toNat k) := by
  have hpart (s : ℕ) (hs : s < 2) : xF (dataOf m) (dv s (i / 512)) (i % 512) k
      = if (ids (listIx i)).toNat / 8192 = s then E (wholeIx (ids (listIx i)).toNat k) else (0 : EReal) := by
    have hp : px (dv s (i / 512)) = s := (px_dv _ _).trans (Nat.mod_eq_of_lt hs)
    have hz : pz (dv s (i / 512)) = i / 512 := (pz_dv _ _).trans (Nat.mod_eq_of_lt (by omega))
    have e : m ((dv s (i / 512) : Thread nD τ).loc main_arg0) (listIx (512 * pz (dv s (i / 512)) + i % 512)) = ids (listIx i) := by
      rw [hz, Nat.div_add_mod, hi]
    rw [own_part m (dv s (i / 512)) (Nat.mod_lt _ (by decide)) k _ e (hin _), hp]
    split
    · next h =>
      rw [hE]
      exact block_row E _ (hin _) (h.trans hp.symm) k
    · rfl
  show (xF (dataOf m) (dv (sideOf p (i % 512)) (i / 512)) (i % 512) k : EReal)
    + xF (dataOf m) (dv (1 - sideOf p (i % 512)) (i / 512)) (i % 512) k = _
  have hs := sideOf_lt p (i % 512)
  have hr := hin (listIx i)
  rw [hpart _ hs, hpart _ (by omega)]
  by_cases h : (ids (listIx i)).toNat / 8192 = sideOf p (i % 512)
  · rw [if_pos h, if_neg (by omega), add_zero]
  · rw [if_neg h, if_pos (by omega), zero_add]

end Cert.KernelIdeal.Talk

namespace Cert.ReferenceIdeal.Value

open Cert.ReferenceIdeal Cert.ReferenceIdeal.Gen Idealize.ShloMosaic Idealize.ShloMosaic.ValueIdx
open Cert.KernelIdeal.Talk (listIx wholeIx)

/-- The reference's lookup, at an index: the row of the table that the list names. -/
theorem look (x : S16384x2048.Idx → EReal) (ids : IVec S4096 32) (hin : ∀ i, (ids i).toNat < 16384) (r : Fin 4096) (k : Fin 2048) :
    Host.gather gather_S16384x2048_S4096x1_S4096x2048_1_0_n_n_0_1_12048 x (broadcastInDim S4096x1 ![0] bcast_S4096_S4096x1_0
      (select (cmpi .slt ids (broadcastInDim S4096 ![] bcast_S_S4096 (constantI S_ 32 0#32)))
        (addi ids (broadcastInDim S4096 ![] bcast_S_S4096 (constantI S_ 32 16384#32))) ids)) (ix2 r k)
      = x (wholeIx (ids (listIx r.val)).toNat k.val) := by
  have hw := hin (listIx r.val)
  refine (Routing.gather_row _ rfl rfl rfl rfl rfl x _ r k ⟨(ids (listIx r.val)).toNat, hw⟩ ?_ (by decide)).trans ?_
  · have hb (v : IVec S4096 32) : broadcastInDim S4096x1 ![0] bcast_S4096_S4096x1_0 v (ix2 r (0 : Fin 1)) = v (listIx r.val) := by
      refine congrArg v (funext fun a => ?_)
      match a with
      | 0 => exact Fin.ext (Nat.mod_eq_of_lt r.isLt).symm
    rw [hb]
    show Scalar.select (IntOp.cmpi .slt (ids (listIx r.val)) 0#32) _ (ids (listIx r.val)) = _
    have hc : IntOp.cmpi .slt (ids (listIx r.val)) 0#32 = 0#1 := by
      rcases BitVec.eq_zero_or_eq_one (IntOp.cmpi .slt (ids (listIx r.val)) 0#32) with h | h
      · exact h
      · exact absurd ((StableHlo.Predicate.slt_iff_toNat (by omega) (by decide)).mp h) (Nat.not_lt_zero _)
    rw [hc]
    show ids (listIx r.val) = _
    exact BitVec.eq_of_toNat_eq (by rw [BitVec.toNat_ofNat, Nat.mod_eq_of_lt (by omega)])
  · refine congrArg x (funext fun a => ?_)
    match a with
    | 0 => exact Fin.ext (Nat.mod_eq_of_lt hw).symm
    | 1 => exact Fin.ext (Nat.mod_eq_of_lt k.isLt).symm

end Cert.ReferenceIdeal.Value
end
end
-- ==== Proof.Value.lean ====
module

public import proofs.«01_k».proof.Proof.Lookup
public import proofs.«01_k».proof.Proof.Frames

/-! The idealization computes the reference's value, of row numbers within the table. -/

@[expose] public section

noncomputable section

namespace Cert

open Idealize.ShloMosaic Idealize.ShloMosaic.TcCoe Idealize.ShloMosaic.ValueIdx Idealize.SL.Sem
open Cert.KernelIdeal.Talk (grid oF dataOf px run_any whole_row listIx wholeIx)

/-- The value claim. -/
theorem value : algebraic_KernelIdeal_ReferenceIdeal_pre_in_table_KernelIdeal (hKernelIdeal := KernelIdeal.Gen.facts)
    (hReferenceIdeal := ReferenceIdeal.Gen.facts) (hPre_in_table_KernelIdeal := Pre_in_table_KernelIdeal.stated) := by
  intro m g m' g' hpre hag
  haveI := ideal_inhabited
  have hin : ∀ i, BitVec.toNat (m' (((0 : Dev ReferenceIdeal.nD).tc : Thread ReferenceIdeal.nD ReferenceIdeal.τ).loc ReferenceIdeal.main_arg0) i) < 16384 := by
    intro i
    have h := @Pre_in_table_KernelIdeal.rows_in Pre_in_table_KernelIdeal.stated _ _ (hpre 0) i
    rw [(hag 0).1] at h
    exact h
  refine ⟨_, ?_, (θ_run (ReferenceIdeal.defs (F := Ideal)) _ _).mono (fun _ h => h 0) (ReferenceIdeal.Value.run (F := Ideal) m' g')⟩
  refine (θ_run (KernelIdeal.defs (F := Ideal)) _ _).mono (fun r h c => ⟨(h.1 c).2.trans ?_, (h.1 c).1⟩) (run_any (F := Ideal) m g)
  funext i
  refine (whole_row m _ _ (fun c => (hag c).1) (fun c => (hag c).2) hin (px c) (i 0).val (i 1).val (i 0).isLt).trans ?_
  rw [eq_ix2 i]
  exact (ReferenceIdeal.Value.look _ _ hin (i 0) (i 1)).symm

/-- The side conditions of the precondition, stated of the reference's arguments. -/
theorem stated_reference : Pre_in_table_ReferenceIdeal.Facts where
  bcast_S_S4096 := by decide
  reducesTo_S4096_S_d0 := by decide
  h_S_ := by decide

/-- The idealization's frame under the precondition, which it does not need. -/
theorem frame_ideal_in : quiescent_KernelIdeal_pre_in_table_KernelIdeal (hKernelIdeal := KernelIdeal.Gen.facts)
    (hPre_in_table_KernelIdeal := Pre_in_table_KernelIdeal.stated) := fun m g _ => frame_ideal m g trivial

/-- The reference's frame under the precondition, which it does not need. -/
theorem frame_reference_in : quiescent_ReferenceIdeal_pre_in_table_ReferenceIdeal (hReferenceIdeal := ReferenceIdeal.Gen.facts)
    (hPre_in_table_ReferenceIdeal := stated_reference) := fun m g _ => frame_reference m g trivial

end Cert
end
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

/-- Everything the certificate claims. -/
theorem claim : Cert.Claim :=
  ⟨Kernel.Gen.facts, KernelIdeal.Gen.facts, ReferenceIdeal.Gen.facts, Pre_in_table_KernelIdeal.stated, stated_reference,
    frame_bits, frame_ideal, frame_ideal_in, frame_reference, frame_reference_in, trivial, value⟩

end Cert.Proof
end
end
